-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v168)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v168) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_v35) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x16384x2048 : Shape := ⟨3, ![2, 16384, 2048]⟩
abbrev S2x16384x4x64 : Shape := ⟨4, ![2, 16384, 4, 64]⟩
abbrev S16x4x64 : Shape := ⟨3, ![16, 4, 64]⟩
abbrev S32x32 : Shape := ⟨2, ![32, 32]⟩
abbrev S32 : Shape := ⟨1, ![32]⟩
abbrev S_ : Shape := ⟨0, ![]⟩

class Facts : Prop where
  bcast_S_S2x16384x2048 : S_.BroadcastsInDim S2x16384x2048 (![] : Fin 0 → Fin S2x16384x2048.rank)
  reducesTo_S2x16384x2048_S_d0_1_2 : S2x16384x2048.ReducesTo [0, 1, 2] S_
  h_S_ : 0 < S_.numel
  bcast_S_S2x16384x4x64 : S_.BroadcastsInDim S2x16384x4x64 (![] : Fin 0 → Fin S2x16384x4x64.rank)
  reducesTo_S2x16384x4x64_S_d0_1_2_3 : S2x16384x4x64.ReducesTo [0, 1, 2, 3] S_
  bcast_S_S16x4x64 : S_.BroadcastsInDim S16x4x64 (![] : Fin 0 → Fin S16x4x64.rank)
  reducesTo_S16x4x64_S_d0_1_2 : S16x4x64.ReducesTo [0, 1, 2] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S2x16384x2048 .f32) (main_arg1 : FVec F S2x16384x4x64 .f32) (main_arg2 : FVec F S2x16384x4x64 .f32) (main_arg3 : FVec F S16x4x64 .f32) (main_arg4 : FVec F S16x4x64 .f32) (main_arg5 : FVec F S32x32 .f32) (main_arg6 : FVec F S32 .f32) : IVec S_ 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_c : IVec S_ 1 := constantI S_ 1 1#1
  let main_v3 : IVec S_ 1 := (fun x v => Host.reduce IntOp.andi x v reducesTo_S2x16384x2048_S_d0_1_2 h_S_) main_v2 main_c
  let main_v4 : FVec F S2x16384x4x64 .f32 := Host.absf main_arg1
  let main_cst_0 : FVec F S_ .f32 := constant S_ .f32 0x7F800000#32
  let main_v5 : FVec F S2x16384x4x64 .f32 := broadcastInDim S2x16384x4x64 ![] bcast_S_S2x16384x4x64 main_cst_0
  let main_v6 : IVec S2x16384x4x64 1 := cmpf .olt main_v4 main_v5
  let main_c_1 : IVec S_ 1 := constantI S_ 1 1#1
  let main_v7 : IVec S_ 1 := (fun x v => Host.reduce IntOp.andi x v reducesTo_S2x16384x4x64_S_d0_1_2_3 h_S_) main_v6 main_c_1
  let main_v8 : IVec S_ 1 := andi main_v3 main_v7
  let main_v9 : FVec F S16x4x64 .f32 := Host.absf main_arg3
  let main_cst_2 : FVec F S_ .f32 := constant S_ .f32 0x7F800000#32
  let main_v10 : FVec F S16x4x64 .f32 := broadcastInDim S16x4x64 ![] bcast_S_S16x4x64 main_cst_2
  let main_v11 : IVec S16x4x64 1 := cmpf .olt main_v9 main_v10
  let main_c_3 : IVec S_ 1 := constantI S_ 1 1#1
  let main_v12 : IVec S_ 1 := (fun x v => Host.reduce IntOp.andi x v reducesTo_S16x4x64_S_d0_1_2 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_v13 main_v16
-- ==== Kernel.lean ====
abbrev S2x16384x2048 : Shape := ⟨3, ![2, 16384, 2048]⟩
abbrev S2x16384x4x64 : Shape := ⟨4, ![2, 16384, 4, 64]⟩
abbrev S16x4x64 : Shape := ⟨3, ![16, 4, 64]⟩
abbrev S32x32 : Shape := ⟨2, ![32, 32]⟩
abbrev S32 : Shape := ⟨1, ![32]⟩
abbrev S128 : Shape := ⟨1, ![128]⟩
abbrev S128x1 : Shape := ⟨2, ![128, 1]⟩
abbrev S256 : Shape := ⟨1, ![256]⟩
abbrev S1x256 : Shape := ⟨2, ![1, 256]⟩
abbrev S16 : Shape := ⟨1, ![16]⟩
abbrev S1x16 : Shape := ⟨2, ![1, 16]⟩
abbrev S_ : Shape := ⟨0, ![]⟩
abbrev S128x256 : Shape := ⟨2, ![128, 256]⟩
abbrev S128x256x1 : Shape := ⟨3, ![128, 256, 1]⟩
abbrev S1x1x32 : Shape := ⟨3, ![1, 1, 32]⟩
abbrev S128x256x32 : Shape := ⟨3, ![128, 256, 32]⟩
abbrev S32x128x256 : Shape := ⟨3, ![32, 128, 256]⟩
abbrev S32x1x1 : Shape := ⟨3, ![32, 1, 1]⟩
abbrev S32x64x1 : Shape := ⟨3, ![32, 64, 1]⟩
abbrev S32x64x47 : Shape := ⟨3, ![32, 64, 47]⟩
abbrev S1x128x256 : Shape := ⟨3, ![1, 128, 256]⟩
abbrev S128x16 : Shape := ⟨2, ![128, 16]⟩
abbrev S128x16x1 : Shape := ⟨3, ![128, 16, 1]⟩
abbrev S128x16x32 : Shape := ⟨3, ![128, 16, 32]⟩
abbrev S32x128x16 : Shape := ⟨3, ![32, 128, 16]⟩
abbrev S32x64x192 : Shape := ⟨3, ![32, 64, 192]⟩
abbrev S32x64x16 : Shape := ⟨3, ![32, 64, 16]⟩
abbrev S32x64x256 : Shape := ⟨3, ![32, 64, 256]⟩
abbrev S32x1x64x256 : Shape := ⟨4, ![32, 1, 64, 256]⟩
abbrev S32x2x64x256 : Shape := ⟨4, ![32, 2, 64, 256]⟩
abbrev S4x8x2x64x256 : Shape := ⟨5, ![4, 8, 2, 64, 256]⟩
abbrev S4x2x8x64x256 : Shape := ⟨5, ![4, 2, 8, 64, 256]⟩
abbrev S4x2x512x256 : Shape := ⟨4, ![4, 2, 512, 256]⟩
abbrev S1x4x2x512x256 : Shape := ⟨5, ![1, 4, 2, 512, 256]⟩
abbrev S2x4x2x512x256 : Shape := ⟨5, ![2, 4, 2, 512, 256]⟩
abbrev S32768x2048 : Shape := ⟨2, ![32768, 2048]⟩
abbrev S32768x4x64 : Shape := ⟨3, ![32768, 4, 64]⟩
abbrev S4x32768x64 : Shape := ⟨3, ![4, 32768, 64]⟩
abbrev S4x32768x256 : Shape := ⟨3, ![4, 32768, 256]⟩
abbrev S4x16x64 : Shape := ⟨3, ![4, 16, 64]⟩
abbrev S4x16x256 : Shape := ⟨3, ![4, 16, 256]⟩
abbrev S128x2048 : Shape := ⟨2, ![128, 2048]⟩
abbrev S4x128x64 : Shape := ⟨3, ![4, 128, 64]⟩
abbrev S4x128x256 : Shape := ⟨3, ![4, 128, 256]⟩
abbrev S48x64 : Shape := ⟨2, ![48, 64]⟩
abbrev S48x256 : Shape := ⟨2, ![48, 256]⟩
abbrev S1x128x64 : Shape := ⟨3, ![1, 128, 64]⟩
abbrev S128x64 : Shape := ⟨2, ![128, 64]⟩
abbrev S1x64x64 : Shape := ⟨3, ![1, 64, 64]⟩
abbrev S64x64 : Shape := ⟨2, ![64, 64]⟩
abbrev S192x64 : Shape := ⟨2, ![192, 64]⟩
abbrev S1x16x64 : Shape := ⟨3, ![1, 16, 64]⟩
abbrev S16x64 : Shape := ⟨2, ![16, 64]⟩
abbrev S256x64 : Shape := ⟨2, ![256, 64]⟩
abbrev S1x64x256 : Shape := ⟨3, ![1, 64, 256]⟩
abbrev S64x256 : Shape := ⟨2, ![64, 256]⟩
abbrev S192x256 : Shape := ⟨2, ![192, 256]⟩
abbrev S1x16x256 : Shape := ⟨3, ![1, 16, 256]⟩
abbrev S16x256 : Shape := ⟨2, ![16, 256]⟩
abbrev S256x256 : Shape := ⟨2, ![256, 256]⟩
abbrev S64x512 : Shape := ⟨2, ![64, 512]⟩
abbrev S512x64 : Shape := ⟨2, ![512, 64]⟩
abbrev S512x256 : Shape := ⟨2, ![512, 256]⟩
abbrev S1x1x1x512x256 : Shape := ⟨5, ![1, 1, 1, 512, 256]⟩
abbrev S512 : Shape := ⟨1, ![512]⟩
abbrev S512x1 : Shape := ⟨2, ![512, 1]⟩
abbrev S512x128 : Shape := ⟨2, ![512, 128]⟩
abbrev S128x512 : Shape := ⟨2, ![128, 512]⟩

abbrev nBuf : Space → Nat
  | .hbm => 218
  | .vmem => 16
  | .smem => 0
  | _ => 0

abbrev hbmTy0_0 (i : Nat) : BufTy := match i % 128 with
  | 0 => ⟨S2x16384x2048, .f32⟩
  | 1 => ⟨S2x16384x4x64, .f32⟩
  | 2 => ⟨S2x16384x4x64, .f32⟩
  | 3 => ⟨S16x4x64, .f32⟩
  | 4 => ⟨S16x4x64, .f32⟩
  | 5 => ⟨S32x32, .f32⟩
  | 6 => ⟨S32, .f32⟩
  | 7 => ⟨S128, .i32⟩
  | 8 => ⟨S128x1, .i32⟩
  | 9 => ⟨S256, .i32⟩
  | 10 => ⟨S1x256, .i32⟩
  | 11 => ⟨S16, .i32⟩
  | 12 => ⟨S1x16, .i32⟩
  | 13 => ⟨S_, .i32⟩
  | 14 => ⟨S128x1, .i32⟩
  | 15 => ⟨S128x1, .i32⟩
  | 16 => ⟨S128x256, .i32⟩
  | 17 => ⟨S128x256, .i32⟩
  | 18 => ⟨S128x256, .i32⟩
  | 19 => ⟨S_, .i32⟩
  | 20 => ⟨S128x256, .i32⟩
  | 21 => ⟨S128x256, .i1⟩
  | 22 => ⟨S_, .i32⟩
  | 23 => ⟨S128x256, .i32⟩
  | 24 => ⟨S128x256, .i1⟩
  | 25 => ⟨S128x256, .i1⟩
  | 26 => ⟨S_, .i32⟩
  | 27 => ⟨S128x256, .i32⟩
  | 28 => ⟨S128x256, .i32⟩
  | 29 => ⟨S_, .i32⟩
  | 30 => ⟨S128x256, .i32⟩
  | 31 => ⟨S128x256, .i32⟩
  | 32 => ⟨S128x256, .f32⟩
  | 33 => ⟨S_, .f32⟩
  | 34 => ⟨S128x256, .f32⟩
  | 35 => ⟨S128x256, .f32⟩
  | 36 => ⟨S128x256, .f32⟩
  | 37 => ⟨S_, .f32⟩
  | 38 => ⟨S128x256, .f32⟩
  | 39 => ⟨S128x256, .f32⟩
  | 40 => ⟨S_, .f32⟩
  | 41 => ⟨S128x256, .f32⟩
  | 42 => ⟨S128x256, .f32⟩
  | 43 => ⟨S128x256, .i32⟩
  | 44 => ⟨S_, .i32⟩
  | 45 => ⟨S128x256, .i32⟩
  | 46 => ⟨S128x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i32⟩
  | 53 => ⟨S128x256, .i32⟩
  | 54 => ⟨S128x256x1, .i32⟩
  | 55 => ⟨S32, .i32⟩
  | 56 => ⟨S1x1x32, .i32⟩
  | 57 => ⟨S128x256x32, .i32⟩
  | 58 => ⟨S128x256x32, .i32⟩
  | 59 => ⟨S128x256x32, .i1⟩
  | 60 => ⟨S128x256x32, .f32⟩
  | 61 => ⟨S32x128x256, .f32⟩
  | 62 => ⟨S32x1x1, .f32⟩
  | 63 => ⟨S32x64x1, .f32⟩
  | 64 => ⟨S_, .f32⟩
  | 65 => ⟨S32x64x47, .f32⟩
  | 66 => ⟨S_, .i32⟩
  | 67 => ⟨S1x256, .i32⟩
  | 68 => ⟨S1x256, .i32⟩
  | 69 => ⟨S_, .i32⟩
  | 70 => ⟨S1x256, .i32⟩
  | 71 => ⟨S1x256, .i1⟩
  | 72 => ⟨S128x256, .i1⟩
  | 73 => ⟨S128x256, .i1⟩
  | 74 => ⟨S1x128x256, .i1⟩
  | 75 => ⟨S_, .f32⟩
  | 76 => ⟨S_, .f32⟩
  | 77 => ⟨S32x128x256, .i1⟩
  | 78 => ⟨S32x128x256, .f32⟩
  | 79 => ⟨S32x128x256, .f32⟩
  | 80 => ⟨S_, .i32⟩
  | 81 => ⟨S128x1, .i32⟩
  | 82 => ⟨S128x1, .i32⟩
  | 83 => ⟨S128x16, .i32⟩
  | 84 => ⟨S128x16, .i32⟩
  | 85 => ⟨S128x16, .i32⟩
  | 86 => ⟨S_, .i32⟩
  | 87 => ⟨S128x16, .i32⟩
  | 88 => ⟨S128x16, .i32⟩
  | 89 => ⟨S128x16, .f32⟩
  | 90 => ⟨S_, .f32⟩
  | 91 => ⟨S128x16, .f32⟩
  | 92 => ⟨S128x16, .f32⟩
  | 93 => ⟨S128x16, .f32⟩
  | 94 => ⟨S_, .f32⟩
  | 95 => ⟨S128x16, .f32⟩
  | 96 => ⟨S128x16, .f32⟩
  | 97 => ⟨S_, .f32⟩
  | 98 => ⟨S128x16, .f32⟩
  | 99 => ⟨S128x16, .f32⟩
  | 100 => ⟨S128x16, .i32⟩
  | 101 => ⟨S_, .i32⟩
  | 102 => ⟨S128x16, .i32⟩
  | 103 => ⟨S128x16, .i32⟩
  | 104 => ⟨S_, .i32⟩
  | 105 => ⟨S128x16, .i32⟩
  | 106 => ⟨S128x16, .i1⟩
  | 107 => ⟨S_, .i32⟩
  | 108 => ⟨S128x16, .i32⟩
  | 109 => ⟨S128x16, .i32⟩
  | 110 => ⟨S128x16, .i32⟩
  | 111 => ⟨S128x16x1, .i32⟩
  | 112 => ⟨S32, .i32⟩
  | 113 => ⟨S1x1x32, .i32⟩
  | 114 => ⟨S128x16x32, .i32⟩
  | 115 => ⟨S128x16x32, .i32⟩
  | 116 => ⟨S128x16x32, .i1⟩
  | 117 => ⟨S128x16x32, .f32⟩
  | 118 => ⟨S32x128x16, .f32⟩
  | 119 => ⟨S32x64x192, .f32⟩
  | 120 => ⟨S32x64x16, .f32⟩
  | 121 => ⟨S32x64x256, .f32⟩
  | 122 => ⟨S32x64x192, .f32⟩
  | 123 => ⟨S32x64x16, .f32⟩
  | 124 => ⟨S32x64x256, .f32⟩
  | 125 => ⟨S32x1x64x256, .f32⟩
  | 126 => ⟨S32x1x64x256, .f32⟩
  | 127 => ⟨S32x2x64x256, .f32⟩
  | _ => ⟨S2x16384x2048, .f32⟩

abbrev hbmTy0_1 (i : Nat) : BufTy := match i % 128 with
  | 0 => ⟨S4x8x2x64x256, .f32⟩
  | 1 => ⟨S4x2x8x64x256, .f32⟩
  | 2 => ⟨S4x2x512x256, .f32⟩
  | 3 => ⟨S_, .i32⟩
  | 4 => ⟨S1x256, .i32⟩
  | 5 => ⟨S1x256, .i32⟩
  | 6 => ⟨S_, .i32⟩
  | 7 => ⟨S1x256, .i32⟩
  | 8 => ⟨S1x256, .i1⟩
  | 9 => ⟨S128x256, .i1⟩
  | 10 => ⟨S128x256, .i1⟩
  | 11 => ⟨S1x128x256, .i1⟩
  | 12 => ⟨S_, .f32⟩
  | 13 => ⟨S_, .f32⟩
  | 14 => ⟨S32x128x256, .i1⟩
  | 15 => ⟨S32x128x256, .f32⟩
  | 16 => ⟨S32x128x256, .f32⟩
  | 17 => ⟨S_, .i32⟩
  | 18 => ⟨S128x1, .i32⟩
  | 19 => ⟨S128x1, .i32⟩
  | 20 => ⟨S128x16, .i32⟩
  | 21 => ⟨S128x16, .i32⟩
  | 22 => ⟨S128x16, .i32⟩
  | 23 => ⟨S_, .i32⟩
  | 24 => ⟨S128x16, .i32⟩
  | 25 => ⟨S128x16, .i32⟩
  | 26 => ⟨S128x16, .f32⟩
  | 27 => ⟨S_, .f32⟩
  | 28 => ⟨S128x16, .f32⟩
  | 29 => ⟨S128x16, .f32⟩
  | 30 => ⟨S128x16, .f32⟩
  | 31 => ⟨S_, .f32⟩
  | 32 => ⟨S128x16, .f32⟩
  | 33 => ⟨S128x16, .f32⟩
  | 34 => ⟨S_, .f32⟩
  | 35 => ⟨S128x16, .f32⟩
  | 36 => ⟨S128x16, .f32⟩
  | 37 => ⟨S128x16, .i32⟩
  | 38 => ⟨S_, .i32⟩
  | 39 => ⟨S128x16, .i32⟩
  | 40 => ⟨S128x16, .i32⟩
  | 41 => ⟨S_, .i32⟩
  | 42 => ⟨S128x16, .i32⟩
  | 43 => ⟨S128x16, .i1⟩
  | 44 => ⟨S_, .i32⟩
  | 45 => ⟨S128x16, .i32⟩
  | 46 => ⟨S128x16, .i32⟩
  | 47 => ⟨S128x16, .i32⟩
  | 48 => ⟨S128x16x1, .i32⟩
  | 49 => ⟨S32, .i32⟩
  | 50 => ⟨S1x1x32, .i32⟩
  | 51 => ⟨S128x16x32, .i32⟩
  | 52 => ⟨S128x16x32, .i32⟩
  | 53 => ⟨S128x16x32, .i1⟩
  | 54 => ⟨S128x16x32, .f32⟩
  | 55 => ⟨S32x128x16, .f32⟩
  | 56 => ⟨S32x64x192, .f32⟩
  | 57 => ⟨S32x64x16, .f32⟩
  | 58 => ⟨S32x64x256, .f32⟩
  | 59 => ⟨S32x64x192, .f32⟩
  | 60 => ⟨S32x64x16, .f32⟩
  | 61 => ⟨S32x64x256, .f32⟩
  | 62 => ⟨S32x1x64x256, .f32⟩
  | 63 => ⟨S32x1x64x256, .f32⟩
  | 64 => ⟨S32x2x64x256, .f32⟩
  | 65 => ⟨S4x8x2x64x256, .f32⟩
  | 66 => ⟨S4x2x8x64x256, .f32⟩
  | 67 => ⟨S4x2x512x256, .f32⟩
  | 68 => ⟨S1x4x2x512x256, .f32⟩
  | 69 => ⟨S1x4x2x512x256, .f32⟩
  | 70 => ⟨S2x4x2x512x256, .f32⟩
  | 71 => ⟨S32768x2048, .f32⟩
  | 72 => ⟨S32768x2048, .bf16⟩
  | 73 => ⟨S32768x4x64, .f32⟩
  | 74 => ⟨S32768x4x64, .bf16⟩
  | 75 => ⟨S4x32768x64, .bf16⟩
  | 76 => ⟨S32768x4x64, .f32⟩
  | 77 => ⟨S32768x4x64, .bf16⟩
  | 78 => ⟨S4x32768x64, .bf16⟩
  | 79 => ⟨S_, .bf16⟩
  | 80 => ⟨S4x32768x64, .bf16⟩
  | 81 => ⟨S4x32768x256, .bf16⟩
  | 82 => ⟨S16x4x64, .bf16⟩
  | 83 => ⟨S4x16x64, .bf16⟩
  | 84 => ⟨S16x4x64, .bf16⟩
  | 85 => ⟨S4x16x64, .bf16⟩
  | 86 => ⟨S_, .bf16⟩
  | 87 => ⟨S4x16x64, .bf16⟩
  | 88 => ⟨S4x16x256, .bf16⟩
  | 89 => ⟨S32768x2048, .bf16⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | .local _ .vmem, ⟨0, _⟩ => ⟨S128x2048, .bf16⟩
  | .local _ .vmem, ⟨1, _⟩ => ⟨S128x2048, .bf16⟩
  | .local _ .vmem, ⟨2, _⟩ => ⟨S4x128x64, .bf16⟩
  | .local _ .vmem, ⟨3, _⟩ => ⟨S4x128x64, .bf16⟩
  | .local _ .vmem, ⟨4, _⟩ => ⟨S4x128x64, .bf16⟩
  | .local _ .vmem, ⟨5, _⟩ => ⟨S4x128x64, .bf16⟩
  | .local _ .vmem, ⟨6, _⟩ => ⟨S4x128x256, .bf16⟩
  | .local _ .vmem, ⟨7, _⟩ => ⟨S4x128x256, .bf16⟩
  | .local _ .vmem, ⟨8, _⟩ => ⟨S4x128x256, .bf16⟩
  | .local _ .vmem, ⟨9, _⟩ => ⟨S4x128x256, .bf16⟩
  | .local _ .vmem, ⟨10, _⟩ => ⟨S4x16x64, .bf16⟩
  | .local _ .vmem, ⟨11, _⟩ => ⟨S4x16x256, .bf16⟩
  | .local _ .vmem, ⟨12, _⟩ => ⟨S1x4x2x512x256, .f32⟩
  | .local _ .vmem, ⟨13, _⟩ => ⟨S1x4x2x512x256, .f32⟩
  | .local _ .vmem, ⟨14, _⟩ => ⟨S128x2048, .bf16⟩
  | .local _ .vmem, ⟨15, _⟩ => ⟨S128x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_18 : Ref sig .tc := ⟨.hbm, 101, rfl⟩
abbrev main_v71 : Ref sig .tc := ⟨.hbm, 102, rfl⟩
abbrev main_v72 : Ref sig .tc := ⟨.hbm, 103, rfl⟩
abbrev main_c_19 : Ref sig .tc := ⟨.hbm, 104, rfl⟩
abbrev main_v73 : Ref sig .tc := ⟨.hbm, 105, rfl⟩
abbrev main_v74 : Ref sig .tc := ⟨.hbm, 106, rfl⟩
abbrev main_c_20 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_21 : Ref sig .tc := ⟨.hbm, 131, rfl⟩
abbrev main_v98 : Ref sig .tc := ⟨.hbm, 132, rfl⟩
abbrev main_v99 : Ref sig .tc := ⟨.hbm, 133, rfl⟩
abbrev main_c_22 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_23 : Ref sig .tc := ⟨.hbm, 140, rfl⟩
abbrev main_call3_v0 : Ref sig .tc := ⟨.hbm, 141, rfl⟩
abbrev main_call3_v1 : Ref sig .tc := ⟨.hbm, 142, rfl⟩
abbrev main_call3_v2 : Ref sig .tc := ⟨.hbm, 143, rfl⟩
abbrev main_v105 : Ref sig .tc := ⟨.hbm, 144, rfl⟩
abbrev main_c_24 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_c_25 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_26 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_27 : Ref sig .tc := ⟨.hbm, 159, rfl⟩
abbrev main_v117 : Ref sig .tc := ⟨.hbm, 160, rfl⟩
abbrev main_v118 : Ref sig .tc := ⟨.hbm, 161, rfl⟩
abbrev main_cst_28 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_c_29 : Ref sig .tc := ⟨.hbm, 166, rfl⟩
abbrev main_v122 : Ref sig .tc := ⟨.hbm, 167, rfl⟩
abbrev main_v123 : Ref sig .tc := ⟨.hbm, 168, rfl⟩
abbrev main_c_30 : Ref sig .tc := ⟨.hbm, 169, rfl⟩
abbrev main_v124 : Ref sig .tc := ⟨.hbm, 170, rfl⟩
abbrev main_v125 : Ref sig .tc := ⟨.hbm, 171, rfl⟩
abbrev main_c_31 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_cst_32 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_cst_33 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![1, 2, 128], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let v1 : BitVec 32 := Scalar.addi v0 arg2
  let c0_i32 : BitVec 32 := 0#32
  ![v1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![arg0.toNat, v3.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  let c0_i32_0 : BitVec 32 := 0#32
  let c0_i32_1 : BitVec 32 := 0#32
  let c0_i32_2 : BitVec 32 := 0#32
  ![v0.toNat, arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.muli arg1 c128_i32
  let v1 : BitVec 32 := Scalar.addi v0 arg2
  let c0_i32 : BitVec 32 := 0#32
  ![v1.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S4x16x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 1 → Memref sig .tc .vmem S4x16x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false, false]

abbrev stage0_7 : Fin 2 → Memref sig .tc .vmem S1x4x2x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S2x16384x2048 : Shape := ⟨3, ![2, 16384, 2048]⟩
abbrev S2x16384x4x64 : Shape := ⟨4, ![2, 16384, 4, 64]⟩
abbrev S16x4x64 : Shape := ⟨3, ![16, 4, 64]⟩
abbrev S32x32 : Shape := ⟨2, ![32, 32]⟩
abbrev S32 : Shape := ⟨1, ![32]⟩
abbrev S4x8 : Shape := ⟨2, ![4, 8]⟩
abbrev S_ : Shape := ⟨0, ![]⟩
abbrev S2x16512x4x64 : Shape := ⟨4, ![2, 16512, 4, 64]⟩
abbrev S2x129x128x4x64 : Shape := ⟨5, ![2, 129, 128, 4, 64]⟩
abbrev S2x128x128x4x64 : Shape := ⟨5, ![2, 128, 128, 4, 64]⟩
abbrev S2x128x256x4x64 : Shape := ⟨5, ![2, 128, 256, 4, 64]⟩
abbrev S2x128x128x4x8x64 : Shape := ⟨6, ![2, 128, 128, 4, 8, 64]⟩
abbrev S128 : Shape := ⟨1, ![128]⟩
abbrev S128x1x1 : Shape := ⟨3, ![128, 1, 1]⟩
abbrev S128x1 : Shape := ⟨2, ![128, 1]⟩
abbrev S256 : Shape := ⟨1, ![256]⟩
abbrev S1x256 : Shape := ⟨2, ![1, 256]⟩
abbrev S16 : Shape := ⟨1, ![16]⟩
abbrev S1x16 : Shape := ⟨2, ![1, 16]⟩
abbrev S128x256 : Shape := ⟨2, ![128, 256]⟩
abbrev S128x256x1 : Shape := ⟨3, ![128, 256, 1]⟩
abbrev S128x256x32 : Shape := ⟨3, ![128, 256, 32]⟩
abbrev S32x128x256 : Shape := ⟨3, ![32, 128, 256]⟩
abbrev S4x8x128x256 : Shape := ⟨4, ![4, 8, 128, 256]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S1x128x1 : Shape := ⟨3, ![1, 128, 1]⟩
abbrev S128x128x1 : Shape := ⟨3, ![128, 128, 1]⟩
abbrev S1x1x16 : Shape := ⟨3, ![1, 1, 16]⟩
abbrev S128x128x16 : Shape := ⟨3, ![128, 128, 16]⟩
abbrev S4x16x2x128x128x8 : Shape := ⟨6, ![4, 16, 2, 128, 128, 8]⟩
abbrev S2x128x4x8x128x16 : Shape := ⟨6, ![2, 128, 4, 8, 128, 16]⟩
abbrev S128x128x16x1 : Shape := ⟨4, ![128, 128, 16, 1]⟩
abbrev S128x128x16x32 : Shape := ⟨4, ![128, 128, 16, 32]⟩
abbrev S128x32x128x16 : Shape := ⟨4, ![128, 32, 128, 16]⟩
abbrev S128x4x8x128x16 : Shape := ⟨5, ![128, 4, 8, 128, 16]⟩
abbrev S1x128x4x8x128x16 : Shape := ⟨6, ![1, 128, 4, 8, 128, 16]⟩
abbrev S2x128x4x256x128x8 : Shape := ⟨6, ![2, 128, 4, 256, 128, 8]⟩
abbrev S2x128x4x8x128x256 : Shape := ⟨6, ![2, 128, 4, 8, 128, 256]⟩
abbrev S1x1x4x8x128x256 : Shape := ⟨6, ![1, 1, 4, 8, 128, 256]⟩
abbrev S1x128x1x1x128x256 : Shape := ⟨6, ![1, 128, 1, 1, 128, 256]⟩
abbrev S2x128x4x8x128x272 : Shape := ⟨6, ![2, 128, 4, 8, 128, 272]⟩
abbrev S4x8x1x1 : Shape := ⟨4, ![4, 8, 1, 1]⟩
abbrev S2x128x4x8x128x1 : Shape := ⟨6, ![2, 128, 4, 8, 128, 1]⟩
abbrev S2x128x4x8x128x273 : Shape := ⟨6, ![2, 128, 4, 8, 128, 273]⟩
abbrev S2x128x4x8x128 : Shape := ⟨5, ![2, 128, 4, 8, 128]⟩
abbrev S4x64x2x128x8x128 : Shape := ⟨6, ![4, 64, 2, 128, 8, 128]⟩
abbrev S2x128x4x64x8x128 : Shape := ⟨6, ![2, 128, 4, 64, 8, 128]⟩
abbrev S32768x2048 : Shape := ⟨2, ![32768, 2048]⟩

abbrev nBuf : Space → Nat
  | .hbm => 191
  | .vmem => 0
  | .smem => 0
  | _ => 0

abbrev hbmTy0_0 (i : Nat) : BufTy := match i % 128 with
  | 0 => ⟨S2x16384x2048, .f32⟩
  | 1 => ⟨S2x16384x4x64, .f32⟩
  | 2 => ⟨S2x16384x4x64, .f32⟩
  | 3 => ⟨S16x4x64, .f32⟩
  | 4 => ⟨S16x4x64, .f32⟩
  | 5 => ⟨S32x32, .f32⟩
  | 6 => ⟨S32, .f32⟩
  | 7 => ⟨S4x8, .f32⟩
  | 8 => ⟨S_, .i32⟩
  | 9 => ⟨S_, .f32⟩
  | 10 => ⟨S2x16512x4x64, .f32⟩
  | 11 => ⟨S2x129x128x4x64, .f32⟩
  | 12 => ⟨S_, .i32⟩
  | 13 => ⟨S_, .f32⟩
  | 14 => ⟨S2x16512x4x64, .f32⟩
  | 15 => ⟨S2x129x128x4x64, .f32⟩
  | 16 => ⟨S2x128x128x4x64, .f32⟩
  | 17 => ⟨S2x128x128x4x64, .f32⟩
  | 18 => ⟨S2x128x256x4x64, .f32⟩
  | 19 => ⟨S2x128x128x4x64, .f32⟩
  | 20 => ⟨S2x128x128x4x64, .f32⟩
  | 21 => ⟨S2x128x256x4x64, .f32⟩
  | 22 => ⟨S2x128x128x4x8x64, .f32⟩
  | 23 => ⟨S128, .i32⟩
  | 24 => ⟨S128x1x1, .i32⟩
  | 25 => ⟨S128, .i32⟩
  | 26 => ⟨S128x1, .i32⟩
  | 27 => ⟨S256, .i32⟩
  | 28 => ⟨S1x256, .i32⟩
  | 29 => ⟨S16, .i32⟩
  | 30 => ⟨S1x16, .i32⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i1⟩
  | 40 => ⟨S_, .i32⟩
  | 41 => ⟨S128x256, .i32⟩
  | 42 => ⟨S128x256, .i1⟩
  | 43 => ⟨S128x256, .i1⟩
  | 44 => ⟨S_, .i32⟩
  | 45 => ⟨S128x256, .i32⟩
  | 46 => ⟨S128x256, .i32⟩
  | 47 => ⟨S_, .i32⟩
  | 48 => ⟨S128x256, .i32⟩
  | 49 => ⟨S128x256, .i32⟩
  | 50 => ⟨S128x256, .f32⟩
  | 51 => ⟨S_, .f32⟩
  | 52 => ⟨S128x256, .f32⟩
  | 53 => ⟨S128x256, .f32⟩
  | 54 => ⟨S128x256, .f32⟩
  | 55 => ⟨S_, .f32⟩
  | 56 => ⟨S128x256, .f32⟩
  | 57 => ⟨S128x256, .f32⟩
  | 58 => ⟨S_, .f32⟩
  | 59 => ⟨S128x256, .f32⟩
  | 60 => ⟨S128x256, .f32⟩
  | 61 => ⟨S128x256, .i32⟩
  | 62 => ⟨S_, .i32⟩
  | 63 => ⟨S128x256, .i32⟩
  | 64 => ⟨S128x256, .i32⟩
  | 65 => ⟨S_, .i32⟩
  | 66 => ⟨S128x256, .i32⟩
  | 67 => ⟨S128x256, .i1⟩
  | 68 => ⟨S_, .i32⟩
  | 69 => ⟨S128x256, .i32⟩
  | 70 => ⟨S128x256, .i32⟩
  | 71 => ⟨S128x256, .i32⟩
  | 72 => ⟨S_, .i32⟩
  | 73 => ⟨S128x256, .i32⟩
  | 74 => ⟨S128x256, .i1⟩
  | 75 => ⟨S_, .i32⟩
  | 76 => ⟨S128x256, .i32⟩
  | 77 => ⟨S128x256, .i32⟩
  | 78 => ⟨S128x256, .i32⟩
  | 79 => ⟨S128x256x1, .i32⟩
  | 80 => ⟨S128x256x32, .f32⟩
  | 81 => ⟨S32x128x256, .f32⟩
  | 82 => ⟨S4x8x128x256, .f32⟩
  | 83 => ⟨S_, .i32⟩
  | 84 => ⟨S128x1x1, .i32⟩
  | 85 => ⟨S128x1x1, .i32⟩
  | 86 => ⟨S1x1x256, .i32⟩
  | 87 => ⟨S128x1x256, .i32⟩
  | 88 => ⟨S128x1x256, .i32⟩
  | 89 => ⟨S128x1x256, .i32⟩
  | 90 => ⟨S_, .i32⟩
  | 91 => ⟨S128x1x256, .i32⟩
  | 92 => ⟨S128x1x256, .i1⟩
  | 93 => ⟨S1x128x256, .i1⟩
  | 94 => ⟨S128x128x256, .i1⟩
  | 95 => ⟨S128x128x256, .i1⟩
  | 96 => ⟨S128x128x256, .i1⟩
  | 97 => ⟨S_, .i32⟩
  | 98 => ⟨S128x1x1, .i32⟩
  | 99 => ⟨S128x1x1, .i32⟩
  | 100 => ⟨S_, .i32⟩
  | 101 => ⟨S128x1x1, .i32⟩
  | 102 => ⟨S128x1x1, .i32⟩
  | 103 => ⟨S1x128x1, .i32⟩
  | 104 => ⟨S128x128x1, .i32⟩
  | 105 => ⟨S128x128x1, .i32⟩
  | 106 => ⟨S128x128x1, .i32⟩
  | 107 => ⟨S1x1x16, .i32⟩
  | 108 => ⟨S128x128x16, .i32⟩
  | 109 => ⟨S128x128x16, .i32⟩
  | 110 => ⟨S128x128x16, .i32⟩
  | 111 => ⟨S4x16x2x128x128x8, .f32⟩
  | 112 => ⟨S2x128x4x8x128x16, .f32⟩
  | 113 => ⟨S_, .i32⟩
  | 114 => ⟨S128x128x16, .i32⟩
  | 115 => ⟨S128x128x16, .i32⟩
  | 116 => ⟨S128x128x16, .f32⟩
  | 117 => ⟨S_, .f32⟩
  | 118 => ⟨S128x128x16, .f32⟩
  | 119 => ⟨S128x128x16, .f32⟩
  | 120 => ⟨S128x128x16, .f32⟩
  | 121 => ⟨S_, .f32⟩
  | 122 => ⟨S128x128x16, .f32⟩
  | 123 => ⟨S128x128x16, .f32⟩
  | 124 => ⟨S_, .f32⟩
  | 125 => ⟨S128x128x16, .f32⟩
  | 126 => ⟨S128x128x16, .f32⟩
  | 127 => ⟨S128x128x16, .i32⟩
  | _ => ⟨S2x16384x2048, .f32⟩

abbrev hbmTy0_1 (i : Nat) : BufTy := match i % 128 with
  | 0 => ⟨S_, .i32⟩
  | 1 => ⟨S128x128x16, .i32⟩
  | 2 => ⟨S128x128x16, .i32⟩
  | 3 => ⟨S_, .i32⟩
  | 4 => ⟨S128x128x16, .i32⟩
  | 5 => ⟨S128x128x16, .i1⟩
  | 6 => ⟨S_, .i32⟩
  | 7 => ⟨S128x128x16, .i32⟩
  | 8 => ⟨S128x128x16, .i32⟩
  | 9 => ⟨S128x128x16, .i32⟩
  | 10 => ⟨S_, .i32⟩
  | 11 => ⟨S128x128x16, .i32⟩
  | 12 => ⟨S128x128x16, .i1⟩
  | 13 => ⟨S_, .i32⟩
  | 14 => ⟨S128x128x16, .i32⟩
  | 15 => ⟨S128x128x16, .i32⟩
  | 16 => ⟨S128x128x16, .i32⟩
  | 17 => ⟨S128x128x16x1, .i32⟩
  | 18 => ⟨S128x128x16x32, .f32⟩
  | 19 => ⟨S128x32x128x16, .f32⟩
  | 20 => ⟨S128x4x8x128x16, .f32⟩
  | 21 => ⟨S1x128x4x8x128x16, .f32⟩
  | 22 => ⟨S2x128x4x8x128x16, .f32⟩
  | 23 => ⟨S2x128x4x8x128x16, .f32⟩
  | 24 => ⟨S2x128x4x256x128x8, .f32⟩
  | 25 => ⟨S2x128x4x8x128x256, .f32⟩
  | 26 => ⟨S1x1x4x8x128x256, .f32⟩
  | 27 => ⟨S2x128x4x8x128x256, .f32⟩
  | 28 => ⟨S2x128x4x8x128x256, .f32⟩
  | 29 => ⟨S1x128x1x1x128x256, .i1⟩
  | 30 => ⟨S_, .f32⟩
  | 31 => ⟨S_, .f32⟩
  | 32 => ⟨S2x128x4x8x128x256, .i1⟩
  | 33 => ⟨S2x128x4x8x128x256, .f32⟩
  | 34 => ⟨S2x128x4x8x128x256, .f32⟩
  | 35 => ⟨S2x128x4x8x128x272, .f32⟩
  | 36 => ⟨S4x8x1x1, .f32⟩
  | 37 => ⟨S2x128x4x8x128x1, .f32⟩
  | 38 => ⟨S2x128x4x8x128x273, .f32⟩
  | 39 => ⟨S_, .f32⟩
  | 40 => ⟨S2x128x4x8x128, .f32⟩
  | 41 => ⟨S_, .f32⟩
  | 42 => ⟨S2x128x4x8x128, .f32⟩
  | 43 => ⟨S2x128x4x8x128, .f32⟩
  | 44 => ⟨S2x128x4x8x128x1, .f32⟩
  | 45 => ⟨S2x128x4x8x128x273, .f32⟩
  | 46 => ⟨S2x128x4x8x128x273, .f32⟩
  | 47 => ⟨S2x128x4x8x128x273, .f32⟩
  | 48 => ⟨S_, .f32⟩
  | 49 => ⟨S2x128x4x8x128, .f32⟩
  | 50 => ⟨S2x128x4x8x128x1, .f32⟩
  | 51 => ⟨S2x128x4x8x128x273, .f32⟩
  | 52 => ⟨S2x128x4x8x128x273, .f32⟩
  | 53 => ⟨S2x128x4x8x128x272, .f32⟩
  | 54 => ⟨S2x128x4x8x128x16, .f32⟩
  | 55 => ⟨S4x64x2x128x8x128, .f32⟩
  | 56 => ⟨S2x128x128x4x8x64, .f32⟩
  | 57 => ⟨S2x128x4x8x128x256, .f32⟩
  | 58 => ⟨S2x128x4x64x8x128, .f32⟩
  | 59 => ⟨S2x128x128x4x8x64, .f32⟩
  | 60 => ⟨S2x128x128x4x8x64, .f32⟩
  | 61 => ⟨S32768x2048, .f32⟩
  | 62 => ⟨S32768x2048, .bf16⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_8 : Ref sig .tc := ⟨.hbm, 62, rfl⟩
abbrev main_v43 : Ref sig .tc := ⟨.hbm, 63, rfl⟩
abbrev main_v44 : Ref sig .tc := ⟨.hbm, 64, rfl⟩
abbrev main_c_9 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_c_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_15 : Ref sig .tc := ⟨.hbm, 97, rfl⟩
abbrev main_v71 : Ref sig .tc := ⟨.hbm, 98, rfl⟩
abbrev main_v72 : Ref sig .tc := ⟨.hbm, 99, rfl⟩
abbrev main_c_16 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_18 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_19 : Ref sig .tc := ⟨.hbm, 121, rfl⟩
abbrev main_v91 : Ref sig .tc := ⟨.hbm, 122, rfl⟩
abbrev main_v92 : Ref sig .tc := ⟨.hbm, 123, rfl⟩
abbrev main_cst_20 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_c_21 : Ref sig .tc := ⟨.hbm, 128, rfl⟩
abbrev main_v96 : Ref sig .tc := ⟨.hbm, 129, rfl⟩
abbrev main_v97 : Ref sig .tc := ⟨.hbm, 130, rfl⟩
abbrev main_c_22 : Ref sig .tc := ⟨.hbm, 131, rfl⟩
abbrev main_v98 : Ref sig .tc := ⟨.hbm, 132, rfl⟩
abbrev main_v99 : Ref sig .tc := ⟨.hbm, 133, rfl⟩
abbrev main_c_23 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_c_24 : Ref sig .tc := ⟨.hbm, 138, rfl⟩
abbrev main_v103 : Ref sig .tc := ⟨.hbm, 139, rfl⟩
abbrev main_v104 : Ref sig .tc := ⟨.hbm, 140, rfl⟩
abbrev main_c_25 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_26 : Ref sig .tc := ⟨.hbm, 158, rfl⟩
abbrev main_call4_v0 : Ref sig .tc := ⟨.hbm, 159, rfl⟩
abbrev main_call4_v1 : Ref sig .tc := ⟨.hbm, 160, rfl⟩
abbrev main_call4_v2 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_27 : Ref sig .tc := ⟨.hbm, 167, rfl⟩
abbrev main_v126 : Ref sig .tc := ⟨.hbm, 168, rfl⟩
abbrev main_cst_28 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_29 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩

abbrev nD : Nat := 1
abbrev τ : Topo := Topo.v7x

variable {F : FTy → Type} [FloatOps F]
-- ==== Kernel2.lean ====
abbrev S2x16384x2048 : Shape := ⟨3, ![2, 16384, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S32768x2048 : Shape := ⟨2, ![32768, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S128x2048 : Shape := ⟨2, ![128, 2048]⟩
abbrev S128 : Shape := ⟨1, ![128]⟩
abbrev S128x1 : Shape := ⟨2, ![128, 1]⟩
abbrev S1x2048x256 : Shape := ⟨3, ![1, 2048, 256]⟩
abbrev S2048x256 : Shape := ⟨2, ![2048, 256]⟩
abbrev S1024x256 : Shape := ⟨2, ![1024, 256]⟩
abbrev S1024x512 : Shape := ⟨2, ![1024, 512]⟩
abbrev S1x512x256 : Shape := ⟨3, ![1, 512, 256]⟩
abbrev S512x256 : Shape := ⟨2, ![512, 256]⟩
abbrev S256x512 : Shape := ⟨2, ![256, 512]⟩
abbrev S256x256 : Shape := ⟨2, ![256, 256]⟩
abbrev S256x2048 : Shape := ⟨2, ![256, 2048]⟩

abbrev nBuf : Space → Nat
  | .hbm => 17
  | .vmem => 13
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2x2048, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S32768x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2x2048x5632, .bf16⟩
  | .hbm, ⟨11, _⟩ => ⟨S2x2048x5632, .bf16⟩
  | .hbm, ⟨12, _⟩ => ⟨S2x5632x2048, .bf16⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S2x16384x2048 : Shape := ⟨3, ![2, 16384, 2048]⟩
abbrev S2x2048 : Shape := ⟨2, ![2, 2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S1x2048x5632 : Shape := ⟨3, ![1, 2048, 5632]⟩
abbrev S2048x5632 : Shape := ⟨2, ![2048, 5632]⟩
abbrev S2x16384x5632 : Shape := ⟨3, ![2, 16384, 5632]⟩
abbrev S1x5632x2048 : Shape := ⟨3, ![1, 5632, 2048]⟩
abbrev S5632x2048 : Shape := ⟨2, ![5632, 2048]⟩
abbrev S32768x2048 : Shape := ⟨2, ![32768, 2048]⟩

abbrev nBuf : Space → Nat
  | .hbm => 63
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S2x2048, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S1x2048, .f32⟩
  | .hbm, ⟨7, _⟩ => ⟨S2048, .f32⟩
  | .hbm, ⟨8, _⟩ => ⟨S2x16384x2048, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x2048, .f32⟩
  | .hbm, ⟨20, _⟩ => ⟨S2x16384x2048, .f32⟩
  | .hbm, ⟨21, _⟩ => ⟨S1x1x2048, .f32⟩
  | .hbm, ⟨22, _⟩ => ⟨S2x16384x2048, .f32⟩
  | .hbm, ⟨23, _⟩ => ⟨S2x16384x2048, .f32⟩
  | .hbm, ⟨24, _⟩ => ⟨S1x2048x5632, .f32⟩
  | .hbm, ⟨25, _⟩ => ⟨S2048x5632, .f32⟩
  | .hbm, ⟨26, _⟩ => ⟨S2x16384x5632, .f32⟩
  | .hbm, ⟨27, _⟩ => ⟨S2x16384x5632, .f32⟩
  | .hbm, ⟨28, _⟩ => ⟨S2x16384x5632, .f32⟩
  | .hbm, ⟨29, _⟩ => ⟨S_, .f32⟩
  | .hbm, ⟨30, _⟩ => ⟨S2x16384x5632, .f32⟩
  | .hbm, ⟨31, _⟩ => ⟨S2x16384x5632, .f32⟩
  | .hbm, ⟨32, _⟩ => ⟨S_, .f32⟩
  | .hbm, ⟨33, _⟩ => ⟨S2x16384x5632, .f32⟩
  | .hbm, ⟨34, _⟩ => ⟨S2x16384x5632, .f32⟩
  | .hbm, ⟨35, _⟩ => ⟨S2x16384x5632, .f32⟩
  | .hbm, ⟨36, _⟩ => ⟨S1x2048x5632, .f32⟩
  | .hbm, ⟨37, _⟩ => ⟨S2048x5632, .f32⟩
  | .hbm, ⟨38, _⟩ => ⟨S2x16384x5632, .f32⟩
  | .hbm, ⟨39, _⟩ => ⟨S2x16384x5632, .f32⟩
  | .hbm, ⟨40, _⟩ => ⟨S1x5632x2048, .f32⟩
  | .hbm, ⟨41, _⟩ => ⟨S5632x2048, .f32⟩
  | .hbm, ⟨42, _⟩ => ⟨S2x16384x2048, .f32⟩
  | .hbm, ⟨43, _⟩ => ⟨S1x2048, .f32⟩
  | .hbm, ⟨44, _⟩ => ⟨S2048, .f32⟩
  | .hbm, ⟨45, _⟩ => ⟨S2x16384x2048, .f32⟩
  | .hbm, ⟨46, _⟩ => ⟨S_, .f32⟩
  | .hbm, ⟨47, _⟩ => ⟨S2x16384, .f32⟩
  | .hbm, ⟨48, _⟩ => ⟨S2x16384x1, .f32⟩
  | .hbm, ⟨49, _⟩ => ⟨S_, .f32⟩
  | .hbm, ⟨50, _⟩ => ⟨S2x16384x1, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1, .f32⟩
  | .hbm, ⟨56, _⟩ => ⟨S2x16384x2048, .f32⟩
  | .hbm, ⟨57, _⟩ => ⟨S2x16384x2048, .f32⟩
  | .hbm, ⟨58, _⟩ => ⟨S1x1x2048, .f32⟩
  | .hbm, ⟨59, _⟩ => ⟨S2x16384x2048, .f32⟩
  | .hbm, ⟨60, _⟩ => ⟨S2x16384x2048, .f32⟩
  | .hbm, ⟨61, _⟩ => ⟨S2x16384x2048, .f32⟩
  | .hbm, ⟨62, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]
-- ==== Kernel3.lean ====
abbrev S2x16384x2048 : Shape := ⟨3, ![2, 16384, 2048]⟩
abbrev S1x2048x2048 : Shape := ⟨3, ![1, 2048, 2048]⟩
abbrev S1x2048 : Shape := ⟨2, ![1, 2048]⟩
abbrev S2x2048 : Shape := ⟨2, ![2, 2048]⟩
abbrev S32768x2048 : Shape := ⟨2, ![32768, 2048]⟩
abbrev S2048x2048 : Shape := ⟨2, ![2048, 2048]⟩
abbrev S2048 : Shape := ⟨1, ![2048]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩

abbrev nBuf : Space → Nat
  | .hbm => 16
  | .vmem => 9
  | .smem => 0
  | _ => 0

abbrev bufTy : (tb : Table) → Fin (tcTables nBuf tb) → BufTy
  | .hbm, ⟨0, _⟩ => ⟨S2x16384x2048, .f32⟩
  | .hbm, ⟨1, _⟩ => ⟨S1x2048x2048, .f32⟩
  | .hbm, ⟨2, _⟩ => ⟨S1x2048, .f32⟩
  | .hbm, ⟨3, _⟩ => ⟨S2x2048, .f32⟩
  | .hbm, ⟨4, _⟩ => ⟨S2x16384x2048, .f32⟩
  | .hbm, ⟨5, _⟩ => ⟨S32768x2048, .f32⟩
  | .hbm, ⟨6, _⟩ => ⟨S32768x2048, .bf16⟩
  | .hbm, ⟨7, _⟩ => ⟨S1x2048x2048, .bf16⟩
  | .hbm, ⟨8, _⟩ => ⟨S2048x2048, .bf16⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S32768x2048, .f32⟩
  | .hbm, ⟨15, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S2x16384x2048 : Shape := ⟨3, ![2, 16384, 2048]⟩
abbrev S1x2048x2048 : Shape := ⟨3, ![1, 2048, 2048]⟩
abbrev S1x2048 : Shape := ⟨2, ![1, 2048]⟩
abbrev S2x2048 : Shape := ⟨2, ![2, 2048]⟩
abbrev S2048x2048 : Shape := ⟨2, ![2048, 2048]⟩
abbrev S2048 : Shape := ⟨1, ![2048]⟩
abbrev S1x1x2048 : Shape := ⟨3, ![1, 1, 2048]⟩
abbrev S_ : Shape := ⟨0, ![]⟩
abbrev S2x16384 : Shape := ⟨2, ![2, 16384]⟩
abbrev S2x16384x1 : Shape := ⟨3, ![2, 16384, 1]⟩
abbrev S32768x2048 : Shape := ⟨2, ![32768, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S1x2048x2048, .f32⟩
  | .hbm, ⟨2, _⟩ => ⟨S1x2048, .f32⟩
  | .hbm, ⟨3, _⟩ => ⟨S2x2048, .f32⟩
  | .hbm, ⟨4, _⟩ => ⟨S2x16384x2048, .f32⟩
  | .hbm, ⟨5, _⟩ => ⟨S2048x2048, .f32⟩
  | .hbm, ⟨6, _⟩ => ⟨S2x16384x2048, .f32⟩
  | .hbm, ⟨7, _⟩ => ⟨S2048, .f32⟩
  | .hbm, ⟨8, _⟩ => ⟨S1x1x2048, .f32⟩
  | .hbm, ⟨9, _⟩ => ⟨S2x16384x2048, .f32⟩
  | .hbm, ⟨10, _⟩ => ⟨S2x16384x2048, .f32⟩
  | .hbm, ⟨11, _⟩ => ⟨S1x2048, .f32⟩
  | .hbm, ⟨12, _⟩ => ⟨S2048, .f32⟩
  | .hbm, ⟨13, _⟩ => ⟨S2x16384x2048, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x2048, .f32⟩
  | .hbm, ⟨25, _⟩ => ⟨S2x16384x2048, .f32⟩
  | .hbm, ⟨26, _⟩ => ⟨S1x1x2048, .f32⟩
  | .hbm, ⟨27, _⟩ => ⟨S2x16384x2048, .f32⟩
  | .hbm, ⟨28, _⟩ => ⟨S2x16384x2048, .f32⟩
  | .hbm, ⟨29, _⟩ => ⟨S2x16384x2048, .f32⟩
  | .hbm, ⟨30, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel4.lean ====
abbrev S2x16384x2048 : Shape := ⟨3, ![2, 16384, 2048]⟩
abbrev S2x2048 : Shape := ⟨2, ![2, 2048]⟩
abbrev S1x2048x4096 : Shape := ⟨3, ![1, 2048, 4096]⟩
abbrev S1x4096 : Shape := ⟨2, ![1, 4096]⟩
abbrev S32768x2048 : Shape := ⟨2, ![32768, 2048]⟩
abbrev S1x2048 : Shape := ⟨2, ![1, 2048]⟩
abbrev S2048 : Shape := ⟨1, ![2048]⟩
abbrev S2048x4096 : Shape := ⟨2, ![2048, 4096]⟩
abbrev S4096 : Shape := ⟨1, ![4096]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩
abbrev S2048x256 : Shape := ⟨2, ![2048, 256]⟩
abbrev S1024x256 : Shape := ⟨2, ![1024, 256]⟩
abbrev S1x256 : Shape := ⟨2, ![1, 256]⟩

abbrev nBuf : Space → Nat
  | .hbm => 13
  | .vmem => 8
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S1x2048x4096, .f32⟩
  | .hbm, ⟨3, _⟩ => ⟨S1x4096, .f32⟩
  | .hbm, ⟨4, _⟩ => ⟨S32768x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x2048x4096, .bf16⟩
  | .hbm, ⟨9, _⟩ => ⟨S2048x4096, .bf16⟩
  | .hbm, ⟨10, _⟩ => ⟨S4096, .f32⟩
  | .hbm, ⟨11, _⟩ => ⟨S1x4096, .f32⟩
  | .hbm, ⟨12, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x4096, .bf16⟩
  | .local _ .vmem, ⟨4, _⟩ => ⟨S1x4096, .f32⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S2x16384x2048 : Shape := ⟨3, ![2, 16384, 2048]⟩
abbrev S2x2048 : Shape := ⟨2, ![2, 2048]⟩
abbrev S1x2048x4096 : Shape := ⟨3, ![1, 2048, 4096]⟩
abbrev S1x4096 : Shape := ⟨2, ![1, 4096]⟩
abbrev S1x2048 : Shape := ⟨2, ![1, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2048x4096 : Shape := ⟨2, ![2048, 4096]⟩
abbrev S2x16384x4096 : Shape := ⟨3, ![2, 16384, 4096]⟩
abbrev S4096 : Shape := ⟨1, ![4096]⟩
abbrev S1x1x4096 : Shape := ⟨3, ![1, 1, 4096]⟩
abbrev S32768x2048 : Shape := ⟨2, ![32768, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S1x2048x4096, .f32⟩
  | .hbm, ⟨3, _⟩ => ⟨S1x4096, .f32⟩
  | .hbm, ⟨4, _⟩ => ⟨S1x2048, .f32⟩
  | .hbm, ⟨5, _⟩ => ⟨S2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2048x4096, .f32⟩
  | .hbm, ⟨23, _⟩ => ⟨S2x16384x4096, .f32⟩
  | .hbm, ⟨24, _⟩ => ⟨S4096, .f32⟩
  | .hbm, ⟨25, _⟩ => ⟨S1x1x4096, .f32⟩
  | .hbm, ⟨26, _⟩ => ⟨S2x16384x4096, .f32⟩
  | .hbm, ⟨27, _⟩ => ⟨S2x16384x4096, .f32⟩
  | .hbm, ⟨28, _⟩ => ⟨S2x16384x2048, .f32⟩
  | .hbm, ⟨29, _⟩ => ⟨S2x16384x2048, .f32⟩
  | .hbm, ⟨30, _⟩ => ⟨S2x16384x2048, .f32⟩
  | .hbm, ⟨31, _⟩ => ⟨S2x16384x2048, .f32⟩
  | .hbm, ⟨32, _⟩ => ⟨S_, .f32⟩
  | .hbm, ⟨33, _⟩ => ⟨S2x16384x2048, .f32⟩
  | .hbm, ⟨34, _⟩ => ⟨S2x16384x2048, .f32⟩
  | .hbm, ⟨35, _⟩ => ⟨S_, .f32⟩
  | .hbm, ⟨36, _⟩ => ⟨S2x16384x2048, .f32⟩
  | .hbm, ⟨37, _⟩ => ⟨S2x16384x2048, .f32⟩
  | .hbm, ⟨38, _⟩ => ⟨S2x16384x2048, .f32⟩
  | .hbm, ⟨39, _⟩ => ⟨S32768x2048, .f32⟩
  | .hbm, ⟨40, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel5.lean ====
abbrev S2x16384x2048 : Shape := ⟨3, ![2, 16384, 2048]⟩
abbrev S2x2048 : Shape := ⟨2, ![2, 2048]⟩
abbrev S1x2048x2560 : Shape := ⟨3, ![1, 2048, 2560]⟩
abbrev S1x2560 : Shape := ⟨2, ![1, 2560]⟩
abbrev S32768x2048 : Shape := ⟨2, ![32768, 2048]⟩
abbrev S1x2048 : Shape := ⟨2, ![1, 2048]⟩
abbrev S2048 : Shape := ⟨1, ![2048]⟩
abbrev S2048x2560 : Shape := ⟨2, ![2048, 2560]⟩
abbrev S2560 : Shape := ⟨1, ![2560]⟩
abbrev S4x32768x64 : Shape := ⟨3, ![4, 32768, 64]⟩
abbrev S4x32768x256 : Shape := ⟨3, ![4, 32768, 256]⟩
abbrev S1024x2048 : Shape := ⟨2, ![1024, 2048]⟩
abbrev S4x1024x64 : Shape := ⟨3, ![4, 1024, 64]⟩
abbrev S4x1024x256 : Shape := ⟨3, ![4, 1024, 256]⟩
abbrev S128x2048 : Shape := ⟨2, ![128, 2048]⟩
abbrev S128 : Shape := ⟨1, ![128]⟩
abbrev S128x1 : Shape := ⟨2, ![128, 1]⟩
abbrev S2048x512 : Shape := ⟨2, ![2048, 512]⟩
abbrev S1024x512 : Shape := ⟨2, ![1024, 512]⟩
abbrev S1x512 : Shape := ⟨2, ![1, 512]⟩
abbrev S1024x64 : Shape := ⟨2, ![1024, 64]⟩
abbrev S1x1024x64 : Shape := ⟨3, ![1, 1024, 64]⟩
abbrev S1024x256 : Shape := ⟨2, ![1024, 256]⟩
abbrev S1x1024x256 : Shape := ⟨3, ![1, 1024, 256]⟩
abbrev S2048x256 : Shape := ⟨2, ![2048, 256]⟩
abbrev S1x256 : Shape := ⟨2, ![1, 256]⟩

abbrev nBuf : Space → Nat
  | .hbm => 15
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S1x2048x2560, .f32⟩
  | .hbm, ⟨3, _⟩ => ⟨S1x2560, .f32⟩
  | .hbm, ⟨4, _⟩ => ⟨S32768x2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x2048x2560, .bf16⟩
  | .hbm, ⟨9, _⟩ => ⟨S2048x2560, .bf16⟩
  | .hbm, ⟨10, _⟩ => ⟨S2560, .f32⟩
  | .hbm, ⟨11, _⟩ => ⟨S1x2560, .f32⟩
  | .hbm, ⟨12, _⟩ => ⟨S32768x2048, .bf16⟩
  | .hbm, ⟨13, _⟩ => ⟨S4x32768x64, .bf16⟩
  | .hbm, ⟨14, _⟩ => ⟨S4x32768x256, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2560, .bf16⟩
  | .local _ .vmem, ⟨4, _⟩ => ⟨S1x2560, .f32⟩
  | .local _ .vmem, ⟨5, _⟩ => ⟨S1024x2048, .bf16⟩
  | .local _ .vmem, ⟨6, _⟩ => ⟨S1024x2048, .bf16⟩
  | .local _ .vmem, ⟨7, _⟩ => ⟨S4x1024x64, .bf16⟩
  | .local _ .vmem, ⟨8, _⟩ => ⟨S4x1024x64, .bf16⟩
  | .local _ .vmem, ⟨9, _⟩ => ⟨S4x1024x256, .bf16⟩
  | .local _ .vmem, ⟨10, _⟩ => ⟨S4x1024x256, .bf16⟩
  | .local _ .vmem, ⟨11, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S2x16384x2048 : Shape := ⟨3, ![2, 16384, 2048]⟩
abbrev S2x2048 : Shape := ⟨2, ![2, 2048]⟩
abbrev S1x2048x2560 : Shape := ⟨3, ![1, 2048, 2560]⟩
abbrev S1x2560 : Shape := ⟨2, ![1, 2560]⟩
abbrev S1x2048 : Shape := ⟨2, ![1, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2048x2560 : Shape := ⟨2, ![2048, 2560]⟩
abbrev S2x16384x2560 : Shape := ⟨3, ![2, 16384, 2560]⟩
abbrev S2560 : Shape := ⟨1, ![2560]⟩
abbrev S1x1x2560 : Shape := ⟨3, ![1, 1, 2560]⟩
abbrev S2x16384x256 : Shape := ⟨3, ![2, 16384, 256]⟩
abbrev S32768x4x64 : Shape := ⟨3, ![32768, 4, 64]⟩
abbrev S4x32768x64 : Shape := ⟨3, ![4, 32768, 64]⟩
abbrev S32768x2048 : Shape := ⟨2, ![32768, 2048]⟩
abbrev S4x32768x256 : Shape := ⟨3, ![4, 32768, 256]⟩

abbrev nBuf : Space → Nat
  | .hbm => 45
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2048, .f32⟩
  | .hbm, ⟨2, _⟩ => ⟨S1x2048x2560, .f32⟩
  | .hbm, ⟨3, _⟩ => ⟨S1x2560, .f32⟩
  | .hbm, ⟨4, _⟩ => ⟨S1x2048, .f32⟩
  | .hbm, ⟨5, _⟩ => ⟨S2048, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2048x2560, .f32⟩
  | .hbm, ⟨23, _⟩ => ⟨S2x16384x2560, .f32⟩
  | .hbm, ⟨24, _⟩ => ⟨S2560, .f32⟩
  | .hbm, ⟨25, _⟩ => ⟨S1x1x2560, .f32⟩
  | .hbm, ⟨26, _⟩ => ⟨S2x16384x2560, .f32⟩
  | .hbm, ⟨27, _⟩ => ⟨S2x16384x2560, .f32⟩
  | .hbm, ⟨28, _⟩ => ⟨S2x16384x2048, .f32⟩
  | .hbm, ⟨29, _⟩ => ⟨S2x16384x256, .f32⟩
  | .hbm, ⟨30, _⟩ => ⟨S2x16384x256, .f32⟩
  | .hbm, ⟨31, _⟩ => ⟨S_, .f32⟩
  | .hbm, ⟨32, _⟩ => ⟨S2x16384x2048, .f32⟩
  | .hbm, ⟨33, _⟩ => ⟨S2x16384x2048, .f32⟩
  | .hbm, ⟨34, _⟩ => ⟨S32768x4x64, .f32⟩
  | .hbm, ⟨35, _⟩ => ⟨S4x32768x64, .f32⟩
  | .hbm, ⟨36, _⟩ => ⟨S32768x4x64, .f32⟩
  | .hbm, ⟨37, _⟩ => ⟨S4x32768x64, .f32⟩
  | .hbm, ⟨38, _⟩ => ⟨S_, .f32⟩
  | .hbm, ⟨39, _⟩ => ⟨S4x32768x64, .f32⟩
  | .hbm, ⟨40, _⟩ => ⟨S32768x2048, .f32⟩
  | .hbm, ⟨41, _⟩ => ⟨S32768x2048, .bf16⟩
  | .hbm, ⟨42, _⟩ => ⟨S4x32768x64, .bf16⟩
  | .hbm, ⟨43, _⟩ => ⟨S4x32768x256, .f32⟩
  | .hbm, ⟨44, _⟩ => ⟨S4x32768x256, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Proof.Ffn.Inv.lean ====
module

public import proofs.«01_k».proof.Proof.Gen.Kernel2Ideal.Value
public import Idealize.ShloMosaic.Lib.Pipeline.ValueKit
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Kernel2Ideal.Ffn
open Cert.Kernel2Ideal Cert.Kernel2Ideal.Gen

/-- What a list of stores leaves in the last case: the row tiles below `r`, and of tile `r` the columns below
    `256 * c`, hold the sum `MM`; the first `128 * k` rows hold the finished rows `PO` instead. -/
def Inv (MM PO : Fin 1024 → Fin 2048 → EReal) (L : List (View.Piece (Elt Ideal) S1024x2048 .f32)) (k r c : ℕ) : Prop :=
  ∀ (i : Fin 1024) (j : Fin 2048), (i.val < 256 * r ∨ (i.val < 256 * (r + 1) ∧ j.val < 256 * c)) →
    View.canon L (ix2 i j) = if i.val < 128 * k then PO i j else MM i j

theorem Inv.nil (MM PO : Fin 1024 → Fin 2048 → EReal) : Inv MM PO [] 0 0 0 := by
  intro i j h; omega

theorem Inv.next {MM PO : Fin 1024 → Fin 2048 → EReal} {L : List (View.Piece (Elt Ideal) S1024x2048 .f32)} {k r : ℕ}
    (h : Inv MM PO L k r 8) : Inv MM PO L k (r + 1) 0 := by
  intro i j hij
  exact h i j (by have := j.isLt; omega)

/-- One stored tile of sums. -/
theorem Inv.mm {MM PO : Fin 1024 → Fin 2048 → EReal} {L : List (View.Piece (Elt Ideal) S1024x2048 .f32)} {a b : ℕ}
    (k r c : ℕ) (ha : a = 256 * r) (hb : b = 256 * c) (hk : k = 2 * r)
    (inb : ∀ x, (![a, b] : Fin 2 → ℕ) x + (![256, 256] : Fin 2 → ℕ) x ≤ S1024x2048.size x)
    (w : (Rect.unit (s := S1024x2048) ![a, b] ![256, 256] inb).shape.Idx → Elt Ideal .f32)
    (hw : ∀ (p q : Fin 256) (hp : a + p.val < 1024) (hq : b + q.val < 2048),
      w (ix2 p q) = MM ⟨a + p.val, hp⟩ ⟨b + q.val, hq⟩)
    (h : Inv MM PO L k r c) :
    Inv MM PO ((⟨Rect.unit (s := S1024x2048) ![a, b] ![256, 256] inb, w⟩ : View.Piece (Elt Ideal) S1024x2048 .f32) :: L)
      k r (c + 1) := by
  intro i j hij
  by_cases hm : (a ≤ i.val ∧ i.val < a + 256) ∧ (b ≤ j.val ∧ j.val < b + 256)
  · have e : (Rect.unit (s := S1024x2048) ![a, b] ![256, 256] inb).emb
        (ix2 (⟨i.val - a, by omega⟩ : Fin 256) (⟨j.val - b, by omega⟩ : Fin 256)) = ix2 i j := by
      funext x
      apply Fin.ext
      fin_cases x
      · show a + 1 * (i.val - a) = i.val; omega
      · show b + 1 * (j.val - b) = j.val; omega
    rw [← e, View.canon_cons_emb, hw _ _ (by have := i.isLt; dsimp only; omega) (by have := j.isLt; dsimp only; omega), if_neg (by omega)]
    congr 1
    · apply Fin.ext; dsimp only; omega
    · apply Fin.ext; dsimp only; omega
  · rw [View.canon_cons_of_not_mem]
    · exact h i j (by omega)
    · rw [Rect.mem_set_unit]
      intro hall
      have h0 : a ≤ i.val ∧ i.val < a + 256 := hall 0
      have h1 : b ≤ j.val ∧ j.val < b + 256 := hall 1
      exact hm ⟨h0, h1⟩

/-- One stored group of finished rows. -/
theorem Inv.post {MM PO : Fin 1024 → Fin 2048 → EReal} {L : List (View.Piece (Elt Ideal) S1024x2048 .f32)} {a b : ℕ}
    (k r : ℕ) (hab : a + b = 128 * k) (hk : 128 * k + 128 ≤ 256 * r)
    (inb : ∀ x, (![a, 0] : Fin 2 → ℕ) x + (![256, 2048] : Fin 2 → ℕ) x ≤ S1024x2048.size x)
    (inb' : ∀ x, (![b, 0] : Fin 2 → ℕ) x + (![128, 2048] : Fin 2 → ℕ) x ≤ S256x2048.size x)
    (h₀ : ∀ x, (Rect.unit (s := S1024x2048) ![a, 0] ![256, 2048] inb).stride x = 1)
    (w : ((Rect.unit (s := S1024x2048) ![a, 0] ![256, 2048] inb).within
      (Rect.unit (s := S256x2048) ![b, 0] ![128, 2048] inb') h₀).shape.Idx → Elt Ideal .f32)
    (h : Inv MM PO L k r 0)
    (hw : (∀ (p : Fin 128) (q : Fin 2048) (hp : a + b + p.val < 1024), View.canon L (ix2 ⟨a + b + p.val, hp⟩ q) = MM ⟨a + b + p.val, hp⟩ q) →
      ∀ (p : Fin 128) (q : Fin 2048) (hp : a + b + p.val < 1024), w (ix2 p q) = PO ⟨a + b + p.val, hp⟩ q) :
    Inv MM PO ((⟨(Rect.unit (s := S1024x2048) ![a, 0] ![256, 2048] inb).within
      (Rect.unit (s := S256x2048) ![b, 0] ![128, 2048] inb') h₀, w⟩ : View.Piece (Elt Ideal) S1024x2048 .f32) :: L)
      (k + 1) r 0 := by
  intro i j hij
  have hw' := hw (fun p q hp => by
    rw [h _ _ (by dsimp only; omega), if_neg (by dsimp only; omega)])
  by_cases hm : a + b ≤ i.val ∧ i.val < a + b + 128
  · have e : ((Rect.unit (s := S1024x2048) ![a, 0] ![256, 2048] inb).within
        (Rect.unit (s := S256x2048) ![b, 0] ![128, 2048] inb') h₀).emb
        (ix2 (⟨i.val - (a + b), by omega⟩ : Fin 128) j) = ix2 i j := by
      funext x
      apply Fin.ext
      fin_cases x
      · show a + b + 1 * (i.val - (a + b)) = i.val; omega
      · show 0 + 0 + 1 * j.val = j.val; omega
    refine (congrArg _ e.symm).trans ((View.canon_cons_emb _ _ _ _).trans ?_)
    rw [hw' _ _ (by have := i.isLt; dsimp only; omega), if_pos (by omega)]
    congr 1
    apply Fin.ext; dsimp only; omega
  · rw [View.canon_cons_of_not_mem]
    · rw [h i j hij]
      by_cases hlt : i.val < 128 * k
      · rw [if_pos hlt, if_pos (by omega)]
      · rw [if_neg hlt, if_neg (by omega)]
    · intro hin
      obtain ⟨x, hx⟩ := LoadRect.exists_idx_of_mem _ hin
      have h0 : i.val = a + b + 1 * (x 0).val := (congrArg Fin.val (congrFun hx 0)).symm
      have h1 : (x 0).val < 128 := (x 0).isLt
      omega

end Cert.Kernel2Ideal.Ffn
-- ==== Proof.Ffn.Pay.lean ====
module

public import proofs.«01_k».proof.Proof.Gen.Kernel2Ideal.Skeleton
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Kernel2Ideal.Ffn
open Cert.Kernel2Ideal Cert.Kernel2Ideal.Gen

theorem zero32 : Ideal.ofBits FTy.f32 0#32 = 0 := by simp [Ideal.ofBits, Ideal.ieee]

theorem at2 {n m : ℕ} {α : Type} (f : (⟨2, ![n, m]⟩ : Shape).Idx → α) {a a' : Fin n} {b b' : Fin m}
    (ha : (a : ℕ) = a') (hb : (b : ℕ) = b') : f (ix2 a b) = f (ix2 a' b') := by
  rw [Fin.ext ha, Fin.ext hb]

/-- The gate's factor of one hidden value. -/
def SIL (g : EReal) : EReal := g * Ideal.div 1 (1 + Ideal.exp (-g))
/-- One row's scale: its mean square, regularised, to the power −1/2. -/
def SC (f : Fin 2048 → EReal) : EReal :=
  Ideal.rsqrt (Ideal.div (∑ k : Fin 2048, f k * f k) (Ideal.ofBits .f32 0x45000000#32) + Ideal.ofBits .f32 0x358637BD#32)

theorem post_at (h o : Vec Ideal S128x2048 .f32) (g : Vec Ideal S1x2048 .f32) (i : Fin 128) (j : Fin 2048) :
    k0_pay41 (F := Ideal) h o g (ix2 i j)
      = h (ix2 i j) + o (ix2 i j) * SC (fun k => o (ix2 i k)) * g (ix2 0 j) := by
  pointwise [k0_pay41, SC]

theorem pre_at (h : Vec Ideal S128x2048 .f32) (g : Vec Ideal S1x2048 .f32) (i : Fin 128) (j : Fin 2048) :
    k0_pay5 (F := Ideal) h g (ix2 i j)
      = h (ix2 i j) * SC (fun k => h (ix2 i k)) * g (ix2 0 j) := by
  pointwise [k0_pay5, SC]

/-- One hidden value: the gate's product times the other factor. -/
def HID (xs : Fin 1024 → Fin 2048 → EReal) (x2 x3 : Vec Ideal S1x2048x512 .bf16) (i : Fin 1024) (l : Fin 512) : EReal :=
  SIL (∑ k : Fin 2048, xs i k * x2 (ix3 0 k l)) * ∑ k : Fin 2048, xs i k * x3 (ix3 0 k l)

set_option maxHeartbeats 1600000 in
theorem hid_at (xs : Vec Ideal S1024x2048 .bf16) (x2 x3 : Vec Ideal S1x2048x512 .bf16)
    (a b c d : Vec Ideal S1x2048x256 .bf16)
    (ha : ∀ (k : Fin 2048) (l : Fin 256), a (ix3 0 k l) = x2 (ix3 0 k ⟨l.val, by omega⟩))
    (hb : ∀ (k : Fin 2048) (l : Fin 256), b (ix3 0 k l) = x3 (ix3 0 k ⟨l.val, by omega⟩))
    (hc : ∀ (k : Fin 2048) (l : Fin 256), c (ix3 0 k l) = x2 (ix3 0 k ⟨256 + l.val, by omega⟩))
    (hd : ∀ (k : Fin 2048) (l : Fin 256), d (ix3 0 k l) = x3 (ix3 0 k ⟨256 + l.val, by omega⟩))
    (i : Fin 1024) (l : Fin 512) :
    k0_pay29 (F := Ideal) xs a b c d (ix2 i l) = HID (fun i k => xs (ix2 i k)) x2 x3 i l := by
  pointwise [k0_pay29]
  split
  · simp only [ha, hb, HID, SIL, zero_sub]
  · rename_i hl
    have e : (⟨256 + (l.val - 256), by omega⟩ : Fin 512) = l := Fin.ext (by dsimp only; omega)
    simp only [hc, hd, HID, SIL, zero_sub, e]

/-- The normalised row that the hidden tiles multiply. -/
def XN (x0 : Vec Ideal S1024x2048 .f32) (x1 : Vec Ideal S1x2048 .f32) (i : Fin 1024) (k : Fin 2048) : EReal :=
  x0 (ix2 i k) * SC (fun k => x0 (ix2 i k)) * x1 (ix2 0 k)
/-- One hidden tile's part of the result. -/
def PART (xs : Fin 1024 → Fin 2048 → EReal) (x2 x3 : Vec Ideal S1x2048x512 .bf16) (x4 : Vec Ideal S1x512x2048 .bf16)
    (i : Fin 1024) (j : Fin 2048) : EReal :=
  ∑ l : Fin 512, HID xs x2 x3 i l * x4 (ix3 0 l j)
/-- The finished row: its norm and the residual. -/
def POST (x0 : Vec Ideal S1024x2048 .f32) (x5 : Vec Ideal S1x2048 .f32) (M : Fin 1024 → Fin 2048 → EReal)
    (i : Fin 1024) (j : Fin 2048) : EReal :=
  x0 (ix2 i j) + M i j * SC (M i) * x5 (ix2 0 j)

theorem pre_val (h : Vec Ideal S128x2048 .f32) (x0 : Vec Ideal S1024x2048 .f32) (x1 : Vec Ideal S1x2048 .f32)
    (p : Fin 128) (q : Fin 2048) (i : Fin 1024) (hh : ∀ k, h (ix2 p k) = x0 (ix2 i k)) :
    k0_pay5 (F := Ideal) h x1 (ix2 p q) = XN x0 x1 i q := by
  rw [pre_at, XN, hh, show (fun k => h (ix2 p k)) = fun k => x0 (ix2 i k) from funext hh]

theorem post_val (h o : Vec Ideal S128x2048 .f32) (x0 : Vec Ideal S1024x2048 .f32) (x5 : Vec Ideal S1x2048 .f32)
    (M : Fin 1024 → Fin 2048 → EReal) (p : Fin 128) (q : Fin 2048) (i : Fin 1024) (hh : ∀ k, h (ix2 p k) = x0 (ix2 i k))
    (ho : ∀ k, o (ix2 p k) = M i k) :
    k0_pay41 (F := Ideal) h o x5 (ix2 p q) = POST x0 x5 M i q := by
  rw [post_at, POST, hh, ho, show (fun k => o (ix2 p k)) = M i from funext ho]

theorem mm0 (H : FVec Ideal S1024x512 .bf16) (W : Vec Ideal S1x512x256 .bf16) (x : Vec Ideal S256x256 .f32)
    (p q : Fin 256) (hp : 0 + p.val < 1024) :
    k0_pay32 (F := Ideal) H W x (ix2 p q) = x (ix2 p q) + ∑ l : Fin 512, H (ix2 ⟨0 + p.val, hp⟩ l) * W (ix3 0 l q) := by
  pointwise [k0_pay32]
  try (refine congrArg _ (Finset.sum_congr rfl fun l _ => ?_); exact congrArg (· * _) (at2 H (by dsimp only; omega) rfl))

theorem mm1 (H : FVec Ideal S1024x512 .bf16) (W : Vec Ideal S1x512x256 .bf16) (x : Vec Ideal S256x256 .f32)
    (p q : Fin 256) (hp : 256 + p.val < 1024) :
    k0_pay43 (F := Ideal) H W x (ix2 p q) = x (ix2 p q) + ∑ l : Fin 512, H (ix2 ⟨256 + p.val, hp⟩ l) * W (ix3 0 l q) := by
  pointwise [k0_pay43]
  try (refine congrArg _ (Finset.sum_congr rfl fun l _ => ?_); exact congrArg (· * _) (at2 H (by dsimp only; omega) rfl))

theorem mm2 (H : FVec Ideal S1024x512 .bf16) (W : Vec Ideal S1x512x256 .bf16) (x : Vec Ideal S256x256 .f32)
    (p q : Fin 256) (hp : 512 + p.val < 1024) :
    k0_pay61 (F := Ideal) H W x (ix2 p q) = x (ix2 p q) + ∑ l : Fin 512, H (ix2 ⟨512 + p.val, hp⟩ l) * W (ix3 0 l q) := by
  pointwise [k0_pay61]
  try (refine congrArg _ (Finset.sum_congr rfl fun l _ => ?_); exact congrArg (· * _) (at2 H (by dsimp only; omega) rfl))

theorem mm3 (H : FVec Ideal S1024x512 .bf16) (W : Vec Ideal S1x512x256 .bf16) (x : Vec Ideal S256x256 .f32)
    (p q : Fin 256) (hp : 768 + p.val < 1024) :
    k0_pay80 (F := Ideal) H W x (ix2 p q) = x (ix2 p q) + ∑ l : Fin 512, H (ix2 ⟨768 + p.val, hp⟩ l) * W (ix3 0 l q) := by
  pointwise [k0_pay80]
  try (refine congrArg _ (Finset.sum_congr rfl fun l _ => ?_); exact congrArg (· * _) (at2 H (by dsimp only; omega) rfl))

theorem mmA (H : FVec Ideal S1024x512 .bf16) (W : Vec Ideal S1x512x256 .bf16) (i : Fin 1024) (q : Fin 256) :
    k0_pay14 (F := Ideal) H W (ix2 i q) = ∑ l : Fin 512, H (ix2 i l) * W (ix3 0 l q) := by
  pointwise [k0_pay14]

theorem mmB (H : FVec Ideal S1024x512 .bf16) (W : Vec Ideal S1x512x256 .bf16) (x : Vec Ideal S1024x256 .f32)
    (i : Fin 1024) (q : Fin 256) :
    k0_pay21 (F := Ideal) H W x (ix2 i q) = x (ix2 i q) + ∑ l : Fin 512, H (ix2 i l) * W (ix3 0 l q) := by
  pointwise [k0_pay21]

section
variable (H : FVec Ideal S1024x512 .bf16) (W : Vec Ideal S1x512x256 .bf16) (x : Vec Ideal S256x256 .f32)
  (y : Vec Ideal S1024x256 .f32) (h o : Vec Ideal S128x2048 .f32) (g : Vec Ideal S1x2048 .f32)
  (xs : Vec Ideal S1024x2048 .bf16) (a b c d : Vec Ideal S1x2048x256 .bf16)
theorem e31 : k0_pay31 (F := Ideal) (k0_pay30 (F := Ideal) xs a b c d) W x = k0_pay32 (F := Ideal) (k0_pay29 (F := Ideal) xs a b c d) W x := rfl
theorem e33 : k0_pay33 (F := Ideal) H W x = k0_pay32 (F := Ideal) H W x := rfl
theorem e36 : k0_pay36 (F := Ideal) H W x = k0_pay32 (F := Ideal) H W x := rfl
theorem e37 : k0_pay37 (F := Ideal) H W x = k0_pay32 (F := Ideal) H W x := rfl
theorem e38 : k0_pay38 (F := Ideal) H W x = k0_pay32 (F := Ideal) H W x := rfl
theorem e35 : k0_pay35 (F := Ideal) (k0_pay34 (F := Ideal) H W) x = k0_pay32 (F := Ideal) H W x := rfl
theorem e40 : k0_pay40 (F := Ideal) (k0_pay39 (F := Ideal) H) W x = k0_pay32 (F := Ideal) H W x := rfl
theorem e47 : k0_pay47 (F := Ideal) H W x = k0_pay43 (F := Ideal) H W x := rfl
theorem e48 : k0_pay48 (F := Ideal) H W x = k0_pay43 (F := Ideal) H W x := rfl
theorem e49 : k0_pay49 (F := Ideal) H W x = k0_pay43 (F := Ideal) H W x := rfl
theorem e50 : k0_pay50 (F := Ideal) H W x = k0_pay43 (F := Ideal) H W x := rfl
theorem e51 : k0_pay51 (F := Ideal) H W x = k0_pay43 (F := Ideal) H W x := rfl
theorem e52 : k0_pay52 (F := Ideal) H W x = k0_pay43 (F := Ideal) H W x := rfl
theorem e46 : k0_pay46 (F := Ideal) (k0_pay44 (F := Ideal) H) (k0_pay45 (F := Ideal) W) (constant S256x256 .f32 0x00000000#32) x = k0_pay43 (F := Ideal) H W x := rfl
theorem e62 : k0_pay62 (F := Ideal) H W x = k0_pay61 (F := Ideal) H W x := rfl
theorem e66 : k0_pay66 (F := Ideal) H W x = k0_pay61 (F := Ideal) H W x := rfl
theorem e67 : k0_pay67 (F := Ideal) H W x = k0_pay61 (F := Ideal) H W x := rfl
theorem e68 : k0_pay68 (F := Ideal) H W x = k0_pay61 (F := Ideal) H W x := rfl
theorem e71 : k0_pay71 (F := Ideal) H W x = k0_pay61 (F := Ideal) H W x := rfl
theorem e65 : k0_pay65 (F := Ideal) (k0_pay63 (F := Ideal) H W) (k0_pay64 (F := Ideal) x) = k0_pay61 (F := Ideal) H W x := rfl
theorem e70 : k0_pay70 (F := Ideal) (k0_pay69 (F := Ideal) H) W x = k0_pay61 (F := Ideal) H W x := rfl
theorem e81 : k0_pay81 (F := Ideal) H W x = k0_pay80 (F := Ideal) H W x := rfl
theorem e82 : k0_pay82 (F := Ideal) H W x = k0_pay80 (F := Ideal) H W x := rfl
theorem e83 : k0_pay83 (F := Ideal) H W x = k0_pay80 (F := Ideal) H W x := rfl
theorem e84 : k0_pay84 (F := Ideal) H W x = k0_pay80 (F := Ideal) H W x := rfl
theorem e85 : k0_pay85 (F := Ideal) H W x = k0_pay80 (F := Ideal) H W x := rfl
theorem e79 : k0_pay79 (F := Ideal) (k0_pay78 (F := Ideal) H W) x = k0_pay80 (F := Ideal) H W x := rfl
theorem e87 : k0_pay87 (F := Ideal) (k0_pay86 (F := Ideal) H W) x = k0_pay80 (F := Ideal) H W x := rfl
theorem e42 : k0_pay42 (F := Ideal) h o g = k0_pay41 (F := Ideal) h o g := rfl
theorem e77 : k0_pay77 (F := Ideal) h o g = k0_pay41 (F := Ideal) h o g := rfl
theorem e88 : k0_pay88 (F := Ideal) h o g = k0_pay41 (F := Ideal) h o g := rfl
theorem e54 : k0_pay54 (F := Ideal) (k0_pay53 (F := Ideal) h) o g = k0_pay41 (F := Ideal) h o g := rfl
theorem e60 : k0_pay60 (F := Ideal) (k0_pay55 (F := Ideal) h) (k0_pay56 (F := Ideal) o) (k0_pay57 (F := Ideal) g) (k0_pay58 (F := Ideal) o) (k0_pay59 (F := Ideal)) = k0_pay41 (F := Ideal) h o g := rfl
theorem e76 : k0_pay76 (F := Ideal) (k0_pay72 (F := Ideal) h) (k0_pay73 (F := Ideal) o) (k0_pay74 (F := Ideal) g) (k0_pay75 (F := Ideal) o) = k0_pay41 (F := Ideal) h o g := rfl
theorem e4 : k0_pay4 (F := Ideal) (k0_pay89 (F := Ideal) h) o g = k0_pay41 (F := Ideal) h o g := rfl
theorem e6 : k0_pay6 (F := Ideal) h g = k0_pay5 (F := Ideal) h g := rfl
theorem e7 : k0_pay7 (F := Ideal) h g = k0_pay5 (F := Ideal) h g := rfl
theorem e8 : k0_pay8 (F := Ideal) h g = k0_pay5 (F := Ideal) h g := rfl
theorem e9 : k0_pay9 (F := Ideal) h g = k0_pay5 (F := Ideal) h g := rfl
theorem e10 : k0_pay10 (F := Ideal) h g = k0_pay5 (F := Ideal) h g := rfl
theorem e11 : k0_pay11 (F := Ideal) h g = k0_pay5 (F := Ideal) h g := rfl
theorem e12 : k0_pay12 (F := Ideal) h g = k0_pay5 (F := Ideal) h g := rfl
theorem e15 : k0_pay15 (F := Ideal) H W = k0_pay14 (F := Ideal) H W := rfl
theorem e16 : k0_pay16 (F := Ideal) H W = k0_pay14 (F := Ideal) H W := rfl
theorem e17 : k0_pay17 (F := Ideal) H W = k0_pay14 (F := Ideal) H W := rfl
theorem e18 : k0_pay18 (F := Ideal) H W = k0_pay14 (F := Ideal) H W := rfl
theorem e19 : k0_pay19 (F := Ideal) H W = k0_pay14 (F := Ideal) H W := rfl
theorem e1 : k0_pay1 (F := Ideal) H W = k0_pay14 (F := Ideal) H W := rfl
theorem e2 : k0_pay2 (F := Ideal) H W = k0_pay14 (F := Ideal) H W := rfl
theorem e22 : k0_pay22 (F := Ideal) H W y = k0_pay21 (F := Ideal) H W y := rfl
theorem e23 : k0_pay23 (F := Ideal) H W y = k0_pay21 (F := Ideal) H W y := rfl
theorem e24 : k0_pay24 (F := Ideal) H W y = k0_pay21 (F := Ideal) H W y := rfl
theorem e25 : k0_pay25 (F := Ideal) H W y = k0_pay21 (F := Ideal) H W y := rfl
theorem e26 : k0_pay26 (F := Ideal) H W y = k0_pay21 (F := Ideal) H W y := rfl
theorem e27 : k0_pay27 (F := Ideal) H W y = k0_pay21 (F := Ideal) H W y := rfl
theorem e3 : k0_pay3 (F := Ideal) (k0_pay28 (F := Ideal) H W) y = k0_pay21 (F := Ideal) H W y := rfl
theorem e13 : k0_pay13 (F := Ideal) xs a b c d = k0_pay29 (F := Ideal) xs a b c d := rfl
theorem e20 : k0_pay20 (F := Ideal) xs a b c d = k0_pay29 (F := Ideal) xs a b c d := rfl
end

end Cert.Kernel2Ideal.Ffn
-- ==== Proof.Ffn.Out.lean ====
module

public import proofs.«01_k».proof.Proof.Gen.Kernel2Ideal.Value
public import proofs.«01_k».proof.Proof.Ffn.Inv
public import proofs.«01_k».proof.Proof.Ffn.Pay
public import Idealize.ShloMosaic.Lib.Pipeline.ValueKit
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Kernel2Ideal.Ffn
open Cert.Kernel2Ideal Cert.Kernel2Ideal.Gen
variable (m : (ℓ : Loc nD τ sig) → Buf (Elt Ideal) ℓ)

/-- What the last hidden tile leaves in the accumulator before the norm. -/
def LAST (acc : Vec Ideal S1024x2048 .f32) (xs : Fin 1024 → Fin 2048 → EReal) (x2 x3 : Vec Ideal S1x2048x512 .bf16)
    (x4 : Vec Ideal S1x512x2048 .bf16) (i : Fin 1024) (j : Fin 2048) : EReal :=
  acc (ix2 i j) + PART xs x2 x3 x4 i j

theorem xs_read (xs : Vec Ideal S1024x2048 .bf16) (h) :
    View.read (Elt Ideal) (View.whole cc0_scratch0) (Memref.IsWhole.unread (Val := Elt Ideal) (m := scM0_0) h xs) = xs :=
  Memref.IsWhole.read_unread h xs

theorem ldi3 {n k l : ℕ} {φ : EltTy} (x : (⟨3, ![n, k, l]⟩ : Shape).Idx → Elt Ideal φ) (off : Fin 3 → ℕ) (size : Fin 3 → ℕ) (inb)
    (y : (Rect.unit (s := ⟨3, ![n, k, l]⟩) off size inb).shape.Idx) (a : Fin n) (b : Fin k) (d : Fin l)
    (ha : a.val = off 0 + (y 0).val) (hb : b.val = off 1 + (y 1).val) (hd : d.val = off 2 + (y 2).val) :
    View.ld x (Rect.unit (s := ⟨3, ![n, k, l]⟩) off size inb) y = x (ix3 a b d) :=
  View.ld_unit_apply_of x off size inb y _ (fun e => by fin_cases e; exacts [ha, hb, hd])

theorem ldi2 {n k : ℕ} {φ : EltTy} (x : (⟨2, ![n, k]⟩ : Shape).Idx → Elt Ideal φ) (off : Fin 2 → ℕ) (size : Fin 2 → ℕ) (inb)
    (y : (Rect.unit (s := ⟨2, ![n, k]⟩) off size inb).shape.Idx) (a : Fin n) (b : Fin k)
    (ha : a.val = off 0 + (y 0).val) (hb : b.val = off 1 + (y 1).val) :
    View.ld x (Rect.unit (s := ⟨2, ![n, k]⟩) off size inb) y = x (ix2 a b) :=
  View.ld_unit_apply_of x off size inb y _ (fun e => by fin_cases e; exacts [ha, hb])

/-- A row of the hidden tile. -/
theorem hid_ld (xs : Vec Ideal S1024x2048 .bf16) (XS : Fin 1024 → Fin 2048 → EReal) (hxs : ∀ i k, xs (ix2 i k) = XS i k)
    (x2 x3 : Vec Ideal S1x2048x512 .bf16) (inb0 inb1) (i : Fin 1024) (l : Fin 512) :
    k0_pay29 (F := Ideal) xs (View.ld x2 (Rect.unit (s := S1x2048x512) ![0, 0, 0] ![1, 2048, 256] inb0))
      (View.ld x3 (Rect.unit (s := S1x2048x512) ![0, 0, 0] ![1, 2048, 256] inb0))
      (View.ld x2 (Rect.unit (s := S1x2048x512) ![0, 0, 256] ![1, 2048, 256] inb1))
      (View.ld x3 (Rect.unit (s := S1x2048x512) ![0, 0, 256] ![1, 2048, 256] inb1)) (ix2 i l) = HID XS x2 x3 i l := by
  refine (hid_at xs x2 x3 _ _ _ _ ?_ ?_ ?_ ?_ i l).trans (congrArg (fun f => HID f x2 x3 i l) (funext fun i => funext fun k => hxs i k))
  · exact fun k l => ldi3 x2 _ _ _ _ _ _ _ rfl (Nat.zero_add _).symm (Nat.zero_add _).symm
  · exact fun k l => ldi3 x3 _ _ _ _ _ _ _ rfl (Nat.zero_add _).symm (Nat.zero_add _).symm
  · exact fun k l => ldi3 x2 _ _ _ _ _ _ _ rfl (Nat.zero_add _).symm rfl
  · exact fun k l => ldi3 x3 _ _ _ _ _ _ _ rfl (Nat.zero_add _).symm rfl

section
variable (H : FVec Ideal S1024x512 .bf16) (XS : Fin 1024 → Fin 2048 → EReal) (x2 x3 : Vec Ideal S1x2048x512 .bf16)
  (hH : ∀ i l, H (ix2 i l) = HID XS x2 x3 i l) (acc : Vec Ideal S1024x2048 .f32) (x4 : Vec Ideal S1x512x2048 .bf16)
include hH

theorem tile0 (b : ℕ) (inb inb') (p q : Fin 256) (hp : 0 + p.val < 1024) (hq : b + q.val < 2048) :
    k0_pay32 (F := Ideal) H (View.ld x4 (Rect.unit (s := S1x512x2048) ![0, 0, b] ![1, 512, 256] inb))
      (View.ld acc (Rect.unit (s := S1024x2048) ![0, b] ![256, 256] inb')) (ix2 p q) =
      LAST acc XS x2 x3 x4 ⟨0 + p.val, hp⟩ ⟨b + q.val, hq⟩ := by
  refine (mm0 H _ _ p q hp).trans (congrArg₂ (· + ·) (ldi2 acc _ _ _ _ _ _ rfl rfl) (Finset.sum_congr rfl fun l _ => congrArg₂ (· * ·) (hH _ l) ?_))
  exact ldi3 x4 _ _ _ _ _ _ _ rfl (Nat.zero_add _).symm rfl

theorem tile1 (b : ℕ) (inb inb') (p q : Fin 256) (hp : 256 + p.val < 1024) (hq : b + q.val < 2048) :
    k0_pay43 (F := Ideal) H (View.ld x4 (Rect.unit (s := S1x512x2048) ![0, 0, b] ![1, 512, 256] inb))
      (View.ld acc (Rect.unit (s := S1024x2048) ![256, b] ![256, 256] inb')) (ix2 p q) =
      LAST acc XS x2 x3 x4 ⟨256 + p.val, hp⟩ ⟨b + q.val, hq⟩ := by
  refine (mm1 H _ _ p q hp).trans (congrArg₂ (· + ·) (ldi2 acc _ _ _ _ _ _ rfl rfl) (Finset.sum_congr rfl fun l _ => congrArg₂ (· * ·) (hH _ l) ?_))
  exact ldi3 x4 _ _ _ _ _ _ _ rfl (Nat.zero_add _).symm rfl

theorem tile2 (b : ℕ) (inb inb') (p q : Fin 256) (hp : 512 + p.val < 1024) (hq : b + q.val < 2048) :
    k0_pay61 (F := Ideal) H (View.ld x4 (Rect.unit (s := S1x512x2048) ![0, 0, b] ![1, 512, 256] inb))
      (View.ld acc (Rect.unit (s := S1024x2048) ![512, b] ![256, 256] inb')) (ix2 p q) =
      LAST acc XS x2 x3 x4 ⟨512 + p.val, hp⟩ ⟨b + q.val, hq⟩ := by
  refine (mm2 H _ _ p q hp).trans (congrArg₂ (· + ·) (ldi2 acc _ _ _ _ _ _ rfl rfl) (Finset.sum_congr rfl fun l _ => congrArg₂ (· * ·) (hH _ l) ?_))
  exact ldi3 x4 _ _ _ _ _ _ _ rfl (Nat.zero_add _).symm rfl

theorem tile3 (b : ℕ) (inb inb') (p q : Fin 256) (hp : 768 + p.val < 1024) (hq : b + q.val < 2048) :
    k0_pay80 (F := Ideal) H (View.ld x4 (Rect.unit (s := S1x512x2048) ![0, 0, b] ![1, 512, 256] inb))
      (View.ld acc (Rect.unit (s := S1024x2048) ![768, b] ![256, 256] inb')) (ix2 p q) =
      LAST acc XS x2 x3 x4 ⟨768 + p.val, hp⟩ ⟨b + q.val, hq⟩ := by
  refine (mm3 H _ _ p q hp).trans (congrArg₂ (· + ·) (ldi2 acc _ _ _ _ _ _ rfl rfl) (Finset.sum_congr rfl fun l _ => congrArg₂ (· * ·) (hH _ l) ?_))
  exact ldi3 x4 _ _ _ _ _ _ _ rfl (Nat.zero_add _).symm rfl

theorem tileB (b : ℕ) (inb inb') (p : Fin 1024) (q : Fin 256) (hq : b + q.val < 2048) :
    k0_pay21 (F := Ideal) H (View.ld x4 (Rect.unit (s := S1x512x2048) ![0, 0, b] ![1, 512, 256] inb))
      (View.ld acc (Rect.unit (s := S1024x2048) ![0, b] ![1024, 256] inb')) (ix2 p q) =
      LAST acc XS x2 x3 x4 p ⟨b + q.val, hq⟩ := by
  refine (mmB H _ _ p q).trans (congrArg₂ (· + ·) (ldi2 acc _ _ _ _ _ _ (Nat.zero_add _).symm rfl) (Finset.sum_congr rfl fun l _ => congrArg₂ (· * ·) (hH _ l) ?_))
  exact ldi3 x4 _ _ _ _ _ _ _ rfl (Nat.zero_add _).symm rfl

theorem tileA (b : ℕ) (inb) (p : Fin 1024) (q : Fin 256) (hq : b + q.val < 2048) :
    k0_pay14 (F := Ideal) H (View.ld x4 (Rect.unit (s := S1x512x2048) ![0, 0, b] ![1, 512, 256] inb)) (ix2 p q) =
      PART XS x2 x3 x4 p ⟨b + q.val, hq⟩ := by
  refine (mmA H _ p q).trans (Finset.sum_congr rfl fun l _ => congrArg₂ (· * ·) (hH _ l) ?_)
  exact ldi3 x4 _ _ _ _ _ _ _ rfl (Nat.zero_add _).symm rfl
end

theorem post_ld (mh : Memref sig .tc .vmem S1024x2048 .f32) (hmh : mh.IsWhole) (mo : Memref sig .tc .vmem S1024x2048 .f32)
    (x0 : Vec Ideal S1024x2048 .f32) (x5 : Vec Ideal S1x2048 .f32)
    (M : Fin 1024 → Fin 2048 → EReal) (L : List (View.Piece (Elt Ideal) S1024x2048 .f32)) (a b : ℕ)
    (inb : ∀ x, (![a, 0] : Fin 2 → ℕ) x + (![256, 2048] : Fin 2 → ℕ) x ≤ S1024x2048.size x)
    (inb' : ∀ x, (![b, 0] : Fin 2 → ℕ) x + (![128, 2048] : Fin 2 → ℕ) x ≤ S256x2048.size x)
    (h₀ : ∀ x, (Rect.unit (s := S1024x2048) ![a, 0] ![256, 2048] inb).stride x = 1)
    (hc : ∀ (p : Fin 128) (q : Fin 2048) (hp : a + b + p.val < 1024), View.canon L (ix2 ⟨a + b + p.val, hp⟩ q) = M ⟨a + b + p.val, hp⟩ q)
    (p : Fin 128) (q : Fin 2048) (hp : a + b + p.val < 1024) :
    k0_pay41 (F := Ideal)
      (View.readAt (Elt Ideal) mh.view ((Rect.unit (s := S1024x2048) ![a, 0] ![256, 2048] inb).withinL
        (Rect.unit (s := S256x2048) ![b, 0] ![128, 2048] inb').toLoadRect h₀) (hmh.unread x0))
      (mo.view.readCov L ((Rect.unit (s := S1024x2048) ![a, 0] ![256, 2048] inb).withinL
        (Rect.unit (s := S256x2048) ![b, 0] ![128, 2048] inb').toLoadRect h₀)) x5 (ix2 p q) = POST x0 x5 M ⟨a + b + p.val, hp⟩ q := by
  have e : ∀ k : Fin 2048, ((Rect.unit (s := S1024x2048) ![a, 0] ![256, 2048] inb).withinL
        (Rect.unit (s := S256x2048) ![b, 0] ![128, 2048] inb').toLoadRect h₀).idx (ix2 p k) = ix2 ⟨a + b + p.val, hp⟩ k := by
    intro k
    funext x
    apply Fin.ext
    fin_cases x
    · show a + b + 1 * p.val = a + b + p.val; omega
    · show 0 + 0 + 1 * k.val = k.val; omega
  refine post_val _ _ x0 x5 M p q _ (fun k => ?_) (fun k => ?_)
  · exact (congrFun (hmh.read_unread x0) _).trans (congrArg x0 (e k))
  · exact (congrFun (View.readCov_eq_canon' mo.view L _) _).trans ((congrArg (View.canon L) (e k)).trans (hc p k hp))

theorem pieceB (H : FVec Ideal S1024x512 .bf16) (XS : Fin 1024 → Fin 2048 → EReal) (x2 x3 : Vec Ideal S1x2048x512 .bf16)
    (hH : ∀ i l, H (ix2 i l) = HID XS x2 x3 i l) (acc : Vec Ideal S1024x2048 .f32) (x4 : Vec Ideal S1x512x2048 .bf16)
    (b : ℕ) (inb inb') (x : S1024x256.Idx) (i : Fin 1024) (j : Fin 2048) (h0 : i.val = (x 0).val) (h1 : j.val = b + (x 1).val) :
    k0_pay21 (F := Ideal) H (View.ld x4 (Rect.unit (s := S1x512x2048) ![0, 0, b] ![1, 512, 256] inb))
      (View.ld acc (Rect.unit (s := S1024x2048) ![0, b] ![1024, 256] inb')) x = LAST acc XS x2 x3 x4 i j := by
  obtain ⟨p, q, rfl⟩ : ∃ p q, x = ix2 p q := ⟨x 0, x 1, funext fun e => by fin_cases e <;> rfl⟩
  obtain rfl : i = p := Fin.ext h0
  have hq : b + q.val < 2048 := h1 ▸ j.isLt
  obtain rfl : j = ⟨b + q.val, hq⟩ := Fin.ext h1
  exact tileB H XS x2 x3 hH acc x4 b inb inb' i q hq

theorem pieceA (H : FVec Ideal S1024x512 .bf16) (XS : Fin 1024 → Fin 2048 → EReal) (x2 x3 : Vec Ideal S1x2048x512 .bf16)
    (hH : ∀ i l, H (ix2 i l) = HID XS x2 x3 i l) (x4 : Vec Ideal S1x512x2048 .bf16)
    (b : ℕ) (inb) (x : S1024x256.Idx) (i : Fin 1024) (j : Fin 2048) (h0 : i.val = (x 0).val) (h1 : j.val = b + (x 1).val) :
    k0_pay14 (F := Ideal) H (View.ld x4 (Rect.unit (s := S1x512x2048) ![0, 0, b] ![1, 512, 256] inb)) x = PART XS x2 x3 x4 i j := by
  obtain ⟨p, q, rfl⟩ : ∃ p q, x = ix2 p q := ⟨x 0, x 1, funext fun e => by fin_cases e <;> rfl⟩
  obtain rfl : i = p := Fin.ext h0
  have hq : b + q.val < 2048 := h1 ▸ j.isLt
  obtain rfl : j = ⟨b + q.val, hq⟩ := Fin.ext h1
  exact tileA H XS x2 x3 hH x4 b inb i q hq

theorem pieceS (x0 : Vec Ideal S1024x2048 .f32) (x1 : Vec Ideal S1x2048 .f32) (a : ℕ) (inb) (x : S128x2048.Idx) (i : Fin 1024) (j : Fin 2048)
    (h0 : i.val = a + (x 0).val) (h1 : j.val = (x 1).val) :
    k0_pay5 (F := Ideal) (View.ld x0 (Rect.unit (s := S1024x2048) ![a, 0] ![128, 2048] inb)) x1 x = XN x0 x1 i j := by
  obtain ⟨p, q, rfl⟩ : ∃ p q, x = ix2 p q := ⟨x 0, x 1, funext fun e => by fin_cases e <;> rfl⟩
  obtain rfl : j = q := Fin.ext h1
  exact pre_val _ x0 x1 p j i fun k => ldi2 x0 _ _ _ _ _ _ h0 (Nat.zero_add _).symm

set_option maxHeartbeats 1600000 in
theorem outC (c : Dev nD) (t : Fin cfg0.N) (h0 : ¬t.val % 11 = 0) (h1 : ¬(1 ≤ t.val % 11 ∧ t.val % 11 ≤ 9)) (h2 : t.val % 11 = 10)
    (xs : Fin 1024 → Fin 2048 → EReal) (acc : Vec Ideal S1024x2048 .f32)
    (hxs : ∀ i k, (outsAt0 m c (t.val - 1) (Nat.lt_of_le_of_lt (Nat.sub_le _ _) t.isLt)).2 (ix2 i k) = xs i k)
    (hacc : (outsAt0 m c (t.val - 1) (Nat.lt_of_le_of_lt (Nat.sub_le _ _) t.isLt)).1 = acc)
    (i : Fin 1024) (j : Fin 2048) :
    (outsAt0 m c t.val t.isLt).1 (ix2 i j) = POST (iblk m c 0 t) (iblk m c 5 t)
      (LAST acc xs (iblk m c 2 t) (iblk m c 3 t) (iblk m c 4 t)) i j := by
  rw [outsAt0_C m c t h0 h1 h2]
  frame_out
  rw [hacc]
  simp only [e31, e33, e36, e37, e38, e35, e40, e47, e48, e49, e50, e51, e52, e46, e62, e66, e67, e68, e71, e65, e70, e81, e82, e83, e84, e85, e79, e87, e42, e77, e88, e54, e60, e76, e4]
  generalize hH : k0_pay29 (F := Ideal) _ _ _ _ _ = H
  have hHv : ∀ i l, H (ix2 i l) = HID xs (iblk m c 2 t) (iblk m c 3 t) i l := by
    intro i l
    rw [← hH]
    exact hid_ld _ xs (fun i k => (congrFun (xs_read _ _) _).trans (hxs i k)) _ _ _ _ i l
  clear hH
  refine Eq.trans ((?_ : Inv (LAST acc xs (iblk m c 2 t) (iblk m c 3 t) (iblk m c 4 t)) (POST (iblk m c 0 t) (iblk m c 5 t)
      (LAST acc xs (iblk m c 2 t) (iblk m c 3 t) (iblk m c 4 t))) _ 8 4 0) i j (Or.inl i.isLt)) (if_pos i.isLt)
  refine Inv.post 7 4 (by rfl) (by decide) _ _ _ _ ?_ (fun hc => post_ld _ _ _ _ _ _ _ _ _ _ _ _ hc)
  refine Inv.post 6 4 (by rfl) (by decide) _ _ _ _ ?_ (fun hc => post_ld _ _ _ _ _ _ _ _ _ _ _ _ hc)
  refine Inv.next ?_
  refine Inv.mm 6 3 7 rfl rfl rfl _ _ (fun p q hp hq => tile3 H xs _ _ hHv acc _ _ _ _ p q hp hq) ?_
  refine Inv.mm 6 3 6 rfl rfl rfl _ _ (fun p q hp hq => tile3 H xs _ _ hHv acc _ _ _ _ p q hp hq) ?_
  refine Inv.mm 6 3 5 rfl rfl rfl _ _ (fun p q hp hq => tile3 H xs _ _ hHv acc _ _ _ _ p q hp hq) ?_
  refine Inv.mm 6 3 4 rfl rfl rfl _ _ (fun p q hp hq => tile3 H xs _ _ hHv acc _ _ _ _ p q hp hq) ?_
  refine Inv.mm 6 3 3 rfl rfl rfl _ _ (fun p q hp hq => tile3 H xs _ _ hHv acc _ _ _ _ p q hp hq) ?_
  refine Inv.mm 6 3 2 rfl rfl rfl _ _ (fun p q hp hq => tile3 H xs _ _ hHv acc _ _ _ _ p q hp hq) ?_
  refine Inv.mm 6 3 1 rfl rfl rfl _ _ (fun p q hp hq => tile3 H xs _ _ hHv acc _ _ _ _ p q hp hq) ?_
  refine Inv.mm 6 3 0 rfl rfl rfl _ _ (fun p q hp hq => tile3 H xs _ _ hHv acc _ _ _ _ p q hp hq) ?_
  refine Inv.post 5 3 (by rfl) (by decide) _ _ _ _ ?_ (fun hc => post_ld _ _ _ _ _ _ _ _ _ _ _ _ hc)
  refine Inv.post 4 3 (by rfl) (by decide) _ _ _ _ ?_ (fun hc => post_ld _ _ _ _ _ _ _ _ _ _ _ _ hc)
  refine Inv.next ?_
  refine Inv.mm 4 2 7 rfl rfl rfl _ _ (fun p q hp hq => tile2 H xs _ _ hHv acc _ _ _ _ p q hp hq) ?_
  refine Inv.mm 4 2 6 rfl rfl rfl _ _ (fun p q hp hq => tile2 H xs _ _ hHv acc _ _ _ _ p q hp hq) ?_
  refine Inv.mm 4 2 5 rfl rfl rfl _ _ (fun p q hp hq => tile2 H xs _ _ hHv acc _ _ _ _ p q hp hq) ?_
  refine Inv.mm 4 2 4 rfl rfl rfl _ _ (fun p q hp hq => tile2 H xs _ _ hHv acc _ _ _ _ p q hp hq) ?_
  refine Inv.mm 4 2 3 rfl rfl rfl _ _ (fun p q hp hq => tile2 H xs _ _ hHv acc _ _ _ _ p q hp hq) ?_
  refine Inv.mm 4 2 2 rfl rfl rfl _ _ (fun p q hp hq => tile2 H xs _ _ hHv acc _ _ _ _ p q hp hq) ?_
  refine Inv.mm 4 2 1 rfl rfl rfl _ _ (fun p q hp hq => tile2 H xs _ _ hHv acc _ _ _ _ p q hp hq) ?_
  refine Inv.mm 4 2 0 rfl rfl rfl _ _ (fun p q hp hq => tile2 H xs _ _ hHv acc _ _ _ _ p q hp hq) ?_
  refine Inv.post 3 2 (by rfl) (by decide) _ _ _ _ ?_ (fun hc => post_ld _ _ _ _ _ _ _ _ _ _ _ _ hc)
  refine Inv.post 2 2 (by rfl) (by decide) _ _ _ _ ?_ (fun hc => post_ld _ _ _ _ _ _ _ _ _ _ _ _ hc)
  refine Inv.next ?_
  refine Inv.mm 2 1 7 rfl rfl rfl _ _ (fun p q hp hq => tile1 H xs _ _ hHv acc _ _ _ _ p q hp hq) ?_
  refine Inv.mm 2 1 6 rfl rfl rfl _ _ (fun p q hp hq => tile1 H xs _ _ hHv acc _ _ _ _ p q hp hq) ?_
  refine Inv.mm 2 1 5 rfl rfl rfl _ _ (fun p q hp hq => tile1 H xs _ _ hHv acc _ _ _ _ p q hp hq) ?_
  refine Inv.mm 2 1 4 rfl rfl rfl _ _ (fun p q hp hq => tile1 H xs _ _ hHv acc _ _ _ _ p q hp hq) ?_
  refine Inv.mm 2 1 3 rfl rfl rfl _ _ (fun p q hp hq => tile1 H xs _ _ hHv acc _ _ _ _ p q hp hq) ?_
  refine Inv.mm 2 1 2 rfl rfl rfl _ _ (fun p q hp hq => tile1 H xs _ _ hHv acc _ _ _ _ p q hp hq) ?_
  refine Inv.mm 2 1 1 rfl rfl rfl _ _ (fun p q hp hq => tile1 H xs _ _ hHv acc _ _ _ _ p q hp hq) ?_
  refine Inv.mm 2 1 0 rfl rfl rfl _ _ (fun p q hp hq => tile1 H xs _ _ hHv acc _ _ _ _ p q hp hq) ?_
  refine Inv.post 1 1 (by rfl) (by decide) _ _ _ _ ?_ (fun hc => post_ld _ _ _ _ _ _ _ _ _ _ _ _ hc)
  refine Inv.post 0 1 (by rfl) (by decide) _ _ _ _ ?_ (fun hc => post_ld _ _ _ _ _ _ _ _ _ _ _ _ hc)
  refine Inv.next ?_
  refine Inv.mm 0 0 7 rfl rfl rfl _ _ (fun p q hp hq => tile0 H xs _ _ hHv acc _ _ _ _ p q hp hq) ?_
  refine Inv.mm 0 0 6 rfl rfl rfl _ _ (fun p q hp hq => tile0 H xs _ _ hHv acc _ _ _ _ p q hp hq) ?_
  refine Inv.mm 0 0 5 rfl rfl rfl _ _ (fun p q hp hq => tile0 H xs _ _ hHv acc _ _ _ _ p q hp hq) ?_
  refine Inv.mm 0 0 4 rfl rfl rfl _ _ (fun p q hp hq => tile0 H xs _ _ hHv acc _ _ _ _ p q hp hq) ?_
  refine Inv.mm 0 0 3 rfl rfl rfl _ _ (fun p q hp hq => tile0 H xs _ _ hHv acc _ _ _ _ p q hp hq) ?_
  refine Inv.mm 0 0 2 rfl rfl rfl _ _ (fun p q hp hq => tile0 H xs _ _ hHv acc _ _ _ _ p q hp hq) ?_
  refine Inv.mm 0 0 1 rfl rfl rfl _ _ (fun p q hp hq => tile0 H xs _ _ hHv acc _ _ _ _ p q hp hq) ?_
  refine Inv.mm 0 0 0 rfl rfl rfl _ _ (fun p q hp hq => tile0 H xs _ _ hHv acc _ _ _ _ p q hp hq) ?_
  exact Inv.nil _ _

end Cert.Kernel2Ideal.Ffn
-- ==== Proof.Ffn.Run.lean ====
module

public import proofs.«01_k».proof.Proof.Gen.Kernel2Ideal.Value
public import proofs.«01_k».proof.Proof.Ffn.Out
public import Idealize.ShloMosaic.Lib.Pipeline.ValueKit
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Kernel2Ideal.Ffn
open Cert.Kernel2Ideal Cert.Kernel2Ideal.Gen
variable (m : (ℓ : Loc nD τ sig) → Buf (Elt Ideal) ℓ)

theorem scA (c : Dev nD) (t : Fin cfg0.N) (h0 : t.val % 11 = 0) (h1 : ¬(1 ≤ t.val % 11 ∧ t.val % 11 ≤ 9)) (h2 : ¬t.val % 11 = 10)
    (i : Fin 1024) (j : Fin 2048) :
    (outsAt0 m c t.val t.isLt).2 (ix2 i j) = XN (iblk m c 0 t) (iblk m c 1 t) i j := by
  rw [outsAt0_A m c t h0 h1 h2]
  frame_out
  simp only [e6, e7, e8, e9, e10, e11, e12]
  canon_tiles x h
  · exact pieceS _ _ _ _ x i j h0 h1
  · exact pieceS _ _ _ _ x i j h0 h1
  · exact pieceS _ _ _ _ x i j h0 h1
  · exact pieceS _ _ _ _ x i j h0 h1
  · exact pieceS _ _ _ _ x i j h0 h1
  · exact pieceS _ _ _ _ x i j h0 h1
  · exact pieceS _ _ _ _ x i j h0 h1
  · exact pieceS _ _ _ _ x i j (h0.trans (Nat.zero_add _).symm) h1

theorem outA (c : Dev nD) (t : Fin cfg0.N) (h0 : t.val % 11 = 0) (h1 : ¬(1 ≤ t.val % 11 ∧ t.val % 11 ≤ 9)) (h2 : ¬t.val % 11 = 10)
    (i : Fin 1024) (j : Fin 2048) :
    (outsAt0 m c t.val t.isLt).1 (ix2 i j) = PART (XN (iblk m c 0 t) (iblk m c 1 t)) (iblk m c 2 t) (iblk m c 3 t) (iblk m c 4 t) i j := by
  rw [outsAt0_A m c t h0 h1 h2]
  frame_out
  simp only [e6, e7, e8, e9, e10, e11, e12, e13, e15, e16, e17, e18, e19, e1, e2]
  generalize hH : k0_pay29 (F := Ideal) _ _ _ _ _ = H
  have hHv : ∀ i l, H (ix2 i l) = HID (XN (iblk m c 0 t) (iblk m c 1 t)) (iblk m c 2 t) (iblk m c 3 t) i l := by
    intro i l
    rw [← hH]
    refine hid_ld _ _ (fun i k => ?_) _ _ _ _ i l
    refine (congrFun (View.readCov_eq_canon' (View.whole cc0_scratch0) _ _) _).trans ?_
    refine (congrArg (View.canon _) (?_ : _ = ix2 i k)).trans ?_
    · exact funext fun x => Fin.ext (by fin_cases x; exacts [(Nat.zero_add _).trans (Nat.one_mul _), (Nat.zero_add _).trans (Nat.one_mul _)])
    canon_tiles x h
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k (h0.trans (Nat.zero_add _).symm) h1
  clear hH
  canon_tiles x h
  · exact pieceA H _ _ _ hHv _ _ _ x i j h0 h1
  · exact pieceA H _ _ _ hHv _ _ _ x i j h0 h1
  · exact pieceA H _ _ _ hHv _ _ _ x i j h0 h1
  · exact pieceA H _ _ _ hHv _ _ _ x i j h0 h1
  · exact pieceA H _ _ _ hHv _ _ _ x i j h0 h1
  · exact pieceA H _ _ _ hHv _ _ _ x i j h0 h1
  · exact pieceA H _ _ _ hHv _ _ _ x i j h0 h1
  · exact pieceA H _ _ _ hHv _ _ _ x i j h0 (h1.trans (Nat.zero_add _).symm)

theorem outB (c : Dev nD) (t : Fin cfg0.N) (h0 : ¬t.val % 11 = 0) (h1 : (1 ≤ t.val % 11 ∧ t.val % 11 ≤ 9)) (h2 : ¬t.val % 11 = 10)
    (xs : Fin 1024 → Fin 2048 → EReal) (acc : Vec Ideal S1024x2048 .f32)
    (hxs : ∀ i k, (outsAt0 m c (t.val - 1) (Nat.lt_of_le_of_lt (Nat.sub_le _ _) t.isLt)).2 (ix2 i k) = xs i k)
    (hacc : (outsAt0 m c (t.val - 1) (Nat.lt_of_le_of_lt (Nat.sub_le _ _) t.isLt)).1 = acc)
    (i : Fin 1024) (j : Fin 2048) :
    (outsAt0 m c t.val t.isLt).1 (ix2 i j) = LAST acc xs (iblk m c 2 t) (iblk m c 3 t) (iblk m c 4 t) i j := by
  rw [outsAt0_B m c t h0 h1 h2]
  frame_out
  rw [hacc]
  simp only [e20, e22, e23, e24, e25, e26, e27, e3]
  generalize hH : k0_pay29 (F := Ideal) _ _ _ _ _ = H
  have hHv : ∀ i l, H (ix2 i l) = HID xs (iblk m c 2 t) (iblk m c 3 t) i l := by
    intro i l
    rw [← hH]
    exact hid_ld _ xs (fun i k => (congrFun (xs_read _ _) _).trans (hxs i k)) _ _ _ _ i l
  clear hH
  canon_tiles x h
  · exact pieceB H _ _ _ hHv _ _ _ _ _ x i j h0 h1
  · exact pieceB H _ _ _ hHv _ _ _ _ _ x i j h0 h1
  · exact pieceB H _ _ _ hHv _ _ _ _ _ x i j h0 h1
  · exact pieceB H _ _ _ hHv _ _ _ _ _ x i j h0 h1
  · exact pieceB H _ _ _ hHv _ _ _ _ _ x i j h0 h1
  · exact pieceB H _ _ _ hHv _ _ _ _ _ x i j h0 h1
  · exact pieceB H _ _ _ hHv _ _ _ _ _ x i j h0 h1
  · exact pieceB H _ _ _ hHv _ _ _ _ _ x i j h0 (h1.trans (Nat.zero_add _).symm)

theorem scB (c : Dev nD) (t : Fin cfg0.N) (h0 : ¬t.val % 11 = 0) :
    (outsAt0 m c t.val t.isLt).2 = (outsAt0 m c (t.val - 1) (Nat.lt_of_le_of_lt (Nat.sub_le _ _) t.isLt)).2 := by
  by_cases h2 : t.val % 11 = 10
  · rw [outsAt0_C m c t h0 (by omega) h2]
    rfl
  · rw [outsAt0_B m c t h0 (by omega) h2]
    rfl

end Cert.Kernel2Ideal.Ffn
-- ==== Proof.Ffn.Fin.lean ====
module

public import proofs.«01_k».proof.Proof.Ffn.Run
public import Idealize.ShloMosaic.Lib.Claim
public import Idealize.ShloMosaic.Lib.Pipeline.ValueKit
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Kernel2Ideal.Ffn
open Cert.Kernel2Ideal Cert.Kernel2Ideal.Gen
variable (m : (ℓ : Loc nD τ sig) → Buf (Elt Ideal) ℓ)

theorem idx : ∀ t : Fin cfg0.N, win0_0.index t = ![t.val / 11, 0] ∧ win0_1.index t = ![0, 0] ∧ win0_2.index t = ![1, 0, t.val % 11] ∧
    win0_3.index t = ![1, 0, t.val % 11] ∧ win0_4.index t = ![1, t.val % 11, 0] ∧ win0_5.index t = ![0, 0] ∧
    win0_6.index t = ![t.val / 11, 0] :=
  (by decide +kernel : ∀ t : Fin grid0.N, _)

/-- The arrays the windows stage, at their coordinates. -/
def hG (c : Dev nD) (R : Fin 32768) (k : Fin 2048) : EReal := V m c main_v0 (ix2 R k)
def gpre (c : Dev nD) (k : Fin 2048) : EReal := V m c main_v3 (ix2 0 k)
def gpost (c : Dev nD) (k : Fin 2048) : EReal := V m c main_v9 (ix2 0 k)
def wg (c : Dev nD) (k : Fin 2048) (l : Fin 5632) : EReal := V m c main_v4 (ix3 1 k l)
def wu (c : Dev nD) (k : Fin 2048) (l : Fin 5632) : EReal := V m c main_v5 (ix3 1 k l)
def wd (c : Dev nD) (l : Fin 5632) (j : Fin 2048) : EReal := V m c main_v6 (ix3 1 l j)

theorem r0 (c : Dev nD) (t : Fin cfg0.N) (i : Fin 1024) (k : Fin 2048) (R : Fin 32768) (hR : R.val = t.val / 11 * 1024 + i.val) :
    iblk m c 0 t (ix2 i k) = hG m c R k := by
  unfold hG
  blk_simp [iblk, idx t]
  blk_ext [idx t]
theorem r1 (c : Dev nD) (t : Fin cfg0.N) (k : Fin 2048) : iblk m c 1 t (ix2 0 k) = gpre m c k := by
  unfold gpre
  blk_ext [iblk, idx t]
theorem r5 (c : Dev nD) (t : Fin cfg0.N) (k : Fin 2048) : iblk m c 5 t (ix2 0 k) = gpost m c k := by
  unfold gpost
  blk_ext [iblk, idx t]
theorem r2 (c : Dev nD) (t : Fin cfg0.N) (k : Fin 2048) (l : Fin 512) (L : Fin 5632) (hL : L.val = 512 * (t.val % 11) + l.val) :
    iblk m c 2 t (ix3 0 k l) = wg m c k L := by
  unfold wg
  blk_ext [iblk, idx t]
theorem r3 (c : Dev nD) (t : Fin cfg0.N) (k : Fin 2048) (l : Fin 512) (L : Fin 5632) (hL : L.val = 512 * (t.val % 11) + l.val) :
    iblk m c 3 t (ix3 0 k l) = wu m c k L := by
  unfold wu
  blk_ext [iblk, idx t]
theorem r4 (c : Dev nD) (t : Fin cfg0.N) (l : Fin 512) (j : Fin 2048) (L : Fin 5632) (hL : L.val = 512 * (t.val % 11) + l.val) :
    iblk m c 4 t (ix3 0 l j) = wd m c L j := by
  unfold wd
  blk_ext [iblk, idx t]

/-- A row's norm with its gain. -/
def xn (c : Dev nD) (R : Fin 32768) (k : Fin 2048) : EReal := hG m c R k * SC (hG m c R) * gpre m c k
/-- A hidden value. -/
def hid (c : Dev nD) (R : Fin 32768) (L : Fin 5632) : EReal :=
  SIL (∑ k, xn m c R k * wg m c k L) * ∑ k, xn m c R k * wu m c k L
def part (c : Dev nD) (R : Fin 32768) (s : ℕ) (j : Fin 2048) : EReal :=
  ∑ l : Fin 512, hid m c R ⟨(512 * s + l.val) % 5632, Nat.mod_lt _ (by decide)⟩ * wd m c ⟨(512 * s + l.val) % 5632, Nat.mod_lt _ (by decide)⟩ j
def acc (c : Dev nD) (R : Fin 32768) (j : Fin 2048) : EReal := ∑ L : Fin 5632, hid m c R L * wd m c L j
def res (c : Dev nD) (R : Fin 32768) (j : Fin 2048) : EReal :=
  hG m c R j + acc m c R j * SC (acc m c R) * gpost m c j

theorem xn_eq (c : Dev nD) (t : Fin cfg0.N) (i : Fin 1024) (k : Fin 2048) (R : Fin 32768) (hR : R.val = t.val / 11 * 1024 + i.val) :
    XN (iblk m c 0 t) (iblk m c 1 t) i k = xn m c R k := by
  rw [XN, xn, r0 m c t i k R hR, r1, show (fun k => iblk m c 0 t (ix2 i k)) = hG m c R from funext fun k => r0 m c t i k R hR]

theorem part_eq (c : Dev nD) (t : Fin cfg0.N) (XS : Fin 1024 → Fin 2048 → EReal) (i : Fin 1024) (j : Fin 2048) (R : Fin 32768)
    (hXS : ∀ k, XS i k = xn m c R k) :
    PART XS (iblk m c 2 t) (iblk m c 3 t) (iblk m c 4 t) i j = part m c R (t.val % 11) j := by
  have hm : t.val % 11 < 11 := Nat.mod_lt _ (by decide)
  refine Finset.sum_congr rfl fun l _ => ?_
  have hL : (512 * (t.val % 11) + l.val) % 5632 = 512 * (t.val % 11) + l.val := Nat.mod_eq_of_lt (by have := l.isLt; omega)
  rw [r4 m c t l j ⟨(512 * (t.val % 11) + l.val) % 5632, Nat.mod_lt _ (by decide)⟩ hL]
  refine congrArg (· * _) ?_
  unfold HID hid
  rw [Finset.sum_congr rfl fun k _ => congrArg₂ (· * ·) (hXS k) (r2 m c t k l ⟨(512 * (t.val % 11) + l.val) % 5632, Nat.mod_lt _ (by decide)⟩ hL),
    Finset.sum_congr rfl fun k _ => congrArg₂ (· * ·) (hXS k) (r3 m c t k l ⟨(512 * (t.val % 11) + l.val) % 5632, Nat.mod_lt _ (by decide)⟩ hL)]

theorem sc_run (c : Dev nD) : ∀ (s : ℕ) (t : Fin cfg0.N), t.val % 11 = s → ∀ (i : Fin 1024) (k : Fin 2048) (R : Fin 32768),
    R.val = t.val / 11 * 1024 + i.val → (outsAt0 m c t.val t.isLt).2 (ix2 i k) = xn m c R k := by
  intro s
  induction s with
  | zero =>
    intro t hs i k R hR
    rw [scA m c t hs (by omega) (by omega), xn_eq m c t i k R hR]
  | succ s ih =>
    intro t hs i k R hR
    rw [scB m c t (by omega)]
    exact ih ⟨t.val - 1, Nat.lt_of_le_of_lt (Nat.sub_le _ _) t.isLt⟩ (by dsimp only; omega) i k R (by dsimp only; omega)

theorem acc_run (c : Dev nD) : ∀ (s : ℕ) (t : Fin cfg0.N), s ≤ 9 → t.val % 11 = s → ∀ (i : Fin 1024) (j : Fin 2048) (R : Fin 32768),
    R.val = t.val / 11 * 1024 + i.val →
    (outsAt0 m c t.val t.isLt).1 (ix2 i j) = ∑ s' ∈ Finset.range (s + 1), part m c R s' j := by
  intro s
  induction s with
  | zero =>
    intro t h9 hs i j R hR
    rw [outA m c t hs (by omega) (by omega), part_eq m c t _ i j R fun k => xn_eq m c t i k R hR, hs, Finset.sum_range_one]
  | succ s ih =>
    intro t h9 hs i j R hR
    rw [outB m c t (by omega) (by omega) (by omega) _ _ (fun _ _ => rfl) rfl, LAST, Finset.sum_range_succ,
      ih ⟨t.val - 1, Nat.lt_of_le_of_lt (Nat.sub_le _ _) t.isLt⟩ (by omega) (by dsimp only; omega) i j R (by dsimp only; omega), part_eq m c t _ i j R, hs]
    exact fun k => sc_run m c s ⟨t.val - 1, Nat.lt_of_le_of_lt (Nat.sub_le _ _) t.isLt⟩ (by dsimp only; omega) i k R (by dsimp only; omega)

theorem acc_sum (c : Dev nD) (R : Fin 32768) (j : Fin 2048) : ∑ s' ∈ Finset.range 11, part m c R s' j = acc m c R j := by
  rw [Finset.sum_range]
  refine Eq.trans ?_ (Fin.sum_univ_tiles 11 512 rfl fun L : Fin 5632 => hid m c R L * wd m c L j).symm
  refine Finset.sum_congr rfl fun s _ => Finset.sum_congr rfl fun l _ => ?_
  have e : (⟨(512 * s.val + l.val) % 5632, Nat.mod_lt _ (by decide)⟩ : Fin 5632) = ⟨s.val * 512 + l.val, by omega⟩ :=
    Fin.ext (by dsimp only; omega)
  rw [e]

theorem run_end (c : Dev nD) (t : Fin cfg0.N) (h : t.val % 11 = 10) (i : Fin 1024) (j : Fin 2048) (R : Fin 32768)
    (hR : R.val = t.val / 11 * 1024 + i.val) : (outsAt0 m c t.val t.isLt).1 (ix2 i j) = res m c R j := by
  have e : LAST (outsAt0 m c (t.val - 1) (Nat.lt_of_le_of_lt (Nat.sub_le _ _) t.isLt)).1
      (fun i k => (outsAt0 m c (t.val - 1) (Nat.lt_of_le_of_lt (Nat.sub_le _ _) t.isLt)).2 (ix2 i k))
      (iblk m c 2 t) (iblk m c 3 t) (iblk m c 4 t) i = acc m c R := by
    funext j
    rw [← acc_sum, LAST, Finset.sum_range_succ, acc_run m c 9 ⟨t.val - 1, Nat.lt_of_le_of_lt (Nat.sub_le _ _) t.isLt⟩ (by omega) (by dsimp only; omega) i j R (by dsimp only; omega),
      part_eq m c t _ i j R, h]
    exact fun k => sc_run m c 9 ⟨t.val - 1, Nat.lt_of_le_of_lt (Nat.sub_le _ _) t.isLt⟩ (by dsimp only; omega) i k R (by dsimp only; omega)
  rw [outC m c t (by omega) (by omega) h _ _ (fun _ _ => rfl) rfl, POST, e, res, r0 m c t i j R hR, r5]

/-- The result array at an index. -/
theorem final (c : Dev nD) (R : Fin 32768) (j : Fin 2048) : (dats m 0 c).arrAt 6 (cfgs 0).N (ix2 R j) = res m c R j := by
  refine congrFun (?_ : (dats m 0 c).arrAt 6 (cfgs 0).N = fun y : S32768x2048.Idx => res m c (y 0) (y 1)) (ix2 R j)
  refine (dats m 0 c).arrAt_eq_of_covers 6 _ (by decide +kernel) fun t hf y => ?_
  blk_simp
  rw [after0_6]
  have h10 : t.val % 11 = 10 := (flush0_6 t).mp hf
  have e0 : ((win0_6.blk t).view.emb y 0).val = t.val / 11 * 1024 + (y 0).val := by
    blk_simp [idx t]
  have e1 : ((win0_6.blk t).view.emb y 1).val = (y 1).val := by
    blk_simp [idx t]
  have ey : y = ix2 (y 0) (y 1) := funext fun e => by fin_cases e <;> rfl
  have e1' : (win0_6.blk t).view.emb y 1 = y 1 := Fin.ext e1
  rw [e1', ey]
  exact run_end m c t h10 (y 0) (y 1) _ e0

theorem hG_eq (c : Dev nD) (R : Fin 32768) (k : Fin 2048) (b : Fin 2) (n : Fin 16384) (hR : R.val = b.val * 16384 + n.val) :
    hG m c R k = m ((c : Thread nD τ).loc main_arg0) (ix3 b n k) := by
  unfold hG
  entry_read
  pointwise []
  have hb : b = ⟨R.val / 16384, by omega⟩ := Fin.ext (by dsimp only; omega)
  have hn : n = ⟨R.val % 16384, by omega⟩ := Fin.ext (by dsimp only; omega)
  exact (congrArg₂ (fun b n => m ((c : Thread nD τ).loc main_arg0) (ix3 b n k)) hb hn).symm
theorem gpre_eq (c : Dev nD) (k : Fin 2048) : gpre m c k = m ((c : Thread nD τ).loc main_arg1) (ix2 1 k) := by
  unfold gpre
  entry_read
  pointwise []
theorem gpost_eq (c : Dev nD) (k : Fin 2048) : gpost m c k = m ((c : Thread nD τ).loc main_arg2) (ix2 1 k) := by
  unfold gpost
  entry_read
  pointwise []
theorem wg_eq (c : Dev nD) (k : Fin 2048) (l : Fin 5632) : wg m c k l = m ((c : Thread nD τ).loc main_arg3) (ix3 1 k l) := by
  unfold wg
  entry_read
  pointwise []
theorem wu_eq (c : Dev nD) (k : Fin 2048) (l : Fin 5632) : wu m c k l = m ((c : Thread nD τ).loc main_arg4) (ix3 1 k l) := by
  unfold wu
  entry_read
  pointwise []
theorem wd_eq (c : Dev nD) (l : Fin 5632) (j : Fin 2048) : wd m c l j = m ((c : Thread nD τ).loc main_arg5) (ix3 1 l j) := by
  unfold wd
  entry_read
  pointwise []
end Cert.Kernel2Ideal.Ffn
-- ==== Proof.Ffn.Ref.lean ====
module

public import proofs.«01_k».proof.Proof.Gen.Reference2Ideal.Read
public import proofs.«01_k».proof.Proof.Ffn.Pay
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Reference2Ideal.Ffn
open Cert.Reference2Ideal Cert.Reference2Ideal.Read
open Cert.Kernel2Ideal.Ffn (SC SIL)

theorem zero32 : Ideal.ofBits FTy.f32 0#32 = 0 := by simp [Ideal.ofBits, Ideal.ieee]
variable (x0 : Vec Ideal S2x16384x2048 .f32) (x1 x2 : Vec Ideal S2x2048 .f32) (x3 x4 : Vec Ideal S2x2048x5632 .f32)
  (x5 : Vec Ideal S2x5632x2048 .f32)

theorem v14_at (b : Fin 2) (n : Fin 16384) (k : Fin 2048) :
    val_main_v14 (F := Ideal) x0 x1 (ix3 b n k) = x0 (ix3 b n k) * SC (fun k => x0 (ix3 b n k)) * x1 (ix2 1 k) := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, SC, zero32]

theorem v17_at (b : Fin 2) (n : Fin 16384) (l : Fin 5632) :
    val_main_v17 (F := Ideal) x0 x1 x3 (ix3 b n l) = ∑ k : Fin 2048, val_main_v14 (F := Ideal) x0 x1 (ix3 b n k) * x3 (ix3 1 k l) := by
  unfold val_main_v17
  generalize val_main_v14 (F := Ideal) x0 x1 = y
  pointwise [val_main_v16, val_main_v15]

theorem v21_at (b : Fin 2) (n : Fin 16384) (l : Fin 5632) :
    val_main_v21 (F := Ideal) x0 x1 x4 (ix3 b n l) = ∑ k : Fin 2048, val_main_v14 (F := Ideal) x0 x1 (ix3 b n k) * x4 (ix3 1 k l) := by
  unfold val_main_v21
  generalize val_main_v14 (F := Ideal) x0 x1 = y
  pointwise [val_main_v20, val_main_v19]

theorem v18_at (b : Fin 2) (n : Fin 16384) (l : Fin 5632) :
    val_main_v18 (F := Ideal) x0 x1 x3 (ix3 b n l) = SIL (val_main_v17 (F := Ideal) x0 x1 x3 (ix3 b n l)) := by
  unfold val_main_v18 val_main_call0_v5 val_main_call0_v3 val_main_call0_v1 val_main_call0_v0
  generalize val_main_v17 (F := Ideal) x0 x1 x3 = y
  pointwise [val_main_call0_v2, val_main_call0_v4, val_main_call0_cst, val_main_call0_cst_0, SIL]

theorem v25_at (b : Fin 2) (n : Fin 16384) (j : Fin 2048) :
    val_main_v25 (F := Ideal) x0 x1 x3 x4 x5 (ix3 b n j) =
      ∑ l : Fin 5632, val_main_v22 (F := Ideal) x0 x1 x3 x4 (ix3 b n l) * x5 (ix3 1 l j) := by
  unfold val_main_v25
  generalize val_main_v22 (F := Ideal) x0 x1 x3 x4 = y
  pointwise [val_main_v24, val_main_v23]

theorem v41_at (b : Fin 2) (n : Fin 16384) (j : Fin 2048) :
    val_main_v41 (F := Ideal) x0 x1 x2 x3 x4 x5 (ix3 b n j) = x0 (ix3 b n j) + val_main_v25 (F := Ideal) x0 x1 x3 x4 x5 (ix3 b n j) *
      SC (fun k => val_main_v25 (F := Ideal) x0 x1 x3 x4 x5 (ix3 b n k)) * x2 (ix2 1 j) := by
  unfold val_main_v41 val_main_v40 val_main_v37 val_main_v36 val_main_v35 val_main_v34 val_main_v32 val_main_v30 val_main_v29 val_main_v28
  generalize val_main_v25 (F := Ideal) x0 x1 x3 x4 x5 = y
  pointwise [val_main_v39, val_main_v38, val_main_v33, val_main_v31, val_main_v27, val_main_v26,
    val_main_cst_2, val_main_cst_3, val_main_cst_4, SC, zero32]

theorem v42_at (R : Fin 32768) (j : Fin 2048) (b : Fin 2) (n : Fin 16384) (hR : R.val = b.val * 16384 + n.val) :
    val_main_v42 (F := Ideal) x0 x1 x2 x3 x4 x5 (ix2 R j) = val_main_v41 (F := Ideal) x0 x1 x2 x3 x4 x5 (ix3 b n j) := by
  unfold val_main_v42
  generalize val_main_v41 (F := Ideal) x0 x1 x2 x3 x4 x5 = y
  pointwise []
  have hb : b = ⟨R.val / 16384, by omega⟩ := Fin.ext (by dsimp only; omega)
  have hn : n = ⟨R.val % 16384, by omega⟩ := Fin.ext (by dsimp only; omega)
  exact (congrArg₂ (fun b n => y (ix3 b n j)) hb hn).symm

end Cert.Reference2Ideal.Ffn
-- ==== Proof.Ffn.Alg.lean ====
module

public import proofs.«01_k».proof.Proof.Ffn.Fin
public import proofs.«01_k».proof.Proof.Ffn.Ref
public import proofs.«01_k».proof.Proof.Gen.Kernel2Ideal.Frame
public import proofs.«01_k».proof.Proof.Gen.Reference2Ideal.Run
public import proofs.«01_k».proof.Defs
public import Idealize.ShloMosaic.Lib.Claim

@[expose] public section

set_option maxRecDepth 16384
noncomputable section
open Idealize.ShloMosaic Idealize.ShloMosaic.TcCoe Idealize.SL.Sem
namespace Cert.Kernel2Ideal.Ffn
open Cert.Kernel2Ideal Cert.Kernel2Ideal.Gen
variable (m : (ℓ : Loc nD τ sig) → Buf (Elt Ideal) ℓ)

open Cert.Reference2Ideal.Read Cert.Reference2Ideal.Ffn in
/-- The kernel's value is the reference's. -/
theorem res_eq (c : Dev nD) (R : Fin 32768) (j : Fin 2048) :
    val_main_v42 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 R j) = res m c R j := by
  have hR : R.val = R.val / 16384 * 16384 + R.val % 16384 := by omega
  obtain ⟨b, hb⟩ : ∃ b : Fin 2, b.val = R.val / 16384 := ⟨⟨R.val / 16384, by omega⟩, rfl⟩
  obtain ⟨n, hn⟩ : ∃ n : Fin 16384, n.val = R.val % 16384 := ⟨⟨R.val % 16384, by omega⟩, rfl⟩
  rw [← hb, ← hn] at hR
  have hh : (fun k => hG m c R k) = fun k => m ((c : Thread nD τ).loc main_arg0) (ix3 b n k) :=
    funext fun k => hG_eq m c R k b n hR
  have hx : ∀ k, val_main_v14 (F := Ideal) (m ((c : Thread nD τ).loc main_arg0)) (m ((c : Thread nD τ).loc main_arg1)) (ix3 b n k) = xn m c R k := by
    intro k
    rw [v14_at, xn, gpre_eq, hG_eq m c R k b n hR, show hG m c R = _ from hh]
  have hu : ∀ l, val_main_v22 (F := Ideal) (m ((c : Thread nD τ).loc main_arg0)) (m ((c : Thread nD τ).loc main_arg1))
      (m ((c : Thread nD τ).loc main_arg3)) (m ((c : Thread nD τ).loc main_arg4)) (ix3 b n l) = hid m c R l := by
    intro l
    refine (val_main_v22_apply _ _ _ _ _).trans ?_
    rw [v18_at, v17_at, v21_at, hid]
    exact congrArg₂ (fun x y : EReal => SIL x * y) (Finset.sum_congr rfl fun k _ => congrArg₂ (· * ·) (hx k) (wg_eq m c k l).symm)
      (Finset.sum_congr rfl fun k _ => congrArg₂ (· * ·) (hx k) (wu_eq m c k l).symm)
  have ha : ∀ j, val_main_v25 (F := Ideal) (m ((c : Thread nD τ).loc main_arg0)) (m ((c : Thread nD τ).loc main_arg1))
      (m ((c : Thread nD τ).loc main_arg3)) (m ((c : Thread nD τ).loc main_arg4)) (m ((c : Thread nD τ).loc main_arg5)) (ix3 b n j) = acc m c R j := by
    intro j
    rw [v25_at, acc]
    exact Finset.sum_congr rfl fun l _ => congrArg₂ (· * ·) (hu l) (wd_eq m c l j).symm
  rw [v42_at _ _ _ _ _ _ R j b n hR, v41_at, res, ha, show (fun k => val_main_v25 (F := Ideal) _ _ _ _ _ (ix3 b n k)) = acc m c R from funext ha,
    hG_eq m c R j b n hR, gpost_eq]

theorem value : Cert.algebraic_Kernel2Ideal_Reference2Ideal := by
  pair_intro
  · run_from Cert.Kernel2Ideal.Gen.run_main m g
  · run_from Cert.Reference2Ideal.Value.run m' g'
    obtain ⟨a0, a1, a2, a3, a4, a5⟩ := hagree c
    rw [Cert.Reference2Ideal.Read.val_main_v42_eq, a0, a1, a2, a3, a4, a5]
    funext y
    have hy : y = ix2 (y 0) (y 1) := funext fun e => by fin_cases e <;> rfl
    exact (congrArg _ hy).trans ((res_eq m c (y 0) (y 1)).trans ((final m c (y 0) (y 1)).symm.trans (congrArg _ hy.symm)))
end Cert.Kernel2Ideal.Ffn
-- ==== Proof.Oproj.Out.lean ====
module

public import proofs.«01_k».proof.Proof.Gen.Kernel3Ideal.Value
public import proofs.«01_k».proof.Proof.Ffn.Pay
public import Idealize.ShloMosaic.Lib.Pipeline.ValueKit
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Kernel3Ideal.Oproj
open Cert.Kernel3Ideal Cert.Kernel3Ideal.Gen
open Cert.Kernel2Ideal.Ffn (SC)

theorem ldrow {n k : ℕ} {φ : EltTy} (x : (⟨2, ![n, k]⟩ : Shape).Idx → Elt Ideal φ) (off : Fin 2 → ℕ) (size : Fin 2 → ℕ) (inb)
    (y : (Rect.unit (s := ⟨2, ![n, k]⟩) off size inb).shape.Idx) (a : Fin n) (b : Fin k)
    (ha : a.val = off 0 + (y 0).val) (hb : b.val = off 1 + (y 1).val) :
    View.ld x (Rect.unit (s := ⟨2, ![n, k]⟩) off size inb) y = x (ix2 a b) :=
  View.ld_unit_apply_of x off size inb y _ (fun e => by fin_cases e; exacts [ha, hb])

/-- The projection of one row, with the bias. -/
def PROJ (x0 : Vec Ideal S1024x2048 .bf16) (x1 : Vec Ideal S2048x2048 .bf16) (x2 : Vec Ideal S1x2048 .f32)
    (i : Fin 1024) (j : Fin 2048) : EReal :=
  (∑ k : Fin 2048, x0 (ix2 i k) * x1 (ix2 k j)) + x2 (ix2 0 j)
/-- The finished row: the projection's norm and the residual. -/
def DONE (h : Vec Ideal S1024x2048 .f32) (g : Vec Ideal S1x2048 .f32) (M : Fin 1024 → Fin 2048 → EReal)
    (i : Fin 1024) (j : Fin 2048) : EReal :=
  h (ix2 i j) + M i j * SC (M i) * g (ix2 0 j)

theorem proj_at (x0 : Vec Ideal S1024x2048 .bf16) (x1 : Vec Ideal S2048x2048 .bf16) (x2 : Vec Ideal S1x2048 .f32)
    (i : Fin 1024) (j : Fin 2048) : k0_pay3 (F := Ideal) x0 x1 x2 (ix2 i j) = PROJ x0 x1 x2 i j := by
  pointwise [k0_pay3, PROJ]

theorem done_at (h o : Vec Ideal S128x2048 .f32) (g : Vec Ideal S1x2048 .f32) (p : Fin 128) (q : Fin 2048) :
    k0_pay4 (F := Ideal) h o g (ix2 p q) = h (ix2 p q) + o (ix2 p q) * SC (fun k => o (ix2 p k)) * g (ix2 0 q) := by
  pointwise [k0_pay4, SC]

section
variable (h o : Vec Ideal S128x2048 .f32) (g : Vec Ideal S1x2048 .f32)
theorem d6 : k0_pay6 (F := Ideal) (k0_pay5 (F := Ideal) h) o g = k0_pay4 (F := Ideal) h o g := rfl
theorem d7 : k0_pay7 (F := Ideal) h o g = k0_pay4 (F := Ideal) h o g := rfl
theorem d8 : k0_pay8 (F := Ideal) h o g = k0_pay4 (F := Ideal) h o g := rfl
theorem d9 : k0_pay9 (F := Ideal) h o g = k0_pay4 (F := Ideal) h o g := rfl
theorem d10 : k0_pay10 (F := Ideal) h o g = k0_pay4 (F := Ideal) h o g := rfl
theorem d1 : k0_pay1 (F := Ideal) (k0_pay11 (F := Ideal) h) (k0_pay12 (F := Ideal) o g) = k0_pay4 (F := Ideal) h o g := rfl
theorem d2 : k0_pay2 (F := Ideal) h o g = k0_pay4 (F := Ideal) h o g := rfl
end

/-- What a list of stores leaves: the first `128 * k` rows are finished, the others hold the projection. -/
def Stage (MM PO : Fin 1024 → Fin 2048 → EReal) (L : List (View.Piece (Elt Ideal) S1024x2048 .f32)) (k : ℕ) : Prop :=
  ∀ (i : Fin 1024) (j : Fin 2048), View.canon L (ix2 i j) = if i.val < 128 * k then PO i j else MM i j

theorem Stage.first (x0 : Vec Ideal S1024x2048 .bf16) (x1 : Vec Ideal S2048x2048 .bf16) (x2 : Vec Ideal S1x2048 .f32)
    (PO : Fin 1024 → Fin 2048 → EReal) (inb) :
    Stage (PROJ x0 x1 x2) PO [⟨Rect.unit (s := S1024x2048) ![0, 0] ![1024, 2048] inb, k0_pay3 (F := Ideal) x0 x1 x2⟩] 0 := by
  intro i j
  rw [if_neg (by omega), ← proj_at]
  have e : (Rect.unit (s := S1024x2048) ![0, 0] ![1024, 2048] inb).emb (ix2 i j) = ix2 i j := by
    funext x
    apply Fin.ext
    fin_cases x
    · show 0 + 1 * i.val = i.val; omega
    · show 0 + 1 * j.val = j.val; omega
  exact (congrArg _ e.symm).trans (View.canon_cons_emb _ _ _ _)

theorem Stage.next {MM : Fin 1024 → Fin 2048 → EReal} {L : List (View.Piece (Elt Ideal) S1024x2048 .f32)} {a : ℕ}
    (x4 : Vec Ideal S1024x2048 .f32) (x3 : Vec Ideal S1x2048 .f32) (mo : Memref sig .tc .vmem S1024x2048 .f32)
    (k : ℕ) (ha : a = 128 * k)
    (inb : ∀ x, (![a, 0] : Fin 2 → ℕ) x + (![128, 2048] : Fin 2 → ℕ) x ≤ S1024x2048.size x)
    (h : Stage MM (DONE x4 x3 MM) L k) :
    Stage MM (DONE x4 x3 MM) ((⟨Rect.unit (s := S1024x2048) ![a, 0] ![128, 2048] inb,
      k0_pay4 (F := Ideal) (View.ld x4 (Rect.unit (s := S1024x2048) ![a, 0] ![128, 2048] inb))
        (mo.view.readCov L (Rect.unit (s := S1024x2048) ![a, 0] ![128, 2048] inb).toLoadRect) x3⟩
          : View.Piece (Elt Ideal) S1024x2048 .f32) :: L) (k + 1) := by
  have hb : a + 128 ≤ 1024 := inb 0
  have e : ∀ (p : Fin 128) (q : Fin 2048) (i : Fin 1024), i.val = a + p.val →
      (Rect.unit (s := S1024x2048) ![a, 0] ![128, 2048] inb).emb (ix2 p q) = ix2 i q := by
    intro p q i hi
    funext x
    apply Fin.ext
    fin_cases x
    · show a + 1 * p.val = i.val; omega
    · show 0 + 1 * q.val = q.val; omega
  intro i j
  by_cases hm : a ≤ i.val ∧ i.val < a + 128
  · have hi : i.val = a + (⟨i.val - a, by omega⟩ : Fin 128).val := by dsimp only; omega
    refine (congrArg _ (e _ j i hi).symm).trans ((View.canon_cons_emb _ _ _ _).trans ?_)
    have ho : ∀ q : Fin 2048, mo.view.readCov L (Rect.unit (s := S1024x2048) ![a, 0] ![128, 2048] inb).toLoadRect
        (ix2 (⟨i.val - a, by omega⟩ : Fin 128) q) = MM i q := by
      intro q
      refine (congrFun (View.readCov_eq_canon' mo.view L _) _).trans ((congrArg (View.canon L) (e _ q i hi)).trans ?_)
      exact (h i q).trans (if_neg (by omega))
    rw [if_pos (by omega)]
    refine (done_at _ _ _ _ _).trans ?_
    rw [DONE, ho, show (fun q => mo.view.readCov L (Rect.unit (s := S1024x2048) ![a, 0] ![128, 2048] inb).toLoadRect
        (ix2 (⟨i.val - a, by omega⟩ : Fin 128) q)) = MM i from funext ho]
    exact congrArg (· + _) (ldrow x4 _ _ _ _ _ _ hi (Nat.zero_add _).symm)
  · rw [View.canon_cons_of_not_mem]
    · rw [h i j]
      by_cases hlt : i.val < 128 * k
      · rw [if_pos hlt, if_pos (by omega)]
      · rw [if_neg hlt, if_neg (by omega)]
    · rw [Rect.mem_set_unit]
      intro hall
      have h0 : a ≤ i.val ∧ i.val < a + 128 := hall 0
      exact hm h0

variable (m : (ℓ : Loc nD τ sig) → Buf (Elt Ideal) ℓ)

set_option maxHeartbeats 1600000 in
theorem out (c : Dev nD) (t : Fin cfg0.N) (i : Fin 1024) (j : Fin 2048) :
    outsAt0 m c t (ix2 i j) = DONE (iblk m c 4 t) (iblk m c 3 t) (PROJ (iblk m c 0 t) (iblk m c 1 t) (iblk m c 2 t)) i j := by
  unfold outsAt0
  frame_out
  simp only [d6, d7, d8, d9, d10, d1, d2]
  refine Eq.trans ((?_ : Stage (PROJ (iblk m c 0 t) (iblk m c 1 t) (iblk m c 2 t))
    (DONE (iblk m c 4 t) (iblk m c 3 t) (PROJ (iblk m c 0 t) (iblk m c 1 t) (iblk m c 2 t))) _ 8) i j) (if_pos i.isLt)
  refine Stage.next _ _ _ 7 rfl _ ?_
  refine Stage.next _ _ _ 6 rfl _ ?_
  refine Stage.next _ _ _ 5 rfl _ ?_
  refine Stage.next _ _ _ 4 rfl _ ?_
  refine Stage.next _ _ _ 3 rfl _ ?_
  refine Stage.next _ _ _ 2 rfl _ ?_
  refine Stage.next _ _ _ 1 rfl _ ?_
  refine Stage.next _ _ _ 0 rfl _ ?_
  exact Stage.first _ _ _ _ _

end Cert.Kernel3Ideal.Oproj
-- ==== Proof.Oproj.Fin.lean ====
module

public import proofs.«01_k».proof.Proof.Oproj.Out
public import Idealize.ShloMosaic.Lib.Claim
public import Idealize.ShloMosaic.Lib.Pipeline.ValueKit
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Kernel3Ideal.Oproj
open Cert.Kernel3Ideal Cert.Kernel3Ideal.Gen
open Cert.Kernel2Ideal.Ffn (SC)
variable (m : (ℓ : Loc nD τ sig) → Buf (Elt Ideal) ℓ)

theorem idx : ∀ t : Fin cfg0.N, win0_0.index t = ![t.val, 0] ∧ win0_1.index t = ![0, 0] ∧ win0_2.index t = ![0, 0] ∧
    win0_3.index t = ![0, 0] ∧ win0_4.index t = ![t.val, 0] ∧ win0_5.index t = ![t.val, 0] :=
  (by decide +kernel : ∀ t : Fin grid0.N, _)

/-- The arrays the windows stage, at their coordinates. -/
def aG (c : Dev nD) (R : Fin 32768) (k : Fin 2048) : EReal := V m c main_v1 (ix2 R k)
def wG (c : Dev nD) (k : Fin 2048) (j : Fin 2048) : EReal := V m c main_v3 (ix2 k j)
def bG (c : Dev nD) (j : Fin 2048) : EReal := V m c main_v5 (ix2 0 j)
def gG (c : Dev nD) (j : Fin 2048) : EReal := V m c main_v8 (ix2 0 j)
def hG (c : Dev nD) (R : Fin 32768) (k : Fin 2048) : EReal := V m c main_v9 (ix2 R k)

theorem r0 (c : Dev nD) (t : Fin cfg0.N) (i : Fin 1024) (k : Fin 2048) (R : Fin 32768) (hR : R.val = t.val * 1024 + i.val) :
    iblk m c 0 t (ix2 i k) = aG m c R k := by
  unfold aG
  blk_simp [iblk, idx t]
  blk_ext [idx t]
theorem r4 (c : Dev nD) (t : Fin cfg0.N) (i : Fin 1024) (k : Fin 2048) (R : Fin 32768) (hR : R.val = t.val * 1024 + i.val) :
    iblk m c 4 t (ix2 i k) = hG m c R k := by
  unfold hG
  blk_simp [iblk, idx t]
  blk_ext [idx t]
theorem r1 (c : Dev nD) (t : Fin cfg0.N) (k j : Fin 2048) : iblk m c 1 t (ix2 k j) = wG m c k j := by
  unfold wG
  blk_ext [iblk, idx t]
theorem r2 (c : Dev nD) (t : Fin cfg0.N) (k : Fin 2048) : iblk m c 2 t (ix2 0 k) = bG m c k := by
  unfold bG
  blk_ext [iblk, idx t]
theorem r3 (c : Dev nD) (t : Fin cfg0.N) (k : Fin 2048) : iblk m c 3 t (ix2 0 k) = gG m c k := by
  unfold gG
  blk_ext [iblk, idx t]

/-- The projection of a row. -/
def proj (c : Dev nD) (R : Fin 32768) (j : Fin 2048) : EReal := (∑ k, aG m c R k * wG m c k j) + bG m c j
def res (c : Dev nD) (R : Fin 32768) (j : Fin 2048) : EReal :=
  hG m c R j + proj m c R j * SC (proj m c R) * gG m c j

theorem res_at (c : Dev nD) (t : Fin cfg0.N) (i : Fin 1024) (j : Fin 2048) (R : Fin 32768) (hR : R.val = t.val * 1024 + i.val) :
    outsAt0 m c t (ix2 i j) = res m c R j := by
  have e : PROJ (iblk m c 0 t) (iblk m c 1 t) (iblk m c 2 t) i = proj m c R := by
    funext j
    rw [PROJ, proj, r2]
    exact congrArg (· + _) (Finset.sum_congr rfl fun k _ => congrArg₂ (· * ·) (r0 m c t i k R hR) (r1 m c t k j))
  rw [out, DONE, e, res, r4 m c t i j R hR, r3]

/-- The result array at an index. -/
theorem final (c : Dev nD) (R : Fin 32768) (j : Fin 2048) : (dats m 0 c).arrAt 5 (cfgs 0).N (ix2 R j) = res m c R j := by
  refine congrFun (?_ : (dats m 0 c).arrAt 5 (cfgs 0).N = fun y : S32768x2048.Idx => res m c (y 0) (y 1)) (ix2 R j)
  refine (dats m 0 c).arrAt_eq_of_covers 5 _ (by decide +kernel) fun t hf y => ?_
  blk_simp
  rw [after0_5]
  have e0 : ((win0_5.blk t).view.emb y 0).val = t.val * 1024 + (y 0).val := by
    blk_simp [idx t]
  have e1 : ((win0_5.blk t).view.emb y 1).val = (y 1).val := by
    blk_simp [idx t]
  have ey : y = ix2 (y 0) (y 1) := funext fun e => by fin_cases e <;> rfl
  have e1' : (win0_5.blk t).view.emb y 1 = y 1 := Fin.ext e1
  rw [e1', ey]
  exact res_at m c t (y 0) (y 1) _ e0

theorem row_of {α : Type} (f : Fin 2 → Fin 16384 → α) (R : Fin 32768) (b : Fin 2) (n : Fin 16384) (hR : R.val = b.val * 16384 + n.val)
    (h0 : R.val / 16384 < 2) (h1 : R.val % 16384 < 16384) : f ⟨R.val / 16384, h0⟩ ⟨R.val % 16384, h1⟩ = f b n :=
  congrArg₂ f (Fin.ext (by dsimp only; omega)) (Fin.ext (by dsimp only; omega))

theorem aG_eq (c : Dev nD) (R : Fin 32768) (k : Fin 2048) (b : Fin 2) (n : Fin 16384) (hR : R.val = b.val * 16384 + n.val) :
    aG m c R k = m ((c : Thread nD τ).loc main_arg0) (ix3 b n k) := by
  unfold aG
  entry_read
  pointwise []
  exact row_of (fun b n => m ((c : Thread nD τ).loc main_arg0) (ix3 b n k)) R b n hR _ _
theorem hG_eq (c : Dev nD) (R : Fin 32768) (k : Fin 2048) (b : Fin 2) (n : Fin 16384) (hR : R.val = b.val * 16384 + n.val) :
    hG m c R k = m ((c : Thread nD τ).loc main_arg4) (ix3 b n k) := by
  unfold hG
  entry_read
  pointwise []
  exact row_of (fun b n => m ((c : Thread nD τ).loc main_arg4) (ix3 b n k)) R b n hR _ _
theorem wG_eq (c : Dev nD) (k j : Fin 2048) : wG m c k j = m ((c : Thread nD τ).loc main_arg1) (ix3 0 k j) := by
  unfold wG
  entry_read
  pointwise []
theorem bG_eq (c : Dev nD) (j : Fin 2048) : bG m c j = m ((c : Thread nD τ).loc main_arg2) (ix2 0 j) := by
  unfold bG
  entry_read
  pointwise []
theorem gG_eq (c : Dev nD) (j : Fin 2048) : gG m c j = m ((c : Thread nD τ).loc main_arg3) (ix2 1 j) := by
  unfold gG
  entry_read
  pointwise []
end Cert.Kernel3Ideal.Oproj
-- ==== Proof.Oproj.Ref.lean ====
module

public import proofs.«01_k».proof.Proof.Gen.Reference3Ideal.Read
public import proofs.«01_k».proof.Proof.Ffn.Pay
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Reference3Ideal.Oproj
open Cert.Reference3Ideal Cert.Reference3Ideal.Read
open Cert.Kernel2Ideal.Ffn (SC)

theorem zero32 : Ideal.ofBits FTy.f32 0#32 = 0 := by simp [Ideal.ofBits, Ideal.ieee]
variable (x0 : Vec Ideal S2x16384x2048 .f32) (x1 : Vec Ideal S1x2048x2048 .f32) (x2 : Vec Ideal S1x2048 .f32)
  (x3 : Vec Ideal S2x2048 .f32) (x4 : Vec Ideal S2x16384x2048 .f32)

theorem v5_at (b : Fin 2) (n : Fin 16384) (j : Fin 2048) :
    val_main_v5 (F := Ideal) x0 x1 x2 (ix3 b n j) = (∑ k : Fin 2048, x0 (ix3 b n k) * x1 (ix3 0 k j)) + x2 (ix2 0 j) := by
  pointwise [val_main_v5, val_main_v4, val_main_v3, val_main_v2, val_main_v1, val_main_v0]

theorem v21_at (b : Fin 2) (n : Fin 16384) (j : Fin 2048) :
    val_main_v21 (F := Ideal) x0 x1 x2 x3 x4 (ix3 b n j) = x4 (ix3 b n j) + val_main_v5 (F := Ideal) x0 x1 x2 (ix3 b n j) *
      SC (fun k => val_main_v5 (F := Ideal) x0 x1 x2 (ix3 b n k)) * x3 (ix2 1 j) := by
  unfold val_main_v21 val_main_v20 val_main_v17 val_main_v16 val_main_v15 val_main_v14 val_main_v12 val_main_v10 val_main_v9 val_main_v8
  generalize val_main_v5 (F := Ideal) x0 x1 x2 = y
  pointwise [val_main_v19, val_main_v18, val_main_v13, val_main_v11, val_main_v7, val_main_v6,
    val_main_cst, val_main_cst_0, val_main_cst_1, SC, zero32]

theorem v22_at (R : Fin 32768) (j : Fin 2048) (b : Fin 2) (n : Fin 16384) (hR : R.val = b.val * 16384 + n.val) :
    val_main_v22 (F := Ideal) x0 x1 x2 x3 x4 (ix2 R j) = val_main_v21 (F := Ideal) x0 x1 x2 x3 x4 (ix3 b n j) := by
  unfold val_main_v22
  generalize val_main_v21 (F := Ideal) x0 x1 x2 x3 x4 = y
  pointwise []
  have hb : b = ⟨R.val / 16384, by omega⟩ := Fin.ext (by dsimp only; omega)
  have hn : n = ⟨R.val % 16384, by omega⟩ := Fin.ext (by dsimp only; omega)
  exact (congrArg₂ (fun b n => y (ix3 b n j)) hb hn).symm

end Cert.Reference3Ideal.Oproj
-- ==== Proof.Oproj.Alg.lean ====
module

public import proofs.«01_k».proof.Proof.Oproj.Fin
public import proofs.«01_k».proof.Proof.Oproj.Ref
public import proofs.«01_k».proof.Proof.Gen.Kernel3Ideal.Frame
public import proofs.«01_k».proof.Proof.Gen.Reference3Ideal.Run
public import proofs.«01_k».proof.Defs
public import Idealize.ShloMosaic.Lib.Claim

@[expose] public section

set_option maxRecDepth 16384
noncomputable section
open Idealize.ShloMosaic Idealize.ShloMosaic.TcCoe Idealize.SL.Sem
namespace Cert.Kernel3Ideal.Oproj
open Cert.Kernel3Ideal Cert.Kernel3Ideal.Gen
variable (m : (ℓ : Loc nD τ sig) → Buf (Elt Ideal) ℓ)

open Cert.Reference3Ideal.Read Cert.Reference3Ideal.Oproj in
/-- The kernel's value is the reference's. -/
theorem res_eq (c : Dev nD) (R : Fin 32768) (j : Fin 2048) :
    val_main_v22 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (ix2 R j) = res m c R j := by
  have hR : R.val = R.val / 16384 * 16384 + R.val % 16384 := by omega
  obtain ⟨b, hb⟩ : ∃ b : Fin 2, b.val = R.val / 16384 := ⟨⟨R.val / 16384, by omega⟩, rfl⟩
  obtain ⟨n, hn⟩ : ∃ n : Fin 16384, n.val = R.val % 16384 := ⟨⟨R.val % 16384, by omega⟩, rfl⟩
  rw [← hb, ← hn] at hR
  have hp : ∀ j, val_main_v5 (F := Ideal) (m ((c : Thread nD τ).loc main_arg0)) (m ((c : Thread nD τ).loc main_arg1))
      (m ((c : Thread nD τ).loc main_arg2)) (ix3 b n j) = proj m c R j := by
    intro j
    rw [v5_at, proj, bG_eq]
    exact congrArg (· + _) (Finset.sum_congr rfl fun k _ => congrArg₂ (· * ·) (aG_eq m c R k b n hR).symm (wG_eq m c k j).symm)
  rw [v22_at _ _ _ _ _ R j b n hR, v21_at, res, hp, show (fun k => val_main_v5 (F := Ideal) _ _ _ (ix3 b n k)) = proj m c R from funext hp,
    hG_eq m c R j b n hR, gG_eq]

theorem value : Cert.algebraic_Kernel3Ideal_Reference3Ideal := by
  pair_intro
  · run_from Cert.Kernel3Ideal.Gen.run_main m g
  · run_from Cert.Reference3Ideal.Value.run m' g'
    obtain ⟨a0, a1, a2, a3, a4⟩ := hagree c
    rw [Cert.Reference3Ideal.Read.val_main_v22_eq]
    funext y
    have hy : y = ix2 (y 0) (y 1) := funext fun e => by fin_cases e <;> rfl
    exact (congrArg _ hy).trans ((res_eq m c (y 0) (y 1)).trans ((final m c (y 0) (y 1)).symm.trans (congrArg _ hy.symm)))
end Cert.Kernel3Ideal.Oproj
-- ==== Proof.ConvIn.Out.lean ====
module

public import proofs.«01_k».proof.Proof.Gen.Kernel4Ideal.Value
public import proofs.«01_k».proof.Proof.Ffn.Pay
public import Idealize.ShloMosaic.Lib.Pipeline.ValueKit
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Kernel4Ideal.ConvIn
open Cert.Kernel4Ideal Cert.Kernel4Ideal.Gen
open Cert.Kernel2Ideal.Ffn (SC)

theorem ldrow {n k : ℕ} {φ : EltTy} (x : (⟨2, ![n, k]⟩ : Shape).Idx → Elt Ideal φ) (off : Fin 2 → ℕ) (size : Fin 2 → ℕ) (inb)
    (y : (Rect.unit (s := ⟨2, ![n, k]⟩) off size inb).shape.Idx) (a : Fin n) (b : Fin k)
    (ha : a.val = off 0 + (y 0).val) (hb : b.val = off 1 + (y 1).val) :
    View.ld x (Rect.unit (s := ⟨2, ![n, k]⟩) off size inb) y = x (ix2 a b) :=
  View.ld_unit_apply_of x off size inb y _ (fun e => by fin_cases e; exacts [ha, hb])

/-- The gate's factor. -/
def GATE (g : EReal) : EReal := Ideal.div 1 (1 + Ideal.exp (-g))
/-- The normalised row. -/
def NORM (x0 : Vec Ideal S1024x2048 .f32) (x1 : Vec Ideal S1x2048 .f32) (i : Fin 1024) (k : Fin 2048) : EReal :=
  x0 (ix2 i k) * SC (fun k => x0 (ix2 i k)) * x1 (ix2 0 k)
/-- One column of the projection, with the bias. -/
def COL (xn : Fin 1024 → Fin 2048 → EReal) (x2 : Vec Ideal S2048x4096 .bf16) (x3 : Vec Ideal S1x4096 .f32)
    (i : Fin 1024) (j : Fin 4096) : EReal :=
  (∑ k : Fin 2048, xn i k * x2 (ix2 k j)) + x3 (ix2 0 j)
/-- A gated value: its column times the gate of the column half the width further on. -/
def GLU (xn : Fin 1024 → Fin 2048 → EReal) (x2 : Vec Ideal S2048x4096 .bf16) (x3 : Vec Ideal S1x4096 .f32)
    (i : Fin 1024) (j : Fin 2048) : EReal :=
  COL xn x2 x3 i ⟨j.val, by omega⟩ * GATE (COL xn x2 x3 i ⟨2048 + j.val, by omega⟩)

theorem norm_at (h : Vec Ideal S128x2048 .f32) (g : Vec Ideal S1x2048 .f32) (p : Fin 128) (q : Fin 2048) :
    k0_pay2 (F := Ideal) h g (ix2 p q) = h (ix2 p q) * SC (fun k => h (ix2 p k)) * g (ix2 0 q) := by
  pointwise [k0_pay2, SC]

theorem glu_at (X : Vec Ideal S1024x2048 .bf16) (w : Vec Ideal S2048x256 .bf16) (b : Vec Ideal S1x256 .f32)
    (w' : Vec Ideal S2048x256 .bf16) (b' : Vec Ideal S1x256 .f32) (p : Fin 1024) (q : Fin 256) :
    k0_pay10 (F := Ideal) X w b w' b' (ix2 p q) = ((∑ k : Fin 2048, X (ix2 p k) * w (ix2 k q)) + b (ix2 0 q)) *
      GATE ((∑ k : Fin 2048, X (ix2 p k) * w' (ix2 k q)) + b' (ix2 0 q)) := by
  pointwise [k0_pay10, GATE, zero_sub]

section
variable (h : Vec Ideal S128x2048 .f32) (g : Vec Ideal S1x2048 .f32)
  (X : Vec Ideal S1024x2048 .bf16) (w : Vec Ideal S2048x256 .bf16) (b : Vec Ideal S1x256 .f32)
  (w' : Vec Ideal S2048x256 .bf16) (b' : Vec Ideal S1x256 .f32)
theorem d3 : k0_pay3 (F := Ideal) h g = k0_pay2 (F := Ideal) h g := rfl
theorem d4 : k0_pay4 (F := Ideal) h g = k0_pay2 (F := Ideal) h g := rfl
theorem d5 : k0_pay5 (F := Ideal) h g = k0_pay2 (F := Ideal) h g := rfl
theorem d6 : k0_pay6 (F := Ideal) h g = k0_pay2 (F := Ideal) h g := rfl
theorem d7 : k0_pay7 (F := Ideal) h g = k0_pay2 (F := Ideal) h g := rfl
theorem d8 : k0_pay8 (F := Ideal) h g = k0_pay2 (F := Ideal) h g := rfl
theorem d9 : k0_pay9 (F := Ideal) h g = k0_pay2 (F := Ideal) h g := rfl
theorem d13 : k0_pay13 (F := Ideal) X (k0_pay11 (F := Ideal) X w b) (k0_pay12 (F := Ideal) w') b' = k0_pay10 (F := Ideal) X w b w' b' := rfl
theorem d14 : k0_pay14 (F := Ideal) X w b w' b' = k0_pay10 (F := Ideal) X w b w' b' := rfl
theorem d15 : k0_pay15 (F := Ideal) X w b w' b' = k0_pay10 (F := Ideal) X w b w' b' := rfl
theorem d18 : k0_pay18 (F := Ideal) X (k0_pay16 (F := Ideal) X w b) (k0_pay17 (F := Ideal) w') b' = k0_pay10 (F := Ideal) X w b w' b' := rfl
theorem d19 : k0_pay19 (F := Ideal) X w b w' b' = k0_pay10 (F := Ideal) X w b w' b' := rfl
theorem d20 : k0_pay20 (F := Ideal) X w b w' b' = k0_pay10 (F := Ideal) X w b w' b' := rfl
theorem d1 : k0_pay1 (F := Ideal) X (k0_pay21 (F := Ideal) X w b) (k0_pay22 (F := Ideal) w') b' = k0_pay10 (F := Ideal) X w b w' b' := rfl
end

theorem pieceS (x0 : Vec Ideal S1024x2048 .f32) (x1 : Vec Ideal S1x2048 .f32) (a : ℕ) (inb) (x : S128x2048.Idx) (i : Fin 1024) (j : Fin 2048)
    (h0 : i.val = a + (x 0).val) (h1 : j.val = (x 1).val) :
    k0_pay2 (F := Ideal) (View.ld x0 (Rect.unit (s := S1024x2048) ![a, 0] ![128, 2048] inb)) x1 x = NORM x0 x1 i j := by
  obtain ⟨p, q, rfl⟩ : ∃ p q, x = ix2 p q := ⟨x 0, x 1, funext fun e => by fin_cases e <;> rfl⟩
  obtain rfl : j = q := Fin.ext h1
  have hh : ∀ k : Fin 2048, View.ld x0 (Rect.unit (s := S1024x2048) ![a, 0] ![128, 2048] inb) (ix2 p k) = x0 (ix2 i k) :=
    fun k => ldrow x0 _ _ _ _ _ _ h0 (Nat.zero_add _).symm
  refine (norm_at _ _ _ _).trans ?_
  rw [NORM, hh, show (fun k : Fin 2048 => View.ld x0 (Rect.unit (s := S1024x2048) ![a, 0] ![128, 2048] inb) (ix2 p k)) = fun k => x0 (ix2 i k) from funext hh]

theorem tile (X : Vec Ideal S1024x2048 .bf16) (xn : Fin 1024 → Fin 2048 → EReal) (x2 : Vec Ideal S2048x4096 .bf16)
    (hX : ∀ i k, X (ix2 i k) = xn i k) (x3 : Vec Ideal S1x4096 .f32)
    (b b' : ℕ) (inb0 inb1 inb2 inb3) (x : S1024x256.Idx) (i : Fin 1024) (j : Fin 2048)
    (h0 : i.val = (x 0).val) (h1 : j.val = b + (x 1).val) (hb : b' = 2048 + b) :
    k0_pay10 (F := Ideal) X (View.ld x2 (Rect.unit (s := S2048x4096) ![0, b] ![2048, 256] inb0))
      (View.ld x3 (Rect.unit (s := S1x4096) ![0, b] ![1, 256] inb1))
      (View.ld x2 (Rect.unit (s := S2048x4096) ![0, b'] ![2048, 256] inb2))
      (View.ld x3 (Rect.unit (s := S1x4096) ![0, b'] ![1, 256] inb3)) x = GLU xn x2 x3 i j := by
  obtain ⟨p, q, rfl⟩ : ∃ p q, x = ix2 p q := ⟨x 0, x 1, funext fun e => by fin_cases e <;> rfl⟩
  obtain rfl : i = p := Fin.ext h0
  have e1 : (⟨j.val, by omega⟩ : Fin 4096).val = b + q.val := h1
  have e2 : (⟨2048 + j.val, by omega⟩ : Fin 4096).val = b' + q.val := by
    have h1' : j.val = b + q.val := h1
    dsimp only; omega
  refine (glu_at _ _ _ _ _ _ _).trans ?_
  refine congrArg₂ (fun x y : EReal => x * GATE y) (congrArg₂ (· + ·) (Finset.sum_congr rfl fun k _ => congrArg₂ (· * ·) (hX i k) ?_) ?_)
    (congrArg₂ (· + ·) (Finset.sum_congr rfl fun k _ => congrArg₂ (· * ·) (hX i k) ?_) ?_)
  · exact ldrow x2 _ _ _ _ _ _ (Nat.zero_add _).symm e1
  · exact ldrow x3 _ _ _ _ _ _ rfl e1
  · exact ldrow x2 _ _ _ _ _ _ (Nat.zero_add _).symm e2
  · exact ldrow x3 _ _ _ _ _ _ rfl e2

variable (m : (ℓ : Loc nD τ sig) → Buf (Elt Ideal) ℓ)

set_option maxHeartbeats 1600000 in
theorem out (c : Dev nD) (t : Fin cfg0.N) (i : Fin 1024) (j : Fin 2048) :
    outsAt0 m c t (ix2 i j) = GLU (NORM (iblk m c 0 t) (iblk m c 1 t)) (iblk m c 2 t) (iblk m c 3 t) i j := by
  unfold outsAt0
  frame_out
  simp only [d13, d18, d1]
  simp only [d3, d4, d5, d6, d7, d8, d9, d14, d15, d19, d20]
  generalize hXe : (View.whole cc0_scratch0).readCov (Val := Elt Ideal) _ _ = X
  generalize hxn : NORM (iblk m c 0 t) (iblk m c 1 t) = xn
  have hX : ∀ i k, X (ix2 i k) = xn i k := by
    intro i k
    rw [← hXe, ← hxn]
    refine (congrFun (View.readCov_eq_canon' (View.whole cc0_scratch0) _ _) _).trans ?_
    refine (congrArg (View.canon _) (?_ : _ = ix2 i k)).trans ?_
    · exact funext fun x => Fin.ext (by fin_cases x; exacts [(Nat.zero_add _).trans (Nat.one_mul _), (Nat.zero_add _).trans (Nat.one_mul _)])
    canon_tiles x h
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k (h0.trans (Nat.zero_add _).symm) h1
  clear hXe
  canon_tiles x h
  · exact tile X xn _ hX _ _ _ _ _ _ _ x i j h0 h1 (by rfl)
  · exact tile X xn _ hX _ _ _ _ _ _ _ x i j h0 h1 (by rfl)
  · exact tile X xn _ hX _ _ _ _ _ _ _ x i j h0 h1 (by rfl)
  · exact tile X xn _ hX _ _ _ _ _ _ _ x i j h0 h1 (by rfl)
  · exact tile X xn _ hX _ _ _ _ _ _ _ x i j h0 h1 (by rfl)
  · exact tile X xn _ hX _ _ _ _ _ _ _ x i j h0 h1 (by rfl)
  · exact tile X xn _ hX _ _ _ _ _ _ _ x i j h0 h1 (by rfl)
  · exact tile X xn _ hX _ _ _ _ _ _ _ x i j h0 (h1.trans (Nat.zero_add _).symm) (by rfl)

end Cert.Kernel4Ideal.ConvIn
-- ==== Proof.ConvIn.Fin.lean ====
module

public import proofs.«01_k».proof.Proof.ConvIn.Out
public import Idealize.ShloMosaic.Lib.Claim
public import Idealize.ShloMosaic.Lib.Pipeline.ValueKit
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Kernel4Ideal.ConvIn
open Cert.Kernel4Ideal Cert.Kernel4Ideal.Gen
open Cert.Kernel2Ideal.Ffn (SC)
variable (m : (ℓ : Loc nD τ sig) → Buf (Elt Ideal) ℓ)

theorem idx : ∀ t : Fin cfg0.N, win0_0.index t = ![t.val, 0] ∧ win0_1.index t = ![0, 0] ∧ win0_2.index t = ![0, 0] ∧
    win0_3.index t = ![0, 0] ∧ win0_4.index t = ![t.val, 0] :=
  (by decide +kernel : ∀ t : Fin grid0.N, _)

/-- The arrays the windows stage, at their coordinates. -/
def hG (c : Dev nD) (R : Fin 32768) (k : Fin 2048) : EReal := V m c main_v0 (ix2 R k)
def gG (c : Dev nD) (k : Fin 2048) : EReal := V m c main_v3 (ix2 0 k)
def wG (c : Dev nD) (k : Fin 2048) (j : Fin 4096) : EReal := V m c main_v5 (ix2 k j)
def bG (c : Dev nD) (j : Fin 4096) : EReal := V m c main_v7 (ix2 0 j)

theorem r0 (c : Dev nD) (t : Fin cfg0.N) (i : Fin 1024) (k : Fin 2048) (R : Fin 32768) (hR : R.val = t.val * 1024 + i.val) :
    iblk m c 0 t (ix2 i k) = hG m c R k := by
  unfold hG
  blk_simp [iblk, idx t]
  blk_ext [idx t]
theorem r1 (c : Dev nD) (t : Fin cfg0.N) (k : Fin 2048) : iblk m c 1 t (ix2 0 k) = gG m c k := by
  unfold gG
  blk_ext [iblk, idx t]
theorem r2 (c : Dev nD) (t : Fin cfg0.N) (k : Fin 2048) (j : Fin 4096) : iblk m c 2 t (ix2 k j) = wG m c k j := by
  unfold wG
  blk_ext [iblk, idx t]
theorem r3 (c : Dev nD) (t : Fin cfg0.N) (j : Fin 4096) : iblk m c 3 t (ix2 0 j) = bG m c j := by
  unfold bG
  blk_ext [iblk, idx t]

/-- A row's norm with its gain. -/
def xn (c : Dev nD) (R : Fin 32768) (k : Fin 2048) : EReal := hG m c R k * SC (hG m c R) * gG m c k
/-- One column of the projection of a row. -/
def col (c : Dev nD) (R : Fin 32768) (j : Fin 4096) : EReal := (∑ k, xn m c R k * wG m c k j) + bG m c j
def res (c : Dev nD) (R : Fin 32768) (j : Fin 2048) : EReal :=
  col m c R ⟨j.val, by omega⟩ * GATE (col m c R ⟨2048 + j.val, by omega⟩)

theorem res_at (c : Dev nD) (t : Fin cfg0.N) (i : Fin 1024) (j : Fin 2048) (R : Fin 32768) (hR : R.val = t.val * 1024 + i.val) :
    outsAt0 m c t (ix2 i j) = res m c R j := by
  have e : ∀ k, NORM (iblk m c 0 t) (iblk m c 1 t) i k = xn m c R k := by
    intro k
    rw [NORM, xn, r0 m c t i k R hR, r1, show (fun k => iblk m c 0 t (ix2 i k)) = hG m c R from funext fun k => r0 m c t i k R hR]
  have ec : ∀ j, COL (NORM (iblk m c 0 t) (iblk m c 1 t)) (iblk m c 2 t) (iblk m c 3 t) i j = col m c R j := by
    intro j
    rw [COL, col, r3]
    exact congrArg (· + _) (Finset.sum_congr rfl fun k _ => congrArg₂ (· * ·) (e k) (r2 m c t k j))
  rw [out, GLU, ec, ec, res]

/-- The result array at an index. -/
theorem final (c : Dev nD) (R : Fin 32768) (j : Fin 2048) : (dats m 0 c).arrAt 4 (cfgs 0).N (ix2 R j) = res m c R j := by
  refine congrFun (?_ : (dats m 0 c).arrAt 4 (cfgs 0).N = fun y : S32768x2048.Idx => res m c (y 0) (y 1)) (ix2 R j)
  refine (dats m 0 c).arrAt_eq_of_covers 4 _ (by decide +kernel) fun t hf y => ?_
  blk_simp
  rw [after0_4]
  have e0 : ((win0_4.blk t).view.emb y 0).val = t.val * 1024 + (y 0).val := by
    blk_simp [idx t]
  have e1 : ((win0_4.blk t).view.emb y 1).val = (y 1).val := by
    blk_simp [idx t]
  have ey : y = ix2 (y 0) (y 1) := funext fun e => by fin_cases e <;> rfl
  have e1' : (win0_4.blk t).view.emb y 1 = y 1 := Fin.ext e1
  rw [e1', ey]
  exact res_at m c t (y 0) (y 1) _ e0

theorem hG_eq (c : Dev nD) (R : Fin 32768) (k : Fin 2048) (b : Fin 2) (n : Fin 16384) (hR : R.val = b.val * 16384 + n.val) :
    hG m c R k = m ((c : Thread nD τ).loc main_arg0) (ix3 b n k) := by
  unfold hG
  entry_read
  pointwise []
  have hb : b = ⟨R.val / 16384, by omega⟩ := Fin.ext (by dsimp only; omega)
  have hn : n = ⟨R.val % 16384, by omega⟩ := Fin.ext (by dsimp only; omega)
  exact (congrArg₂ (fun b n => m ((c : Thread nD τ).loc main_arg0) (ix3 b n k)) hb hn).symm
theorem gG_eq (c : Dev nD) (k : Fin 2048) : gG m c k = m ((c : Thread nD τ).loc main_arg1) (ix2 0 k) := by
  unfold gG
  entry_read
  pointwise []
theorem wG_eq (c : Dev nD) (k : Fin 2048) (j : Fin 4096) : wG m c k j = m ((c : Thread nD τ).loc main_arg2) (ix3 0 k j) := by
  unfold wG
  entry_read
  pointwise []
theorem bG_eq (c : Dev nD) (j : Fin 4096) : bG m c j = m ((c : Thread nD τ).loc main_arg3) (ix2 0 j) := by
  unfold bG
  entry_read
  pointwise []
end Cert.Kernel4Ideal.ConvIn
-- ==== Proof.ConvIn.Ref.lean ====
module

public import proofs.«01_k».proof.Proof.Gen.Reference4Ideal.Read
public import proofs.«01_k».proof.Proof.ConvIn.Out
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Reference4Ideal.ConvIn
open Cert.Reference4Ideal Cert.Reference4Ideal.Read
open Cert.Kernel2Ideal.Ffn (SC)
open Cert.Kernel4Ideal.ConvIn (GATE)

theorem zero32 : Ideal.ofBits FTy.f32 0#32 = 0 := by simp [Ideal.ofBits, Ideal.ieee]
variable (x0 : Vec Ideal S2x16384x2048 .f32) (x1 : Vec Ideal S2x2048 .f32) (x2 : Vec Ideal S1x2048x4096 .f32) (x3 : Vec Ideal S1x4096 .f32)

theorem v14_at (b : Fin 2) (n : Fin 16384) (k : Fin 2048) :
    val_main_v14 (F := Ideal) x0 x1 (ix3 b n k) = x0 (ix3 b n k) * SC (fun k => x0 (ix3 b n k)) * x1 (ix2 0 k) := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, SC, zero32]

theorem v20_at (b : Fin 2) (n : Fin 16384) (j : Fin 4096) :
    val_main_v20 (F := Ideal) x0 x1 x2 x3 (ix3 b n j) =
      (∑ k : Fin 2048, val_main_v14 (F := Ideal) x0 x1 (ix3 b n k) * x2 (ix3 0 k j)) + x3 (ix2 0 j) := by
  unfold val_main_v20 val_main_v16
  generalize val_main_v14 (F := Ideal) x0 x1 = y
  pointwise [val_main_v19, val_main_v18, val_main_v17, val_main_v15]

theorem v29_at (b : Fin 2) (n : Fin 16384) (j : Fin 2048) :
    val_main_v29 (F := Ideal) x0 x1 x2 x3 (ix3 b n j) = val_main_v20 (F := Ideal) x0 x1 x2 x3 (ix3 b n ⟨j.val, by omega⟩) *
      GATE (val_main_v20 (F := Ideal) x0 x1 x2 x3 (ix3 b n ⟨2048 + j.val, by omega⟩)) := by
  unfold val_main_v29 val_main_v28 val_main_v26 val_main_v24 val_main_v23 val_main_v22 val_main_v21
  generalize val_main_v20 (F := Ideal) x0 x1 x2 x3 = y
  pointwise [val_main_v27, val_main_v25, val_main_cst_2, val_main_cst_3, GATE]

theorem v31_at (R : Fin 32768) (j : Fin 2048) (b : Fin 2) (n : Fin 16384) (hR : R.val = b.val * 16384 + n.val) :
    val_main_v31 (F := Ideal) x0 x1 x2 x3 (ix2 R j) = val_main_v29 (F := Ideal) x0 x1 x2 x3 (ix3 b n j) := by
  unfold val_main_v31 val_main_v30
  generalize val_main_v29 (F := Ideal) x0 x1 x2 x3 = y
  pointwise []
  have hb : b = ⟨R.val / 16384, by omega⟩ := Fin.ext (by dsimp only; omega)
  have hn : n = ⟨R.val % 16384, by omega⟩ := Fin.ext (by dsimp only; omega)
  exact (congrArg₂ (fun b n => y (ix3 b n j)) hb hn).symm

end Cert.Reference4Ideal.ConvIn
-- ==== Proof.ConvIn.Alg.lean ====
module

public import proofs.«01_k».proof.Proof.ConvIn.Fin
public import proofs.«01_k».proof.Proof.ConvIn.Ref
public import proofs.«01_k».proof.Proof.Gen.Kernel4Ideal.Frame
public import proofs.«01_k».proof.Proof.Gen.Reference4Ideal.Run
public import proofs.«01_k».proof.Defs
public import Idealize.ShloMosaic.Lib.Claim

@[expose] public section

set_option maxRecDepth 16384
noncomputable section
open Idealize.ShloMosaic Idealize.ShloMosaic.TcCoe Idealize.SL.Sem
namespace Cert.Kernel4Ideal.ConvIn
open Cert.Kernel4Ideal Cert.Kernel4Ideal.Gen
variable (m : (ℓ : Loc nD τ sig) → Buf (Elt Ideal) ℓ)

open Cert.Reference4Ideal.Read Cert.Reference4Ideal.ConvIn in
/-- The kernel's value is the reference's. -/
theorem res_eq (c : Dev nD) (R : Fin 32768) (j : Fin 2048) :
    val_main_v31 (F := Ideal) (m ((c : Thread nD τ).loc main_arg0)) (m ((c : Thread nD τ).loc main_arg1)) (m ((c : Thread nD τ).loc main_arg2)) (m ((c : Thread nD τ).loc main_arg3)) (ix2 R j) = res m c R j := by
  have hR : R.val = R.val / 16384 * 16384 + R.val % 16384 := by omega
  obtain ⟨b, hb⟩ : ∃ b : Fin 2, b.val = R.val / 16384 := ⟨⟨R.val / 16384, by omega⟩, rfl⟩
  obtain ⟨n, hn⟩ : ∃ n : Fin 16384, n.val = R.val % 16384 := ⟨⟨R.val % 16384, by omega⟩, rfl⟩
  rw [← hb, ← hn] at hR
  have hh : hG m c R = fun k => m ((c : Thread nD τ).loc main_arg0) (ix3 b n k) := funext fun k => hG_eq m c R k b n hR
  have hx : ∀ k, val_main_v14 (F := Ideal) (m ((c : Thread nD τ).loc main_arg0)) (m ((c : Thread nD τ).loc main_arg1)) (ix3 b n k) = xn m c R k := by
    intro k
    rw [v14_at, xn, gG_eq, hh]
  have hc : ∀ j, val_main_v20 (F := Ideal) (m ((c : Thread nD τ).loc main_arg0)) (m ((c : Thread nD τ).loc main_arg1)) (m ((c : Thread nD τ).loc main_arg2)) (m ((c : Thread nD τ).loc main_arg3)) (ix3 b n j) = col m c R j := by
    intro j
    rw [v20_at, col, bG_eq]
    exact congrArg (· + _) (Finset.sum_congr rfl fun k _ => congrArg₂ (· * ·) (hx k) (wG_eq m c k j).symm)
  rw [v31_at _ _ _ _ R j b n hR, v29_at, res, hc, hc]

theorem value : Cert.algebraic_Kernel4Ideal_Reference4Ideal := by
  pair_intro
  · run_from Cert.Kernel4Ideal.Gen.run_main m g
  · run_from Cert.Reference4Ideal.Value.run m' g'
    obtain ⟨a0, a1, a2, a3⟩ := hagree c
    rw [Cert.Reference4Ideal.Read.val_main_v31_eq]
    funext y
    have hy : y = ix2 (y 0) (y 1) := funext fun e => by fin_cases e <;> rfl
    exact (congrArg _ hy).trans ((res_eq m c (y 0) (y 1)).trans ((final m c (y 0) (y 1)).symm.trans (congrArg _ hy.symm)))
end Cert.Kernel4Ideal.ConvIn
-- ==== Proof.Qkv.Out.lean ====
module

public import proofs.«01_k».proof.Proof.Gen.Kernel5Ideal.Value
public import proofs.«01_k».proof.Proof.Ffn.Pay
public import Idealize.ShloMosaic.Lib.Pipeline.ValueKit
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Kernel5Ideal.Qkv
open Cert.Kernel5Ideal Cert.Kernel5Ideal.Gen
open Cert.Kernel2Ideal.Ffn (SC)

theorem ldrow {n k : ℕ} {φ : EltTy} (x : (⟨2, ![n, k]⟩ : Shape).Idx → Elt Ideal φ) (off : Fin 2 → ℕ) (size : Fin 2 → ℕ) (inb)
    (y : (Rect.unit (s := ⟨2, ![n, k]⟩) off size inb).shape.Idx) (a : Fin n) (b : Fin k)
    (ha : a.val = off 0 + (y 0).val) (hb : b.val = off 1 + (y 1).val) :
    View.ld x (Rect.unit (s := ⟨2, ![n, k]⟩) off size inb) y = x (ix2 a b) :=
  View.ld_unit_apply_of x off size inb y _ (fun e => by fin_cases e; exacts [ha, hb])

/-- The normalised row. -/
def NORM (x0 : Vec Ideal S1024x2048 .f32) (x1 : Vec Ideal S1x2048 .f32) (i : Fin 1024) (k : Fin 2048) : EReal :=
  x0 (ix2 i k) * SC (fun k => x0 (ix2 i k)) * x1 (ix2 0 k)
/-- One column of the projection, with the bias. -/
def COL (xn : Fin 1024 → Fin 2048 → EReal) (x2 : Vec Ideal S2048x2560 .bf16) (x3 : Vec Ideal S1x2560 .f32)
    (i : Fin 1024) (j : Fin 2560) : EReal :=
  (∑ k : Fin 2048, xn i k * x2 (ix2 k j)) + x3 (ix2 0 j)
/-- The factor of the queries. -/
def QS : EReal := Ideal.ofBits FTy.f32 1040187392#32
/-- A value row beside ones: the row, two rows of ones, the row again. -/
def VEXT (f : Fin 64 → EReal) (l : Fin 256) : EReal :=
  if h : l.val < 64 then f ⟨l.val, h⟩ else if h_1 : l.val - 64 < 64 then 1 else if h_2 : l.val - 64 - 64 < 64 then 1 else
    f ⟨l.val - 64 - 64 - 64, by omega⟩
/-- A query value. -/
def QV (xn : Fin 1024 → Fin 2048 → EReal) (x2 : Vec Ideal S2048x2560 .bf16) (x3 : Vec Ideal S1x2560 .f32)
    (i : Fin 1024) (j : Fin 2048) : EReal := COL xn x2 x3 i ⟨j.val, by omega⟩ * QS
/-- A key value of the head `h`. -/
def KV (xn : Fin 1024 → Fin 2048 → EReal) (x2 : Vec Ideal S2048x2560 .bf16) (x3 : Vec Ideal S1x2560 .f32)
    (h : Fin 4) (i : Fin 1024) (d : Fin 64) : EReal := COL xn x2 x3 i ⟨2048 + (h.val * 64 + d.val), by omega⟩
/-- A value of the head `h`. -/
def VV (xn : Fin 1024 → Fin 2048 → EReal) (x2 : Vec Ideal S2048x2560 .bf16) (x3 : Vec Ideal S1x2560 .f32)
    (h : Fin 4) (i : Fin 1024) (l : Fin 256) : EReal := VEXT (fun d => COL xn x2 x3 i ⟨2304 + (h.val * 64 + d.val), by omega⟩) l

theorem norm_at (h : Vec Ideal S128x2048 .f32) (g : Vec Ideal S1x2048 .f32) (p : Fin 128) (q : Fin 2048) :
    k0_pay2 (F := Ideal) h g (ix2 p q) = h (ix2 p q) * SC (fun k => h (ix2 p k)) * g (ix2 0 q) := by
  pointwise [k0_pay2, SC]

theorem col_at (X : Vec Ideal S1024x2048 .bf16) (w : Vec Ideal S2048x256 .bf16) (b : Vec Ideal S1x256 .f32) (p : Fin 1024) (q : Fin 256) :
    k0_pay21 (F := Ideal) X w b (ix2 p q) = ((∑ k : Fin 2048, X (ix2 p k) * w (ix2 k q)) + b (ix2 0 q)) * QS := by
  pointwise [k0_pay21, QS]
theorem wide_at (X : Vec Ideal S1024x2048 .bf16) (w : Vec Ideal S2048x512 .bf16) (b : Vec Ideal S1x512 .f32) (p : Fin 1024) (q : Fin 512) :
    k0_pay10 (F := Ideal) X w b (ix2 p q) = (∑ k : Fin 2048, X (ix2 p k) * w (ix2 k q)) + b (ix2 0 q) := by
  pointwise [k0_pay10]

section
variable (X : Vec Ideal S1024x2048 .bf16) (w : Vec Ideal S2048x512 .bf16) (b : Vec Ideal S1x512 .f32) (p : Fin 1024) (q : Fin 64) (l : Fin 256)
theorem k12 : k0_pay12 (F := Ideal) X w b (ix3 0 p q) = k0_pay10 (F := Ideal) X w b (ix2 p ⟨0 * 64 + q.val, by omega⟩) := by
  unfold k0_pay12
  generalize k0_pay10 (F := Ideal) X w b = y
  pointwise []
theorem k14 : k0_pay14 (F := Ideal) X w b (ix3 0 p q) = k0_pay10 (F := Ideal) X w b (ix2 p ⟨1 * 64 + q.val, by omega⟩) := by
  unfold k0_pay14
  generalize k0_pay10 (F := Ideal) X w b = y
  pointwise []
theorem k17 : k0_pay17 (F := Ideal) (k0_pay16 (F := Ideal) X w b) (ix3 0 p q) = k0_pay10 (F := Ideal) X w b (ix2 p ⟨2 * 64 + q.val, by omega⟩) := by
  unfold k0_pay17 k0_pay16
  generalize k0_pay10 (F := Ideal) X w b = y
  pointwise []
theorem k19 : k0_pay19 (F := Ideal) (k0_pay10 (F := Ideal) X w b) (ix3 0 p q) = k0_pay10 (F := Ideal) X w b (ix2 p ⟨3 * 64 + q.val, by omega⟩) := by
  generalize k0_pay10 (F := Ideal) X w b = y
  pointwise [k0_pay19]
theorem v13 : k0_pay13 (F := Ideal) X w b (ix3 0 p l) = VEXT (fun d => k0_pay10 (F := Ideal) X w b (ix2 p ⟨256 + d.val, by omega⟩)) l := by
  unfold k0_pay13
  generalize k0_pay10 (F := Ideal) X w b = y
  pointwise [k0_pay11, VEXT]
theorem v15 : k0_pay15 (F := Ideal) X w b (ix3 0 p l) = VEXT (fun d => k0_pay10 (F := Ideal) X w b (ix2 p ⟨320 + d.val, by omega⟩)) l := by
  unfold k0_pay15
  generalize k0_pay10 (F := Ideal) X w b = y
  pointwise [k0_pay11, VEXT]
theorem v18 : k0_pay18 (F := Ideal) (k0_pay10 (F := Ideal) X w b) (k0_pay11 (F := Ideal)) (ix3 0 p l)
    = VEXT (fun d => k0_pay10 (F := Ideal) X w b (ix2 p ⟨384 + d.val, by omega⟩)) l := by
  generalize k0_pay10 (F := Ideal) X w b = y
  pointwise [k0_pay18, k0_pay11, VEXT]
theorem v20 : k0_pay20 (F := Ideal) (k0_pay10 (F := Ideal) X w b) (k0_pay11 (F := Ideal)) (ix3 0 p l)
    = VEXT (fun d => k0_pay10 (F := Ideal) X w b (ix2 p ⟨448 + d.val, by omega⟩)) l := by
  generalize k0_pay10 (F := Ideal) X w b = y
  pointwise [k0_pay20, k0_pay11, VEXT]
end

section
variable (h : Vec Ideal S128x2048 .f32) (g : Vec Ideal S1x2048 .f32)
  (X : Vec Ideal S1024x2048 .bf16) (w : Vec Ideal S2048x256 .bf16) (b : Vec Ideal S1x256 .f32)
theorem d3 : k0_pay3 (F := Ideal) h g = k0_pay2 (F := Ideal) h g := rfl
theorem d4 : k0_pay4 (F := Ideal) h g = k0_pay2 (F := Ideal) h g := rfl
theorem d5 : k0_pay5 (F := Ideal) h g = k0_pay2 (F := Ideal) h g := rfl
theorem d6 : k0_pay6 (F := Ideal) h g = k0_pay2 (F := Ideal) h g := rfl
theorem d7 : k0_pay7 (F := Ideal) h g = k0_pay2 (F := Ideal) h g := rfl
theorem d8 : k0_pay8 (F := Ideal) h g = k0_pay2 (F := Ideal) h g := rfl
theorem d9 : k0_pay9 (F := Ideal) h g = k0_pay2 (F := Ideal) h g := rfl
theorem d24 : k0_pay24 (F := Ideal) X w b = k0_pay21 (F := Ideal) X w b := rfl
theorem d25 : k0_pay25 (F := Ideal) X w b = k0_pay21 (F := Ideal) X w b := rfl
theorem d28 : k0_pay28 (F := Ideal) X w b = k0_pay21 (F := Ideal) X w b := rfl
theorem d29 : k0_pay29 (F := Ideal) X w b = k0_pay21 (F := Ideal) X w b := rfl
theorem d23 : k0_pay23 (F := Ideal) (k0_pay22 (F := Ideal) X w) b = k0_pay21 (F := Ideal) X w b := rfl
theorem d27 : k0_pay27 (F := Ideal) (k0_pay26 (F := Ideal) X w) b = k0_pay21 (F := Ideal) X w b := rfl
theorem d1 : k0_pay1 (F := Ideal) (k0_pay30 (F := Ideal) X w) b = k0_pay21 (F := Ideal) X w b := rfl
end

theorem pieceS (x0 : Vec Ideal S1024x2048 .f32) (x1 : Vec Ideal S1x2048 .f32) (a : ℕ) (inb) (x : S128x2048.Idx) (i : Fin 1024) (j : Fin 2048)
    (h0 : i.val = a + (x 0).val) (h1 : j.val = (x 1).val) :
    k0_pay2 (F := Ideal) (View.ld x0 (Rect.unit (s := S1024x2048) ![a, 0] ![128, 2048] inb)) x1 x = NORM x0 x1 i j := by
  obtain ⟨p, q, rfl⟩ : ∃ p q, x = ix2 p q := ⟨x 0, x 1, funext fun e => by fin_cases e <;> rfl⟩
  obtain rfl : j = q := Fin.ext h1
  have hh : ∀ k : Fin 2048, View.ld x0 (Rect.unit (s := S1024x2048) ![a, 0] ![128, 2048] inb) (ix2 p k) = x0 (ix2 i k) :=
    fun k => ldrow x0 _ _ _ _ _ _ h0 (Nat.zero_add _).symm
  refine (norm_at _ _ _ _).trans ?_
  rw [NORM, hh, show (fun k : Fin 2048 => View.ld x0 (Rect.unit (s := S1024x2048) ![a, 0] ![128, 2048] inb) (ix2 p k)) = fun k => x0 (ix2 i k) from funext hh]

theorem tile (X : Vec Ideal S1024x2048 .bf16) (xn : Fin 1024 → Fin 2048 → EReal) (x2 : Vec Ideal S2048x2560 .bf16)
    (hX : ∀ i k, X (ix2 i k) = xn i k) (x3 : Vec Ideal S1x2560 .f32)
    (b : ℕ) (inb0 inb1) (x : S1024x256.Idx) (i : Fin 1024) (j : Fin 2048)
    (h0 : i.val = (x 0).val) (h1 : j.val = b + (x 1).val) :
    k0_pay21 (F := Ideal) X (View.ld x2 (Rect.unit (s := S2048x2560) ![0, b] ![2048, 256] inb0))
      (View.ld x3 (Rect.unit (s := S1x2560) ![0, b] ![1, 256] inb1)) x = QV xn x2 x3 i j := by
  obtain ⟨p, q, rfl⟩ : ∃ p q, x = ix2 p q := ⟨x 0, x 1, funext fun e => by fin_cases e <;> rfl⟩
  obtain rfl : i = p := Fin.ext h0
  have e1 : (⟨j.val, by omega⟩ : Fin 2560).val = b + q.val := h1
  refine (col_at _ _ _ _ _).trans ?_
  refine congrArg (· * QS) (congrArg₂ (· + ·) (Finset.sum_congr rfl fun k _ => congrArg₂ (· * ·) (hX i k) ?_) ?_)
  · exact ldrow x2 _ _ _ _ _ _ (Nat.zero_add _).symm e1
  · exact ldrow x3 _ _ _ _ _ _ rfl e1

/-- The wide product's columns are the keys' and the values'. -/
theorem wide (X : Vec Ideal S1024x2048 .bf16) (xn : Fin 1024 → Fin 2048 → EReal) (x2 : Vec Ideal S2048x2560 .bf16)
    (hX : ∀ i k, X (ix2 i k) = xn i k) (x3 : Vec Ideal S1x2560 .f32) (inb0 inb1) (i : Fin 1024) (q : Fin 512) (j : Fin 2560)
    (h1 : j.val = 2048 + q.val) :
    k0_pay10 (F := Ideal) X (View.ld x2 (Rect.unit (s := S2048x2560) ![0, 2048] ![2048, 512] inb0))
      (View.ld x3 (Rect.unit (s := S1x2560) ![0, 2048] ![1, 512] inb1)) (ix2 i q) = COL xn x2 x3 i j := by
  refine (wide_at _ _ _ _ _).trans ?_
  refine congrArg₂ (· + ·) (Finset.sum_congr rfl fun k _ => congrArg₂ (· * ·) (hX i k) ?_) ?_
  · exact ldrow x2 _ _ _ _ _ _ (Nat.zero_add _).symm h1
  · exact ldrow x3 _ _ _ _ _ _ rfl h1

variable (m : (ℓ : Loc nD τ sig) → Buf (Elt Ideal) ℓ)

set_option maxHeartbeats 1600000 in
theorem outQ (c : Dev nD) (t : Fin cfg0.N) (i : Fin 1024) (j : Fin 2048) :
    (outsAt0 m c t).1 (ix2 i j) = QV (NORM (iblk m c 0 t) (iblk m c 1 t)) (iblk m c 2 t) (iblk m c 3 t) i j := by
  unfold outsAt0
  frame_out
  simp only [d23, d27, d1]
  simp only [d3, d4, d5, d6, d7, d8, d9, d24, d25, d28, d29]
  generalize hXe : (View.whole cc0_scratch0).readCov (Val := Elt Ideal) _ _ = X
  generalize hxn : NORM (iblk m c 0 t) (iblk m c 1 t) = xn
  have hX : ∀ i k, X (ix2 i k) = xn i k := by
    intro i k
    rw [← hXe, ← hxn]
    refine (congrFun (View.readCov_eq_canon' (View.whole cc0_scratch0) _ _) _).trans ?_
    refine (congrArg (View.canon _) (?_ : _ = ix2 i k)).trans ?_
    · exact funext fun x => Fin.ext (by fin_cases x; exacts [(Nat.zero_add _).trans (Nat.one_mul _), (Nat.zero_add _).trans (Nat.one_mul _)])
    canon_tiles x h
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k (h0.trans (Nat.zero_add _).symm) h1
  clear hXe
  canon_tiles x h
  · exact tile X xn _ hX _ _ _ _ x i j h0 h1
  · exact tile X xn _ hX _ _ _ _ x i j h0 h1
  · exact tile X xn _ hX _ _ _ _ x i j h0 h1
  · exact tile X xn _ hX _ _ _ _ x i j h0 h1
  · exact tile X xn _ hX _ _ _ _ x i j h0 h1
  · exact tile X xn _ hX _ _ _ _ x i j h0 h1
  · exact tile X xn _ hX _ _ _ _ x i j h0 h1
  · exact tile X xn _ hX _ _ _ _ x i j h0 (h1.trans (Nat.zero_add _).symm)

set_option maxHeartbeats 1600000 in
theorem outK (c : Dev nD) (t : Fin cfg0.N) (hh : Fin 4) (i : Fin 1024) (j : Fin 64) :
    (outsAt0 m c t).2.1 (ix3 hh i j) = KV (NORM (iblk m c 0 t) (iblk m c 1 t)) (iblk m c 2 t) (iblk m c 3 t) hh i j := by
  unfold outsAt0
  frame_out
  simp only [d3, d4, d5, d6, d7, d8, d9]
  generalize hXe : (View.whole cc0_scratch0).readCov (Val := Elt Ideal) _ _ = X
  generalize hxn : NORM (iblk m c 0 t) (iblk m c 1 t) = xn
  have hX : ∀ i k, X (ix2 i k) = xn i k := by
    intro i k
    rw [← hXe, ← hxn]
    refine (congrFun (View.readCov_eq_canon' (View.whole cc0_scratch0) _ _) _).trans ?_
    refine (congrArg (View.canon _) (?_ : _ = ix2 i k)).trans ?_
    · exact funext fun x => Fin.ext (by fin_cases x; exacts [(Nat.zero_add _).trans (Nat.one_mul _), (Nat.zero_add _).trans (Nat.one_mul _)])
    canon_tiles x h
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k (h0.trans (Nat.zero_add _).symm) h1
  clear hXe
  canon_tiles x h
  · obtain ⟨z, p, q, rfl⟩ : ∃ z p q, x = ix3 z p q := ⟨x 0, x 1, x 2, funext fun e => by fin_cases e <;> rfl⟩
    obtain rfl : z = 0 := Fin.ext (by omega)
    obtain rfl : i = p := Fin.ext h1
    obtain rfl : j = q := Fin.ext h2
    have eh : hh.val = 3 := h0
    refine (k19 _ _ _ _ _).trans ?_
    exact wide X xn _ hX _ _ _ _ _ _ (by dsimp only; omega)
  · obtain ⟨z, p, q, rfl⟩ : ∃ z p q, x = ix3 z p q := ⟨x 0, x 1, x 2, funext fun e => by fin_cases e <;> rfl⟩
    obtain rfl : z = 0 := Fin.ext (by omega)
    obtain rfl : i = p := Fin.ext h1
    obtain rfl : j = q := Fin.ext h2
    have eh : hh.val = 2 := h0
    refine (k17 _ _ _ _ _).trans ?_
    exact wide X xn _ hX _ _ _ _ _ _ (by dsimp only; omega)
  · obtain ⟨z, p, q, rfl⟩ : ∃ z p q, x = ix3 z p q := ⟨x 0, x 1, x 2, funext fun e => by fin_cases e <;> rfl⟩
    obtain rfl : z = 0 := Fin.ext (by omega)
    obtain rfl : i = p := Fin.ext h1
    obtain rfl : j = q := Fin.ext h2
    have eh : hh.val = 1 := h0
    refine (k14 _ _ _ _ _).trans ?_
    exact wide X xn _ hX _ _ _ _ _ _ (by dsimp only; omega)
  · obtain ⟨z, p, q, rfl⟩ : ∃ z p q, x = ix3 z p q := ⟨x 0, x 1, x 2, funext fun e => by fin_cases e <;> rfl⟩
    obtain rfl : z = 0 := Fin.ext (by omega)
    obtain rfl : i = p := Fin.ext h1
    obtain rfl : j = q := Fin.ext h2
    have eh : hh.val = 0 := h0
    refine (k12 _ _ _ _ _).trans ?_
    exact wide X xn _ hX _ _ _ _ _ _ (by dsimp only; omega)

set_option maxHeartbeats 1600000 in
theorem outV (c : Dev nD) (t : Fin cfg0.N) (hh : Fin 4) (i : Fin 1024) (j : Fin 256) :
    (outsAt0 m c t).2.2 (ix3 hh i j) = VV (NORM (iblk m c 0 t) (iblk m c 1 t)) (iblk m c 2 t) (iblk m c 3 t) hh i j := by
  unfold outsAt0
  frame_out
  simp only [d3, d4, d5, d6, d7, d8, d9]
  generalize hXe : (View.whole cc0_scratch0).readCov (Val := Elt Ideal) _ _ = X
  generalize hxn : NORM (iblk m c 0 t) (iblk m c 1 t) = xn
  have hX : ∀ i k, X (ix2 i k) = xn i k := by
    intro i k
    rw [← hXe, ← hxn]
    refine (congrFun (View.readCov_eq_canon' (View.whole cc0_scratch0) _ _) _).trans ?_
    refine (congrArg (View.canon _) (?_ : _ = ix2 i k)).trans ?_
    · exact funext fun x => Fin.ext (by fin_cases x; exacts [(Nat.zero_add _).trans (Nat.one_mul _), (Nat.zero_add _).trans (Nat.one_mul _)])
    canon_tiles x h
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k h0 h1
    · exact pieceS _ _ _ _ x i k (h0.trans (Nat.zero_add _).symm) h1
  clear hXe
  canon_tiles x h
  · obtain ⟨z, p, q, rfl⟩ : ∃ z p q, x = ix3 z p q := ⟨x 0, x 1, x 2, funext fun e => by fin_cases e <;> rfl⟩
    obtain rfl : z = 0 := Fin.ext (by omega)
    obtain rfl : i = p := Fin.ext h1
    obtain rfl : j = q := Fin.ext h2
    have eh : hh.val = 3 := h0
    refine (v20 _ _ _ _ _).trans (congrArg (VEXT · j) (funext fun d => ?_))
    exact wide X xn _ hX _ _ _ _ _ _ (by dsimp only; omega)
  · obtain ⟨z, p, q, rfl⟩ : ∃ z p q, x = ix3 z p q := ⟨x 0, x 1, x 2, funext fun e => by fin_cases e <;> rfl⟩
    obtain rfl : z = 0 := Fin.ext (by omega)
    obtain rfl : i = p := Fin.ext h1
    obtain rfl : j = q := Fin.ext h2
    have eh : hh.val = 2 := h0
    refine (v18 _ _ _ _ _).trans (congrArg (VEXT · j) (funext fun d => ?_))
    exact wide X xn _ hX _ _ _ _ _ _ (by dsimp only; omega)
  · obtain ⟨z, p, q, rfl⟩ : ∃ z p q, x = ix3 z p q := ⟨x 0, x 1, x 2, funext fun e => by fin_cases e <;> rfl⟩
    obtain rfl : z = 0 := Fin.ext (by omega)
    obtain rfl : i = p := Fin.ext h1
    obtain rfl : j = q := Fin.ext h2
    have eh : hh.val = 1 := h0
    refine (v15 _ _ _ _ _).trans (congrArg (VEXT · j) (funext fun d => ?_))
    exact wide X xn _ hX _ _ _ _ _ _ (by dsimp only; omega)
  · obtain ⟨z, p, q, rfl⟩ : ∃ z p q, x = ix3 z p q := ⟨x 0, x 1, x 2, funext fun e => by fin_cases e <;> rfl⟩
    obtain rfl : z = 0 := Fin.ext (by omega)
    obtain rfl : i = p := Fin.ext h1
    obtain rfl : j = q := Fin.ext h2
    have eh : hh.val = 0 := h0
    refine (v13 _ _ _ _ _).trans (congrArg (VEXT · j) (funext fun d => ?_))
    exact wide X xn _ hX _ _ _ _ _ _ (by dsimp only; omega)

end Cert.Kernel5Ideal.Qkv
-- ==== Proof.Qkv.Fin.lean ====
module

public import proofs.«01_k».proof.Proof.Qkv.Out
public import Idealize.ShloMosaic.Lib.Claim
public import Idealize.ShloMosaic.Lib.Pipeline.ValueKit
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Kernel5Ideal.Qkv
open Cert.Kernel5Ideal Cert.Kernel5Ideal.Gen
open Cert.Kernel2Ideal.Ffn (SC)
variable (m : (ℓ : Loc nD τ sig) → Buf (Elt Ideal) ℓ)

theorem idx : ∀ t : Fin cfg0.N, win0_0.index t = ![t.val, 0] ∧ win0_1.index t = ![0, 0] ∧ win0_2.index t = ![0, 0] ∧
    win0_3.index t = ![0, 0] ∧ win0_4.index t = ![t.val, 0] ∧ win0_5.index t = ![0, t.val, 0] ∧
    win0_6.index t = ![0, t.val, 0] :=
  (by decide +kernel : ∀ t : Fin grid0.N, _)

/-- The arrays the windows stage, at their coordinates. -/
def hG (c : Dev nD) (R : Fin 32768) (k : Fin 2048) : EReal := V m c main_v0 (ix2 R k)
def gG (c : Dev nD) (k : Fin 2048) : EReal := V m c main_v3 (ix2 0 k)
def wG (c : Dev nD) (k : Fin 2048) (j : Fin 2560) : EReal := V m c main_v5 (ix2 k j)
def bG (c : Dev nD) (j : Fin 2560) : EReal := V m c main_v7 (ix2 0 j)

theorem r0 (c : Dev nD) (t : Fin cfg0.N) (i : Fin 1024) (k : Fin 2048) (R : Fin 32768) (hR : R.val = t.val * 1024 + i.val) :
    iblk m c 0 t (ix2 i k) = hG m c R k := by
  unfold hG
  blk_simp [iblk, idx t]
  blk_ext [idx t]
theorem r1 (c : Dev nD) (t : Fin cfg0.N) (k : Fin 2048) : iblk m c 1 t (ix2 0 k) = gG m c k := by
  unfold gG
  blk_ext [iblk, idx t]
theorem r2 (c : Dev nD) (t : Fin cfg0.N) (k : Fin 2048) (j : Fin 2560) : iblk m c 2 t (ix2 k j) = wG m c k j := by
  unfold wG
  blk_ext [iblk, idx t]
theorem r3 (c : Dev nD) (t : Fin cfg0.N) (j : Fin 2560) : iblk m c 3 t (ix2 0 j) = bG m c j := by
  unfold bG
  blk_ext [iblk, idx t]

/-- A row's norm with its gain. -/
def xn (c : Dev nD) (R : Fin 32768) (k : Fin 2048) : EReal := hG m c R k * SC (hG m c R) * gG m c k
/-- One column of the projection of a row. -/
def col (c : Dev nD) (R : Fin 32768) (j : Fin 2560) : EReal := (∑ k, xn m c R k * wG m c k j) + bG m c j
def resQ (c : Dev nD) (R : Fin 32768) (j : Fin 2048) : EReal := col m c R ⟨j.val, by omega⟩ * QS
def resK (c : Dev nD) (h : Fin 4) (R : Fin 32768) (d : Fin 64) : EReal := col m c R ⟨2048 + (h.val * 64 + d.val), by omega⟩
def resV (c : Dev nD) (h : Fin 4) (R : Fin 32768) (l : Fin 256) : EReal :=
  VEXT (fun d => col m c R ⟨2304 + (h.val * 64 + d.val), by omega⟩) l

theorem col_eq (c : Dev nD) (t : Fin cfg0.N) (i : Fin 1024) (R : Fin 32768) (hR : R.val = t.val * 1024 + i.val) (j : Fin 2560) :
    COL (NORM (iblk m c 0 t) (iblk m c 1 t)) (iblk m c 2 t) (iblk m c 3 t) i j = col m c R j := by
  have e : ∀ k, NORM (iblk m c 0 t) (iblk m c 1 t) i k = xn m c R k := by
    intro k
    rw [NORM, xn, r0 m c t i k R hR, r1, show (fun k => iblk m c 0 t (ix2 i k)) = hG m c R from funext fun k => r0 m c t i k R hR]
  rw [COL, col, r3]
  exact congrArg (· + _) (Finset.sum_congr rfl fun k _ => congrArg₂ (· * ·) (e k) (r2 m c t k j))

theorem resQ_at (c : Dev nD) (t : Fin cfg0.N) (i : Fin 1024) (j : Fin 2048) (R : Fin 32768) (hR : R.val = t.val * 1024 + i.val) :
    (outsAt0 m c t).1 (ix2 i j) = resQ m c R j := by
  rw [outQ, QV, col_eq m c t i R hR, resQ]
theorem resK_at (c : Dev nD) (t : Fin cfg0.N) (h : Fin 4) (i : Fin 1024) (d : Fin 64) (R : Fin 32768) (hR : R.val = t.val * 1024 + i.val) :
    (outsAt0 m c t).2.1 (ix3 h i d) = resK m c h R d := by
  rw [outK, KV, col_eq m c t i R hR, resK]
theorem resV_at (c : Dev nD) (t : Fin cfg0.N) (h : Fin 4) (i : Fin 1024) (l : Fin 256) (R : Fin 32768) (hR : R.val = t.val * 1024 + i.val) :
    (outsAt0 m c t).2.2 (ix3 h i l) = resV m c h R l := by
  rw [outV, VV, resV]
  exact congrArg (VEXT · l) (funext fun d => col_eq m c t i R hR _)

/-- The query array at an index. -/
theorem finalQ (c : Dev nD) (R : Fin 32768) (j : Fin 2048) : (dats m 0 c).arrAt 4 (cfgs 0).N (ix2 R j) = resQ m c R j := by
  refine congrFun (?_ : (dats m 0 c).arrAt 4 (cfgs 0).N = fun y : S32768x2048.Idx => resQ m c (y 0) (y 1)) (ix2 R j)
  refine (dats m 0 c).arrAt_eq_of_covers 4 _ (by decide +kernel) fun t hf y => ?_
  blk_simp
  rw [after0_4]
  have e0 : ((win0_4.blk t).view.emb y 0).val = t.val * 1024 + (y 0).val := by
    blk_simp [idx t]
  have e1 : ((win0_4.blk t).view.emb y 1).val = (y 1).val := by
    blk_simp [idx t]
  have ey : y = ix2 (y 0) (y 1) := funext fun e => by fin_cases e <;> rfl
  have e1' : (win0_4.blk t).view.emb y 1 = y 1 := Fin.ext e1
  rw [e1', ey]
  exact resQ_at m c t (y 0) (y 1) _ e0

/-- The key array at an index. -/
theorem finalK (c : Dev nD) (h : Fin 4) (R : Fin 32768) (d : Fin 64) : (dats m 0 c).arrAt 5 (cfgs 0).N (ix3 h R d) = resK m c h R d := by
  refine congrFun (?_ : (dats m 0 c).arrAt 5 (cfgs 0).N = fun y : S4x32768x64.Idx => resK m c (y 0) (y 1) (y 2)) (ix3 h R d)
  refine (dats m 0 c).arrAt_eq_of_covers 5 _ (by decide +kernel) fun t hf y => ?_
  blk_simp
  rw [after0_5]
  have e0 : ((win0_5.blk t).view.emb y 0).val = (y 0).val := by
    blk_simp [idx t]
  have e1 : ((win0_5.blk t).view.emb y 1).val = t.val * 1024 + (y 1).val := by
    blk_simp [idx t]
  have e2 : ((win0_5.blk t).view.emb y 2).val = (y 2).val := by
    blk_simp [idx t]
  have ey : y = ix3 (y 0) (y 1) (y 2) := funext fun e => by fin_cases e <;> rfl
  have e0' : (win0_5.blk t).view.emb y 0 = y 0 := Fin.ext e0
  have e2' : (win0_5.blk t).view.emb y 2 = y 2 := Fin.ext e2
  rw [e0', e2', ey]
  exact resK_at m c t (y 0) (y 1) (y 2) _ e1

/-- The value array at an index. -/
theorem finalV (c : Dev nD) (h : Fin 4) (R : Fin 32768) (l : Fin 256) : (dats m 0 c).arrAt 6 (cfgs 0).N (ix3 h R l) = resV m c h R l := by
  refine congrFun (?_ : (dats m 0 c).arrAt 6 (cfgs 0).N = fun y : S4x32768x256.Idx => resV m c (y 0) (y 1) (y 2)) (ix3 h R l)
  refine (dats m 0 c).arrAt_eq_of_covers 6 _ (by decide +kernel) fun t hf y => ?_
  blk_simp
  rw [after0_6]
  have e0 : ((win0_6.blk t).view.emb y 0).val = (y 0).val := by
    blk_simp [idx t]
  have e1 : ((win0_6.blk t).view.emb y 1).val = t.val * 1024 + (y 1).val := by
    blk_simp [idx t]
  have e2 : ((win0_6.blk t).view.emb y 2).val = (y 2).val := by
    blk_simp [idx t]
  have ey : y = ix3 (y 0) (y 1) (y 2) := funext fun e => by fin_cases e <;> rfl
  have e0' : (win0_6.blk t).view.emb y 0 = y 0 := Fin.ext e0
  have e2' : (win0_6.blk t).view.emb y 2 = y 2 := Fin.ext e2
  rw [e0', e2', ey]
  exact resV_at m c t (y 0) (y 1) (y 2) _ e1

theorem hG_eq (c : Dev nD) (R : Fin 32768) (k : Fin 2048) (b : Fin 2) (n : Fin 16384) (hR : R.val = b.val * 16384 + n.val) :
    hG m c R k = m ((c : Thread nD τ).loc main_arg0) (ix3 b n k) := by
  unfold hG
  entry_read
  pointwise []
  have hb : b = ⟨R.val / 16384, by omega⟩ := Fin.ext (by dsimp only; omega)
  have hn : n = ⟨R.val % 16384, by omega⟩ := Fin.ext (by dsimp only; omega)
  exact (congrArg₂ (fun b n => m ((c : Thread nD τ).loc main_arg0) (ix3 b n k)) hb hn).symm
theorem gG_eq (c : Dev nD) (k : Fin 2048) : gG m c k = m ((c : Thread nD τ).loc main_arg1) (ix2 1 k) := by
  unfold gG
  entry_read
  pointwise []
theorem wG_eq (c : Dev nD) (k : Fin 2048) (j : Fin 2560) : wG m c k j = m ((c : Thread nD τ).loc main_arg2) (ix3 0 k j) := by
  unfold wG
  entry_read
  pointwise []
theorem bG_eq (c : Dev nD) (j : Fin 2560) : bG m c j = m ((c : Thread nD τ).loc main_arg3) (ix2 0 j) := by
  unfold bG
  entry_read
  pointwise []
end Cert.Kernel5Ideal.Qkv
-- ==== Proof.Qkv.Ref.lean ====
module

public import proofs.«01_k».proof.Proof.Gen.Reference5Ideal.Read
public import proofs.«01_k».proof.Proof.Qkv.Out
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.Reference5Ideal.Qkv
open Cert.Reference5Ideal Cert.Reference5Ideal.Read
open Cert.Kernel2Ideal.Ffn (SC)
open Cert.Kernel5Ideal.Qkv (QS VEXT)

theorem zero32 : Ideal.ofBits FTy.f32 0#32 = 0 := by simp [Ideal.ofBits, Ideal.ieee]
variable (x0 : Vec Ideal S2x16384x2048 .f32) (x1 : Vec Ideal S2x2048 .f32) (x2 : Vec Ideal S1x2048x2560 .f32) (x3 : Vec Ideal S1x2560 .f32)

theorem v14_at (b : Fin 2) (n : Fin 16384) (k : Fin 2048) :
    val_main_v14 (F := Ideal) x0 x1 (ix3 b n k) = x0 (ix3 b n k) * SC (fun k => x0 (ix3 b n k)) * x1 (ix2 1 k) := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, SC, zero32]

theorem v20_at (b : Fin 2) (n : Fin 16384) (j : Fin 2560) :
    val_main_v20 (F := Ideal) x0 x1 x2 x3 (ix3 b n j) =
      (∑ k : Fin 2048, val_main_v14 (F := Ideal) x0 x1 (ix3 b n k) * x2 (ix3 0 k j)) + x3 (ix2 0 j) := by
  unfold val_main_v20 val_main_v16
  generalize val_main_v14 (F := Ideal) x0 x1 = y
  pointwise [val_main_v19, val_main_v18, val_main_v17, val_main_v15]

theorem v32_at (R : Fin 32768) (j : Fin 2048) (b : Fin 2) (n : Fin 16384) (hR : R.val = b.val * 16384 + n.val) :
    val_main_v32 (F := Ideal) x0 x1 x2 x3 (ix2 R j) = val_main_v20 (F := Ideal) x0 x1 x2 x3 (ix3 b n ⟨j.val, by omega⟩) * QS := by
  unfold val_main_v32 val_main_v31 val_main_v25 val_main_v21
  generalize val_main_v20 (F := Ideal) x0 x1 x2 x3 = y
  have hb : (⟨R.val / 16384, by omega⟩ : Fin 2) = b := Fin.ext (by dsimp only; omega)
  have hn : (⟨R.val % 16384, by omega⟩ : Fin 16384) = n := Fin.ext (by dsimp only; omega)
  pointwise [val_main_v24, val_main_cst_2, QS]
  rw [hb, hn]

theorem v33_at (h : Fin 4) (R : Fin 32768) (d : Fin 64) (b : Fin 2) (n : Fin 16384) (hR : R.val = b.val * 16384 + n.val) :
    val_main_v33 (F := Ideal) x0 x1 x2 x3 (ix3 h R d) = val_main_v20 (F := Ideal) x0 x1 x2 x3 (ix3 b n ⟨2048 + (h.val * 64 + d.val), by omega⟩) := by
  unfold val_main_v33 val_main_v27 val_main_v26 val_main_v22
  generalize val_main_v20 (F := Ideal) x0 x1 x2 x3 = y
  have hb : (⟨R.val / 16384, by omega⟩ : Fin 2) = b := Fin.ext (by dsimp only; omega)
  have hn : (⟨R.val % 16384, by omega⟩ : Fin 16384) = n := Fin.ext (by dsimp only; omega)
  pointwise []
  rw [hb, hn]

theorem v29_at (h : Fin 4) (R : Fin 32768) (d : Fin 64) (b : Fin 2) (n : Fin 16384) (hR : R.val = b.val * 16384 + n.val) :
    val_main_v29 (F := Ideal) x0 x1 x2 x3 (ix3 h R d) = val_main_v20 (F := Ideal) x0 x1 x2 x3 (ix3 b n ⟨2304 + (h.val * 64 + d.val), by omega⟩) := by
  unfold val_main_v29 val_main_v28 val_main_v23
  generalize val_main_v20 (F := Ideal) x0 x1 x2 x3 = y
  have hb : (⟨R.val / 16384, by omega⟩ : Fin 2) = b := Fin.ext (by dsimp only; omega)
  have hn : (⟨R.val % 16384, by omega⟩ : Fin 16384) = n := Fin.ext (by dsimp only; omega)
  pointwise []
  rw [hb, hn]

theorem v35_at (h : Fin 4) (R : Fin 32768) (l : Fin 256) :
    val_main_v35 (F := Ideal) x0 x1 x2 x3 (ix3 h R l) = VEXT (fun d => val_main_v29 (F := Ideal) x0 x1 x2 x3 (ix3 h R d)) l := by
  unfold val_main_v35 val_main_v34
  generalize val_main_v29 (F := Ideal) x0 x1 x2 x3 = y
  pointwise [val_main_v30, val_main_cst_3, VEXT]

end Cert.Reference5Ideal.Qkv
-- ==== Proof.Qkv.Alg.lean ====
module

public import proofs.«01_k».proof.Proof.Qkv.Fin
public import proofs.«01_k».proof.Proof.Qkv.Ref
public import proofs.«01_k».proof.Proof.Gen.Kernel5Ideal.Frame
public import proofs.«01_k».proof.Proof.Gen.Reference5Ideal.Run
public import proofs.«01_k».proof.Defs
public import Idealize.ShloMosaic.Lib.Claim

@[expose] public section

set_option maxRecDepth 16384
noncomputable section
open Idealize.ShloMosaic Idealize.ShloMosaic.TcCoe Idealize.SL.Sem
namespace Cert.Kernel5Ideal.Qkv
open Cert.Kernel5Ideal Cert.Kernel5Ideal.Gen
variable (m : (ℓ : Loc nD τ sig) → Buf (Elt Ideal) ℓ)

open Cert.Reference5Ideal.Read Cert.Reference5Ideal.Qkv

/-- A column of the projection is the reference's. -/
theorem col_ref (c : Dev nD) (R : Fin 32768) (b : Fin 2) (n : Fin 16384) (hR : R.val = b.val * 16384 + n.val) (j : Fin 2560) :
    val_main_v20 (F := Ideal) (m ((c : Thread nD τ).loc main_arg0)) (m ((c : Thread nD τ).loc main_arg1)) (m ((c : Thread nD τ).loc main_arg2)) (m ((c : Thread nD τ).loc main_arg3)) (ix3 b n j) = col m c R j := by
  have hh : hG m c R = fun k => m ((c : Thread nD τ).loc main_arg0) (ix3 b n k) := funext fun k => hG_eq m c R k b n hR
  have hx : ∀ k, val_main_v14 (F := Ideal) (m ((c : Thread nD τ).loc main_arg0)) (m ((c : Thread nD τ).loc main_arg1)) (ix3 b n k) = xn m c R k := by
    intro k
    rw [v14_at, xn, gG_eq, hh]
  rw [v20_at, col, bG_eq]
  exact congrArg (· + _) (Finset.sum_congr rfl fun k _ => congrArg₂ (· * ·) (hx k) (wG_eq m c k j).symm)

/-- The kernel's queries are the reference's. -/
theorem resQ_eq (c : Dev nD) (R : Fin 32768) (j : Fin 2048) :
    val_main_v32 (F := Ideal) (m ((c : Thread nD τ).loc main_arg0)) (m ((c : Thread nD τ).loc main_arg1)) (m ((c : Thread nD τ).loc main_arg2)) (m ((c : Thread nD τ).loc main_arg3)) (ix2 R j) = resQ m c R j := by
  have hR : R.val = R.val / 16384 * 16384 + R.val % 16384 := by omega
  obtain ⟨b, hb⟩ : ∃ b : Fin 2, b.val = R.val / 16384 := ⟨⟨R.val / 16384, by omega⟩, rfl⟩
  obtain ⟨n, hn⟩ : ∃ n : Fin 16384, n.val = R.val % 16384 := ⟨⟨R.val % 16384, by omega⟩, rfl⟩
  rw [← hb, ← hn] at hR
  rw [v32_at _ _ _ _ R j b n hR, col_ref m c R b n hR, resQ]

/-- The kernel's keys are the reference's. -/
theorem resK_eq (c : Dev nD) (h : Fin 4) (R : Fin 32768) (d : Fin 64) :
    val_main_v33 (F := Ideal) (m ((c : Thread nD τ).loc main_arg0)) (m ((c : Thread nD τ).loc main_arg1)) (m ((c : Thread nD τ).loc main_arg2)) (m ((c : Thread nD τ).loc main_arg3)) (ix3 h R d) = resK m c h R d := by
  have hR : R.val = R.val / 16384 * 16384 + R.val % 16384 := by omega
  obtain ⟨b, hb⟩ : ∃ b : Fin 2, b.val = R.val / 16384 := ⟨⟨R.val / 16384, by omega⟩, rfl⟩
  obtain ⟨n, hn⟩ : ∃ n : Fin 16384, n.val = R.val % 16384 := ⟨⟨R.val % 16384, by omega⟩, rfl⟩
  rw [← hb, ← hn] at hR
  rw [v33_at _ _ _ _ h R d b n hR, col_ref m c R b n hR, resK]

/-- The kernel's values are the reference's. -/
theorem resV_eq (c : Dev nD) (h : Fin 4) (R : Fin 32768) (l : Fin 256) :
    val_main_v35 (F := Ideal) (m ((c : Thread nD τ).loc main_arg0)) (m ((c : Thread nD τ).loc main_arg1)) (m ((c : Thread nD τ).loc main_arg2)) (m ((c : Thread nD τ).loc main_arg3)) (ix3 h R l) = resV m c h R l := by
  have hR : R.val = R.val / 16384 * 16384 + R.val % 16384 := by omega
  obtain ⟨b, hb⟩ : ∃ b : Fin 2, b.val = R.val / 16384 := ⟨⟨R.val / 16384, by omega⟩, rfl⟩
  obtain ⟨n, hn⟩ : ∃ n : Fin 16384, n.val = R.val % 16384 := ⟨⟨R.val % 16384, by omega⟩, rfl⟩
  rw [← hb, ← hn] at hR
  rw [v35_at, resV]
  exact congrArg (VEXT · l) (funext fun d => (v29_at _ _ _ _ h R d b n hR).trans (col_ref m c R b n hR _))

theorem value : Cert.algebraic_Kernel5Ideal_Reference5Ideal := by
  pair_intro
  · run_from Cert.Kernel5Ideal.Gen.run_main m g
  · run_from Cert.Reference5Ideal.Value.run m' g'
    · obtain ⟨a0, a1, a2, a3⟩ := hagree c
      rw [Cert.Reference5Ideal.Read.val_main_v32_eq]
      funext y
      have hy : y = ix2 (y 0) (y 1) := funext fun e => by fin_cases e <;> rfl
      exact (congrArg _ hy).trans ((resQ_eq m c (y 0) (y 1)).trans ((finalQ m c (y 0) (y 1)).symm.trans (congrArg _ hy.symm)))
    · obtain ⟨a0, a1, a2, a3⟩ := hagree c
      rw [Cert.Reference5Ideal.Read.val_main_v33_eq]
      funext y
      have hy : y = ix3 (y 0) (y 1) (y 2) := funext fun e => by fin_cases e <;> rfl
      exact (congrArg _ hy).trans ((resK_eq m c (y 0) (y 1) (y 2)).trans ((finalK m c (y 0) (y 1) (y 2)).symm.trans (congrArg _ hy.symm)))
    · obtain ⟨a0, a1, a2, a3⟩ := hagree c
      rw [Cert.Reference5Ideal.Read.val_main_v35_eq]
      try rw [a3]
      funext y
      have hy : y = ix3 (y 0) (y 1) (y 2) := funext fun e => by fin_cases e <;> rfl
      exact (congrArg _ hy).trans ((resV_eq m c (y 0) (y 1) (y 2)).trans ((finalV m c (y 0) (y 1) (y 2)).symm.trans (congrArg _ hy.symm)))
end Cert.Kernel5Ideal.Qkv
-- ==== Proof.Attn.Unit.lean ====
module

public import proofs.«01_k».proof.Proof.Gen.KernelIdeal.Skeleton
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.KernelIdeal.Attn
open Cert.KernelIdeal Cert.KernelIdeal.Gen

/-- The least value of the format, read as a number, is −∞. -/
theorem neg_inf : Ideal.ofBits FTy.f32 4286578688#32 = ⊥ := by
  simp [Ideal.ofBits, Ideal.ieee]

/-- A matrix read at equal coordinates. -/
theorem at2 {n m : ℕ} {α : Type} (f : (⟨2, ![n, m]⟩ : Shape).Idx → α) {a a' : Fin n} {b b' : Fin m}
    (ha : (a : ℕ) = a') (hb : (b : ℕ) = b') : f (ix2 a b) = f (ix2 a' b') := by
  rw [Fin.ext ha, Fin.ext hb]

/-- A rank-3 array read at equal coordinates. -/
theorem at3 {n m l : ℕ} {α : Type} (f : (⟨3, ![n, m, l]⟩ : Shape).Idx → α) {a a' : Fin n} {b b' : Fin m} {c c' : Fin l}
    (ha : (a : ℕ) = a') (hb : (b : ℕ) = b') (hc : (c : ℕ) = c') : f (ix3 a b c) = f (ix3 a' b' c') := by
  rw [Fin.ext ha, Fin.ext hb, Fin.ext hc]

set_option maxHeartbeats 1600000 in
/-- The eight query heads of one key head, stacked: row `r` is head `r / 64`, query `r % 64`. -/
theorem q_at (q : FVec Ideal S64x512 .bf16) (r : Fin 512) (k : Fin 64) :
    k0_pay24 (F := Ideal) q (ix2 r k)
      = q (ix2 ⟨r.val % 64, by omega⟩ ⟨r.val / 64 * 64 + k.val, by omega⟩) := by
  have hr := r.isLt
  generalize hX : q (ix2 ⟨r.val % 64, by omega⟩ ⟨r.val / 64 * 64 + k.val, by omega⟩) = X
  pointwise [k0_pay24]
  subst hX
  (repeat' split) <;> exact at2 q (by dsimp only; omega) (by dsimp only; omega)

theorem score_at (K : FVec Ideal S256x64 .bf16) (Q : FVec Ideal S512x64 .bf16)
    (T : FVec Ideal S1x1x1x512x256 .f32) (r : Fin 512) (s : Fin 256) :
    k0_pay25 (F := Ideal) K Q T (ix2 r s)
      = (∑ k : Fin 64, Q (ix2 r k) * K (ix2 s k)) + T (ix5 0 0 0 r s) := by
  pointwise [k0_pay25]

theorem prob_at (S : FVec Ideal S512x256 .f32) (r : Fin 512) (s : Fin 256) :
    k0_pay41 (F := Ideal) S (ix2 r s)
      = Ideal.exp (S (ix2 r s) - Finset.univ.fold max ⊥ fun s' : Fin 256 => S (ix2 r s')) := by
  pointwise [k0_pay41]
  rw [neg_inf]

theorem out_at (V : FVec Ideal S256x256 .bf16) (P : FVec Ideal S512x256 .bf16) (r : Fin 512) (d : Fin 64) :
    k0_pay51 (F := Ideal) V P (ix2 r d)
      = Ideal.div (∑ s : Fin 256, P (ix2 r s) * V (ix2 s ⟨d.val, by omega⟩))
          (∑ s : Fin 256, P (ix2 r s) * V (ix2 s ⟨128 + d.val, by omega⟩)) := by
  pointwise [k0_pay51]

set_option maxHeartbeats 1600000 in
theorem asm_at (O0 O1 : FVec Ideal S512x64 .f32) (i : Fin 128) (j : Fin 512) :
    k0_pay65 (F := Ideal) O0 O1 (ix2 i j)
      = if h : i.val < 64 then O0 (ix2 ⟨j.val / 64 * 64 + i.val, by omega⟩ ⟨j.val % 64, by omega⟩)
        else O1 (ix2 ⟨j.val / 64 * 64 + (i.val - 64), by omega⟩ ⟨j.val % 64, by omega⟩) := by
  pointwise [k0_pay65]
  (repeat' split) <;> first
    | exact at2 O0 (by dsimp only; omega) (by dsimp only; omega)
    | exact at2 O1 (by dsimp only; omega) (by dsimp only; omega)

theorem klo_at (a : FVec Ideal S1x128x64 .bf16) (b : FVec Ideal S1x64x64 .bf16) (m : FVec Ideal S1x16x64 .bf16)
    (s : Fin 256) (k : Fin 64) :
    k0_pay22 (F := Ideal) (k0_pay3 (F := Ideal)) a b m (ix2 s k)
      = if h : s.val < 128 then a (ix3 0 ⟨s.val, h⟩ k)
        else if h1 : s.val < 192 then b (ix3 0 ⟨s.val - 128, by omega⟩ k)
        else if h2 : s.val < 208 then m (ix3 0 ⟨s.val - 192, by omega⟩ k) else 0 := by
  pointwise [k0_pay22, k0_pay3]
  (repeat' split) <;> first
    | rfl
    | (exfalso; omega)
    | exact at3 a rfl (by dsimp only; omega) rfl
    | exact at3 b rfl (by dsimp only; omega) rfl
    | exact at3 m rfl (by dsimp only; omega) rfl

theorem khi_at (a : FVec Ideal S1x64x64 .bf16) (b : FVec Ideal S1x128x64 .bf16) (m : FVec Ideal S1x16x64 .bf16)
    (s : Fin 256) (k : Fin 64) :
    k0_pay12 (F := Ideal) (k0_pay3 (F := Ideal)) a b m (ix2 s k)
      = if h : s.val < 64 then a (ix3 0 ⟨s.val, h⟩ k)
        else if h1 : s.val < 192 then b (ix3 0 ⟨s.val - 64, by omega⟩ k)
        else if h2 : s.val < 208 then m (ix3 0 ⟨s.val - 192, by omega⟩ k) else 0 := by
  pointwise [k0_pay12, k0_pay3]
  (repeat' split) <;> first
    | rfl
    | (exfalso; omega)
    | exact at3 a rfl (by dsimp only; omega) rfl
    | exact at3 b rfl (by dsimp only; omega) rfl
    | exact at3 m rfl (by dsimp only; omega) rfl

/-- The lanes of the tail rows: ones in the middle half. -/
theorem tail_word (k : Fin 256) :
    Scalar.select (IntOp.andi (IntOp.cmpi CmpIPredicate.sge (BitVec.ofNat 32 k.val) 64#32)
      (IntOp.cmpi CmpIPredicate.slt (BitVec.ofNat 32 k.val) 192#32)) (1 : EReal) 0
      = if 64 ≤ k.val ∧ k.val < 192 then 1 else 0 := by
  word_cmp

theorem vlo_at (a : FVec Ideal S1x128x256 .bf16) (b : FVec Ideal S1x64x256 .bf16) (m : FVec Ideal S1x16x256 .bf16)
    (s : Fin 256) (k : Fin 256) :
    k0_pay23 (F := Ideal) (k0_pay4 (F := Ideal)) a b m (ix2 s k)
      = if h : s.val < 128 then a (ix3 0 ⟨s.val, h⟩ k)
        else if h1 : s.val < 192 then b (ix3 0 ⟨s.val - 128, by omega⟩ k)
        else if h2 : s.val < 208 then m (ix3 0 ⟨s.val - 192, by omega⟩ k)
        else if 64 ≤ k.val ∧ k.val < 192 then 1 else 0 := by
  pointwise [k0_pay23, k0_pay4]
  rw [tail_word k]
  (repeat' split) <;> first
    | rfl
    | (exfalso; omega)
    | exact at3 a rfl (by dsimp only; omega) rfl
    | exact at3 b rfl (by dsimp only; omega) rfl
    | exact at3 m rfl (by dsimp only; omega) rfl

theorem vhi_at (a : FVec Ideal S1x64x256 .bf16) (b : FVec Ideal S1x128x256 .bf16) (m : FVec Ideal S1x16x256 .bf16)
    (s : Fin 256) (k : Fin 256) :
    k0_pay13 (F := Ideal) (k0_pay4 (F := Ideal)) a b m (ix2 s k)
      = if h : s.val < 64 then a (ix3 0 ⟨s.val, h⟩ k)
        else if h1 : s.val < 192 then b (ix3 0 ⟨s.val - 64, by omega⟩ k)
        else if h2 : s.val < 208 then m (ix3 0 ⟨s.val - 192, by omega⟩ k)
        else if 64 ≤ k.val ∧ k.val < 192 then 1 else 0 := by
  pointwise [k0_pay13, k0_pay4]
  rw [tail_word k]
  (repeat' split) <;> first
    | rfl
    | (exfalso; omega)
    | exact at3 a rfl (by dsimp only; omega) rfl
    | exact at3 b rfl (by dsimp only; omega) rfl
    | exact at3 m rfl (by dsimp only; omega) rfl

end Cert.KernelIdeal.Attn
-- ==== Proof.Attn.Block.lean ====
module

public import proofs.«01_k».proof.Proof.Gen.KernelIdeal.Frame
public import proofs.«01_k».proof.Proof.Attn.Unit
public import Idealize.ShloMosaic.Lib.Pipeline.ValueKit

@[expose] public section

set_option maxRecDepth 16384
noncomputable section
open Idealize.ShloMosaic Idealize.ShloMosaic.TcCoe Idealize.SL.Sem
namespace Cert.KernelIdeal.Attn
open Cert.KernelIdeal Cert.KernelIdeal.Gen

/-! ## One grid point's block, read at an index -/

section
variable (x0 : FVec Ideal S128x2048 .bf16) (x1 x2 : FVec Ideal S4x128x64 .bf16)
  (x3 x4 : FVec Ideal S4x128x256 .bf16) (x5 : FVec Ideal S4x16x64 .bf16) (x6 : FVec Ideal S4x16x256 .bf16)
  (x7 : FVec Ideal S1x4x2x512x256 .f32)

/-- The key in slot `s` of head `hh`, half `sb`: the band's 192 rows, the 16 leading tokens, zeros. -/
def KF (hh : Fin 4) (sb : Fin 2) (s : Fin 256) (k : Fin 64) : EReal :=
  if h : s.val < 192 then
    if h1 : s.val + 64 * sb.val < 128 then x1 (ix3 hh ⟨s.val + 64 * sb.val, h1⟩ k)
    else x2 (ix3 hh ⟨s.val + 64 * sb.val - 128, by omega⟩ k)
  else if h2 : s.val < 208 then x5 (ix3 hh ⟨s.val - 192, by omega⟩ k) else 0

/-- The row of values (and of ones) in slot `s`. -/
def VF (hh : Fin 4) (sb : Fin 2) (s : Fin 256) (k : Fin 256) : EReal :=
  if h : s.val < 192 then
    if h1 : s.val + 64 * sb.val < 128 then x3 (ix3 hh ⟨s.val + 64 * sb.val, h1⟩ k)
    else x4 (ix3 hh ⟨s.val + 64 * sb.val - 128, by omega⟩ k)
  else if h2 : s.val < 208 then x6 (ix3 hh ⟨s.val - 192, by omega⟩ k)
  else if 64 ≤ k.val ∧ k.val < 192 then 1 else 0

/-- The score of slot `s` for row `r` (query head `r / 64`, query `r % 64` of the half). -/
def SC (hh : Fin 4) (sb : Fin 2) (r : Fin 512) (s : Fin 256) : EReal :=
  (∑ k : Fin 64, x0 (ix2 ⟨64 * sb.val + r.val % 64, by omega⟩ ⟨hh.val * 512 + (r.val / 64 * 64 + k.val), by omega⟩)
      * KF x1 x2 x5 hh sb s k) + x7 (ix5 0 hh sb r s)

/-- The unnormalised weight of slot `s`. -/
def PR (hh : Fin 4) (sb : Fin 2) (r : Fin 512) (s : Fin 256) : EReal :=
  Ideal.exp (SC x0 x1 x2 x5 x7 hh sb r s - Finset.univ.fold max ⊥ fun s' : Fin 256 => SC x0 x1 x2 x5 x7 hh sb r s')

/-- The attention's output of one half, one key head: row `r`, lane `d`. -/
def UO (hh : Fin 4) (sb : Fin 2) (r : Fin 512) (d : Fin 64) : EReal :=
  Ideal.div (∑ s : Fin 256, PR x0 x1 x2 x5 x7 hh sb r s * VF x3 x4 x6 hh sb s ⟨d.val, by omega⟩)
    (∑ s : Fin 256, PR x0 x1 x2 x5 x7 hh sb r s * VF x3 x4 x6 hh sb s ⟨128 + d.val, by omega⟩)

theorem unit_lo (hh : Fin 4) (q : FVec Ideal S64x512 .bf16) (a1 : FVec Ideal S1x128x64 .bf16)
    (b1 : FVec Ideal S1x64x64 .bf16) (m1 : FVec Ideal S1x16x64 .bf16) (a2 : FVec Ideal S1x128x256 .bf16)
    (b2 : FVec Ideal S1x64x256 .bf16) (m2 : FVec Ideal S1x16x256 .bf16) (t : FVec Ideal S1x1x1x512x256 .f32)
    (hq : ∀ (i : Fin 64) (j : Fin 512), q (ix2 i j) = x0 (ix2 ⟨i.val, by omega⟩ ⟨hh.val * 512 + j.val, by omega⟩))
    (ha1 : ∀ i k, a1 (ix3 0 i k) = x1 (ix3 hh i k))
    (hb1 : ∀ (i : Fin 64) k, b1 (ix3 0 i k) = x2 (ix3 hh ⟨i.val, by omega⟩ k))
    (hm1 : ∀ i k, m1 (ix3 0 i k) = x5 (ix3 hh i k))
    (ha2 : ∀ i k, a2 (ix3 0 i k) = x3 (ix3 hh i k))
    (hb2 : ∀ (i : Fin 64) k, b2 (ix3 0 i k) = x4 (ix3 hh ⟨i.val, by omega⟩ k))
    (hm2 : ∀ i k, m2 (ix3 0 i k) = x6 (ix3 hh i k))
    (ht : ∀ r s, t (ix5 0 0 0 r s) = x7 (ix5 0 hh 0 r s)) (r : Fin 512) (d : Fin 64) :
    k0_pay51 (F := Ideal) (k0_pay23 (k0_pay4 (F := Ideal)) a2 b2 m2)
      (k0_pay41 (k0_pay25 (k0_pay22 (k0_pay3 (F := Ideal)) a1 b1 m1) (k0_pay24 q) t)) (ix2 r d)
      = UO x0 x1 x2 x3 x4 x5 x6 x7 hh 0 r d := by
  have hK : ∀ (s : Fin 256) (k : Fin 64), k0_pay22 (F := Ideal) (k0_pay3 (F := Ideal)) a1 b1 m1 (ix2 s k)
      = KF x1 x2 x5 hh 0 s k := fun s k => by
    rw [klo_at]; unfold KF; simp only [ha1, hb1, hm1]
    (repeat' split) <;> first
      | rfl
      | (exfalso; omega)
  have hV : ∀ (s : Fin 256) (k : Fin 256), k0_pay23 (F := Ideal) (k0_pay4 (F := Ideal)) a2 b2 m2 (ix2 s k)
      = VF x3 x4 x6 hh 0 s k := fun s k => by
    rw [vlo_at]; unfold VF; simp only [ha2, hb2, hm2]
    (repeat' split) <;> first
      | rfl
      | (exfalso; omega)
  have hS : ∀ (s : Fin 256), k0_pay25 (F := Ideal) (k0_pay22 (F := Ideal) (k0_pay3 (F := Ideal)) a1 b1 m1) (k0_pay24 q) t (ix2 r s)
      = SC x0 x1 x2 x5 x7 hh 0 r s := fun s => by
    rw [score_at]; unfold SC; rw [ht]
    refine congrArg₂ (· + ·) (Finset.sum_congr rfl fun k _ => ?_) rfl
    rw [q_at, hq, hK]
    refine congrArg₂ (· * ·) (at2 x0 ?_ rfl) rfl
    simp
  rw [out_at]; unfold UO PR
  simp only [prob_at, hS, hV]

theorem unit_hi (hh : Fin 4) (q : FVec Ideal S64x512 .bf16) (a1 : FVec Ideal S1x64x64 .bf16)
    (b1 : FVec Ideal S1x128x64 .bf16) (m1 : FVec Ideal S1x16x64 .bf16) (a2 : FVec Ideal S1x64x256 .bf16)
    (b2 : FVec Ideal S1x128x256 .bf16) (m2 : FVec Ideal S1x16x256 .bf16) (t : FVec Ideal S1x1x1x512x256 .f32)
    (hq : ∀ (i : Fin 64) (j : Fin 512), q (ix2 i j) = x0 (ix2 ⟨64 + i.val, by omega⟩ ⟨hh.val * 512 + j.val, by omega⟩))
    (ha1 : ∀ (i : Fin 64) k, a1 (ix3 0 i k) = x1 (ix3 hh ⟨64 + i.val, by omega⟩ k))
    (hb1 : ∀ i k, b1 (ix3 0 i k) = x2 (ix3 hh i k))
    (hm1 : ∀ i k, m1 (ix3 0 i k) = x5 (ix3 hh i k))
    (ha2 : ∀ (i : Fin 64) k, a2 (ix3 0 i k) = x3 (ix3 hh ⟨64 + i.val, by omega⟩ k))
    (hb2 : ∀ i k, b2 (ix3 0 i k) = x4 (ix3 hh i k))
    (hm2 : ∀ i k, m2 (ix3 0 i k) = x6 (ix3 hh i k))
    (ht : ∀ r s, t (ix5 0 0 0 r s) = x7 (ix5 0 hh 1 r s)) (r : Fin 512) (d : Fin 64) :
    k0_pay51 (F := Ideal) (k0_pay13 (k0_pay4 (F := Ideal)) a2 b2 m2)
      (k0_pay41 (k0_pay25 (k0_pay12 (k0_pay3 (F := Ideal)) a1 b1 m1) (k0_pay24 q) t)) (ix2 r d)
      = UO x0 x1 x2 x3 x4 x5 x6 x7 hh 1 r d := by
  have hK : ∀ (s : Fin 256) (k : Fin 64), k0_pay12 (F := Ideal) (k0_pay3 (F := Ideal)) a1 b1 m1 (ix2 s k)
      = KF x1 x2 x5 hh 1 s k := fun s k => by
    rw [khi_at]; unfold KF; simp only [ha1, hb1, hm1]
    (repeat' split) <;> first
      | rfl
      | (exfalso; have e1 : ((1 : Fin 2) : ℕ) = 1 := rfl; omega)
      | exact at3 x1 rfl (by have e1 : ((1 : Fin 2) : ℕ) = 1 := rfl; dsimp only; omega) rfl
      | exact at3 x2 rfl (by have e1 : ((1 : Fin 2) : ℕ) = 1 := rfl; dsimp only; omega) rfl
  have hV : ∀ (s : Fin 256) (k : Fin 256), k0_pay13 (F := Ideal) (k0_pay4 (F := Ideal)) a2 b2 m2 (ix2 s k)
      = VF x3 x4 x6 hh 1 s k := fun s k => by
    rw [vhi_at]; unfold VF; simp only [ha2, hb2, hm2]
    (repeat' split) <;> first
      | rfl
      | (exfalso; have e1 : ((1 : Fin 2) : ℕ) = 1 := rfl; omega)
      | exact at3 x3 rfl (by have e1 : ((1 : Fin 2) : ℕ) = 1 := rfl; dsimp only; omega) rfl
      | exact at3 x4 rfl (by have e1 : ((1 : Fin 2) : ℕ) = 1 := rfl; dsimp only; omega) rfl
  have hS : ∀ (s : Fin 256), k0_pay25 (F := Ideal) (k0_pay12 (F := Ideal) (k0_pay3 (F := Ideal)) a1 b1 m1) (k0_pay24 q) t (ix2 r s)
      = SC x0 x1 x2 x5 x7 hh 1 r s := fun s => by
    rw [score_at]; unfold SC; rw [ht]
    refine congrArg₂ (· + ·) (Finset.sum_congr rfl fun k _ => ?_) rfl
    rw [q_at, hq, hK]
    refine congrArg₂ (· * ·) (at2 x0 ?_ rfl) rfl
    simp
  rw [out_at]; unfold UO PR
  simp only [prob_at, hS, hV]

end

end Cert.KernelIdeal.Attn
-- ==== Proof.Attn.Piece.lean ====
module

public import proofs.«01_k».proof.Proof.Attn.Block

@[expose] public section

set_option maxRecDepth 16384
noncomputable section
open Idealize.ShloMosaic Idealize.ShloMosaic.TcCoe Idealize.SL.Sem
namespace Cert.KernelIdeal.Attn
open Cert.KernelIdeal Cert.KernelIdeal.Gen

/-! ## The program writes the same unit eight times; every copy is the first one -/

theorem e2 (a b) : k0_pay2 (F := Ideal) a b = k0_pay65 a b := rfl
theorem e1 (a b) : k0_pay1 (F := Ideal) a b (k0_pay66 a b) (k0_pay67 a b) (k0_pay68 a b) (k0_pay69 a b) (k0_pay70 a b)
    (k0_pay71 a b) (k0_pay72 a b) = k0_pay65 a b := rfl
theorem e64 (a b c) : k0_pay64 (F := Ideal) a (k0_pay50 b c) (k0_pay57 a b c) (k0_pay58 a b c) (k0_pay59 a b c)
    (k0_pay60 a b c) (k0_pay61 a b c) (k0_pay62 a b c) (k0_pay63 a b c) = k0_pay65 a (k0_pay50 b c) := rfl
theorem e52 (a b) : k0_pay52 (F := Ideal) a b = k0_pay51 a b := rfl
theorem e53 (a b) : k0_pay53 (F := Ideal) a b = k0_pay51 a b := rfl
theorem e54 (a b) : k0_pay54 (F := Ideal) a b = k0_pay51 a b := rfl
theorem e55 (a b) : k0_pay55 (F := Ideal) a b = k0_pay51 a b := rfl
theorem e56 (a b) : k0_pay56 (F := Ideal) a b = k0_pay51 a b := rfl
theorem e50 (a b) : k0_pay50 (F := Ideal) (k0_pay48 a b) (k0_pay49 a b) = k0_pay51 a (k0_pay41 b) := rfl
theorem e47 (a b) : k0_pay47 (F := Ideal) a (k0_pay40 b) = k0_pay51 a (k0_pay41 b) := rfl
theorem e42 (a) : k0_pay42 (F := Ideal) a = k0_pay41 a := rfl
theorem e43 (a) : k0_pay43 (F := Ideal) a = k0_pay41 a := rfl
theorem e44 (a) : k0_pay44 (F := Ideal) a = k0_pay41 a := rfl
theorem e45 (a) : k0_pay45 (F := Ideal) a = k0_pay41 a := rfl
theorem e46 (a) : k0_pay46 (F := Ideal) a = k0_pay41 a := rfl
theorem e29 (z a b c) : k0_pay29 (F := Ideal) z a b c = k0_pay23 z a b c := rfl
theorem e36 (z a b c) : k0_pay36 (F := Ideal) z a b c = k0_pay23 z a b c := rfl
theorem e6 (a b c) : k0_pay6 (F := Ideal) a b c = k0_pay23 (k0_pay4 (F := Ideal)) a b c := rfl
theorem e26 (z a b c) : k0_pay26 (F := Ideal) z a b c = k0_pay13 z a b c := rfl
theorem e32 (z a b c) : k0_pay32 (F := Ideal) z a b c = k0_pay13 z a b c := rfl
theorem e38 (z a b c) : k0_pay38 (F := Ideal) z a b c = k0_pay13 z a b c := rfl
theorem e5 (a b c q t) : k0_pay11 (F := Ideal) (k0_pay5 a b c) (k0_pay7 q) (k0_pay8 q) (k0_pay9 q) (k0_pay10 q) t
    = k0_pay25 (k0_pay22 (k0_pay3 (F := Ideal)) a b c) (k0_pay24 q) t := rfl
theorem e21 (k q t) : k0_pay21 (F := Ideal) k (k0_pay14 q) (k0_pay15 q) (k0_pay16 q) (k0_pay17 q) (k0_pay18 q)
    (k0_pay19 q) (k0_pay20 q) t = k0_pay25 k (k0_pay24 q) t := rfl
theorem e28 (z a b c q t) : k0_pay28 (F := Ideal) (k0_pay27 z a b c q) t = k0_pay25 (k0_pay12 z a b c) (k0_pay24 q) t := rfl
theorem e31 (z a b c q t) : k0_pay31 (F := Ideal) (k0_pay30 z a b c q) t = k0_pay25 (k0_pay22 z a b c) (k0_pay24 q) t := rfl
theorem e35 (z a b c q t) : k0_pay35 (F := Ideal) (k0_pay33 z a b c q) (k0_pay34 t)
    = k0_pay25 (k0_pay12 z a b c) (k0_pay24 q) t := rfl
theorem e37 (z a b c q t) : k0_pay37 (F := Ideal) z a b c q t = k0_pay25 (k0_pay22 z a b c) (k0_pay24 q) t := rfl
theorem e39 (z a b c q t) : k0_pay39 (F := Ideal) z a b c q t = k0_pay25 (k0_pay12 z a b c) (k0_pay24 q) t := rfl

end Cert.KernelIdeal.Attn
-- ==== Proof.Attn.Out.lean ====
module

public import proofs.«01_k».proof.Proof.Attn.Piece

@[expose] public section

set_option maxRecDepth 16384
noncomputable section
open Idealize.ShloMosaic Idealize.ShloMosaic.TcCoe Idealize.SL.Sem
namespace Cert.KernelIdeal.Attn
open Cert.KernelIdeal Cert.KernelIdeal.Gen

theorem UO_congr (x0 : FVec Ideal S128x2048 .bf16) (x1 x2 : FVec Ideal S4x128x64 .bf16)
    (x3 x4 : FVec Ideal S4x128x256 .bf16) (x5 : FVec Ideal S4x16x64 .bf16) (x6 : FVec Ideal S4x16x256 .bf16)
    (x7 : FVec Ideal S1x4x2x512x256 .f32) {hh hh' : Fin 4} {sb sb' : Fin 2} {r r' : Fin 512} {d d' : Fin 64}
    (h1 : (hh : ℕ) = hh') (h2 : (sb : ℕ) = sb') (h3 : (r : ℕ) = r') (h4 : (d : ℕ) = d') :
    UO x0 x1 x2 x3 x4 x5 x6 x7 hh sb r d = UO x0 x1 x2 x3 x4 x5 x6 x7 hh' sb' r' d' := by
  rw [Fin.ext h1, Fin.ext h2, Fin.ext h3, Fin.ext h4]

/-- One key head's half-block pair, assembled: row `i`, lane `j` of the four heads' strip. -/
theorem piece_at (x0 : FVec Ideal S128x2048 .bf16) (x1 x2 : FVec Ideal S4x128x64 .bf16)
    (x3 x4 : FVec Ideal S4x128x256 .bf16) (x5 : FVec Ideal S4x16x64 .bf16) (x6 : FVec Ideal S4x16x256 .bf16)
    (x7 : FVec Ideal S1x4x2x512x256 .f32) (hh : Fin 4)
    (qL : FVec Ideal S64x512 .bf16) (a1L : FVec Ideal S1x128x64 .bf16)
    (b1L : FVec Ideal S1x64x64 .bf16) (m1L : FVec Ideal S1x16x64 .bf16) (a2L : FVec Ideal S1x128x256 .bf16)
    (b2L : FVec Ideal S1x64x256 .bf16) (m2L : FVec Ideal S1x16x256 .bf16) (tL : FVec Ideal S1x1x1x512x256 .f32)
    (hqL : ∀ (i : Fin 64) (j : Fin 512), qL (ix2 i j) = x0 (ix2 ⟨i.val, by omega⟩ ⟨hh.val * 512 + j.val, by omega⟩))
    (ha1L : ∀ i k, a1L (ix3 0 i k) = x1 (ix3 hh i k))
    (hb1L : ∀ (i : Fin 64) k, b1L (ix3 0 i k) = x2 (ix3 hh ⟨i.val, by omega⟩ k))
    (hm1L : ∀ i k, m1L (ix3 0 i k) = x5 (ix3 hh i k))
    (ha2L : ∀ i k, a2L (ix3 0 i k) = x3 (ix3 hh i k))
    (hb2L : ∀ (i : Fin 64) k, b2L (ix3 0 i k) = x4 (ix3 hh ⟨i.val, by omega⟩ k))
    (hm2L : ∀ i k, m2L (ix3 0 i k) = x6 (ix3 hh i k))
    (htL : ∀ r s, tL (ix5 0 0 0 r s) = x7 (ix5 0 hh 0 r s))
    (qH : FVec Ideal S64x512 .bf16) (a1H : FVec Ideal S1x64x64 .bf16)
    (b1H : FVec Ideal S1x128x64 .bf16) (m1H : FVec Ideal S1x16x64 .bf16) (a2H : FVec Ideal S1x64x256 .bf16)
    (b2H : FVec Ideal S1x128x256 .bf16) (m2H : FVec Ideal S1x16x256 .bf16) (tH : FVec Ideal S1x1x1x512x256 .f32)
    (hqH : ∀ (i : Fin 64) (j : Fin 512), qH (ix2 i j) = x0 (ix2 ⟨64 + i.val, by omega⟩ ⟨hh.val * 512 + j.val, by omega⟩))
    (ha1H : ∀ (i : Fin 64) k, a1H (ix3 0 i k) = x1 (ix3 hh ⟨64 + i.val, by omega⟩ k))
    (hb1H : ∀ i k, b1H (ix3 0 i k) = x2 (ix3 hh i k))
    (hm1H : ∀ i k, m1H (ix3 0 i k) = x5 (ix3 hh i k))
    (ha2H : ∀ (i : Fin 64) k, a2H (ix3 0 i k) = x3 (ix3 hh ⟨64 + i.val, by omega⟩ k))
    (hb2H : ∀ i k, b2H (ix3 0 i k) = x4 (ix3 hh i k))
    (hm2H : ∀ i k, m2H (ix3 0 i k) = x6 (ix3 hh i k))
    (htH : ∀ r s, tH (ix5 0 0 0 r s) = x7 (ix5 0 hh 1 r s))
    (x : S128x512.Idx) (sb : Fin 2) (r : Fin 512) (d : Fin 64) (hsb : (sb : ℕ) = (x 0 : ℕ) / 64)
    (hr : (r : ℕ) = (x 1 : ℕ) / 64 * 64 + (x 0 : ℕ) % 64) (hd : (d : ℕ) = (x 1 : ℕ) % 64) :
    k0_pay65 (F := Ideal) (k0_pay51 (F := Ideal) (k0_pay23 (k0_pay4 (F := Ideal)) a2L b2L m2L)
      (k0_pay41 (k0_pay25 (k0_pay22 (k0_pay3 (F := Ideal)) a1L b1L m1L) (k0_pay24 qL) tL)))
      (k0_pay51 (F := Ideal) (k0_pay13 (k0_pay4 (F := Ideal)) a2H b2H m2H)
      (k0_pay41 (k0_pay25 (k0_pay12 (k0_pay3 (F := Ideal)) a1H b1H m1H) (k0_pay24 qH) tH))) x
      = UO x0 x1 x2 x3 x4 x5 x6 x7 hh sb r d := by
  obtain ⟨i, j, rfl⟩ : ∃ (i : Fin 128) (j : Fin 512), x = ix2 i j := ⟨x 0, x 1, eq_ix2 x⟩
  change (sb : ℕ) = (i : ℕ) / 64 at hsb
  change (r : ℕ) = (j : ℕ) / 64 * 64 + (i : ℕ) % 64 at hr
  change (d : ℕ) = (j : ℕ) % 64 at hd
  rw [asm_at]
  split
  · exact (unit_lo x0 x1 x2 x3 x4 x5 x6 x7 hh qL a1L b1L m1L a2L b2L m2L tL hqL ha1L hb1L hm1L ha2L hb2L hm2L htL _ _).trans
      (UO_congr _ _ _ _ _ _ _ _ rfl (by rw [hsb]; show 0 = _; omega) (by rw [hr]; dsimp only; omega) (by rw [hd]))
  · exact (unit_hi x0 x1 x2 x3 x4 x5 x6 x7 hh qH a1H b1H m1H a2H b2H m2H tH hqH ha1H hb1H hm1H ha2H hb2H hm2H htH _ _).trans
      (UO_congr _ _ _ _ _ _ _ _ rfl (by rw [hsb]; show 1 = _; omega) (by rw [hr]; dsimp only; omega) (by rw [hd]))

set_option maxHeartbeats 400000 in
/-- What one grid point leaves in its block: row `y 0`, lane `y 1`. -/
theorem out_val (x0 : FVec Ideal S128x2048 .bf16) (x1 x2 : FVec Ideal S4x128x64 .bf16)
    (x3 x4 : FVec Ideal S4x128x256 .bf16) (x5 : FVec Ideal S4x16x64 .bf16) (x6 : FVec Ideal S4x16x256 .bf16)
    (x7 : FVec Ideal S1x4x2x512x256 .f32) (y : S128x2048.Idx) (hh : Fin 4) (sb : Fin 2) (r : Fin 512) (d : Fin 64)
    (hhh : (hh : ℕ) = (y 1 : ℕ) / 512) (hsb : (sb : ℕ) = (y 0 : ℕ) / 64)
    (hr : (r : ℕ) = (y 1 : ℕ) % 512 / 64 * 64 + (y 0 : ℕ) % 64) (hd : (d : ℕ) = (y 1 : ℕ) % 64) :
    out0_8 (F := Ideal) x0 x1 x2 x3 x4 x5 x6 x7 y = UO x0 x1 x2 x3 x4 x5 x6 x7 hh sb r d := by
  unfold_out out0_8
  canon_tiles x h
  all_goals
    simp only [e2, e1, e64, e52, e53, e54, e55, e56, e50, e47, e42, e43, e44, e45, e46, e29, e36, e6, e26, e32, e38, e5,
      e21, e28, e31, e35, e37, e39]
  · obtain rfl : hh = 3 := Fin.ext (by show (hh : ℕ) = 3; omega)
    refine piece_at x0 x1 x2 x3 x4 x5 x6 x7 3 _ _ _ _ _ _ _ _ ?_ ?_ ?_ ?_ ?_ ?_ ?_ ?_ _ _ _ _ _ _ _ _ ?_ ?_ ?_ ?_ ?_ ?_ ?_ ?_
      x sb r d (by omega) (by omega) (by omega)
    all_goals
      clear * -
      intro i j
      pointwise
  · obtain rfl : hh = 2 := Fin.ext (by show (hh : ℕ) = 2; omega)
    refine piece_at x0 x1 x2 x3 x4 x5 x6 x7 2 _ _ _ _ _ _ _ _ ?_ ?_ ?_ ?_ ?_ ?_ ?_ ?_ _ _ _ _ _ _ _ _ ?_ ?_ ?_ ?_ ?_ ?_ ?_ ?_
      x sb r d (by omega) (by omega) (by omega)
    all_goals
      clear * -
      intro i j
      pointwise
  · obtain rfl : hh = 1 := Fin.ext (by show (hh : ℕ) = 1; omega)
    refine piece_at x0 x1 x2 x3 x4 x5 x6 x7 1 _ _ _ _ _ _ _ _ ?_ ?_ ?_ ?_ ?_ ?_ ?_ ?_ _ _ _ _ _ _ _ _ ?_ ?_ ?_ ?_ ?_ ?_ ?_ ?_
      x sb r d (by omega) (by omega) (by omega)
    all_goals
      clear * -
      intro i j
      pointwise
  · obtain rfl : hh = 0 := Fin.ext (by show (hh : ℕ) = 0; omega)
    refine piece_at x0 x1 x2 x3 x4 x5 x6 x7 0 _ _ _ _ _ _ _ _ ?_ ?_ ?_ ?_ ?_ ?_ ?_ ?_ _ _ _ _ _ _ _ _ ?_ ?_ ?_ ?_ ?_ ?_ ?_ ?_
      x sb r d (by omega) (by omega) (by omega)
    all_goals
      clear * -
      intro i j
      pointwise
-- ==== Proof.Attn.Fin.lean ====
module

public import proofs.«01_k».proof.Proof.Attn.Out
public import Idealize.ShloMosaic.Lib.Claim
public import Idealize.ShloMosaic.Lib.Pipeline.ValueKit
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.KernelIdeal.Attn
open Cert.KernelIdeal Cert.KernelIdeal.Gen
variable (m : (ℓ : Loc nD τ sig) → Buf (Elt Ideal) ℓ)

theorem idx : ∀ t : Fin cfg0.N, win0_0.index t = ![t.val, 0] ∧ win0_1.index t = ![0, t.val / 128 * 128 + (t.val % 128 - 1), 0] ∧
    win0_2.index t = ![0, t.val, 0] ∧ win0_3.index t = ![0, t.val / 128 * 128 + (t.val % 128 - 1), 0] ∧ win0_4.index t = ![0, t.val, 0] ∧
    win0_5.index t = ![0, 0, 0] ∧ win0_6.index t = ![0, 0, 0] ∧ win0_7.index t = ![min (t.val % 128) 1, 0, 0, 0, 0] ∧
    win0_8.index t = ![t.val, 0] :=
  (by decide +kernel : ∀ t : Fin grid0.N, _)

/-- The arrays the windows stage, at their coordinates. -/
def qG (c : Dev nD) (R : Fin 32768) (k : Fin 2048) : EReal := V m c main_v153 (ix2 R k)
def kG (c : Dev nD) (h : Fin 4) (R : Fin 32768) (k : Fin 64) : EReal := V m c main_v156 (ix3 h R k)
def vG (c : Dev nD) (h : Fin 4) (R : Fin 32768) (k : Fin 256) : EReal := V m c main_v161 (ix3 h R k)
def kmG (c : Dev nD) (h : Fin 4) (i : Fin 16) (k : Fin 64) : EReal := V m c main_v163 (ix3 h i k)
def vmG (c : Dev nD) (h : Fin 4) (i : Fin 16) (k : Fin 256) : EReal := V m c main_v167 (ix3 h i k)
def tG (c : Dev nD) (a : Fin 2) (h : Fin 4) (sb : Fin 2) (r : Fin 512) (s : Fin 256) : EReal := V m c main_v151 (ix5 a h sb r s)

theorem r0 (c : Dev nD) (t : Fin cfg0.N) (i : Fin 128) (k : Fin 2048) (R : Fin 32768) (hR : R.val = t.val * 128 + i.val) :
    iblk m c 0 t (ix2 i k) = qG m c R k := by
  unfold qG
  blk_ext [iblk, idx t]
theorem r1 (c : Dev nD) (t : Fin cfg0.N) (h : Fin 4) (i : Fin 128) (k : Fin 64) (R : Fin 32768)
    (hR : R.val = (t.val / 128 * 128 + (t.val % 128 - 1)) * 128 + i.val) : iblk m c 1 t (ix3 h i k) = kG m c h R k := by
  unfold kG
  blk_ext [iblk, idx t]
theorem r2 (c : Dev nD) (t : Fin cfg0.N) (h : Fin 4) (i : Fin 128) (k : Fin 64) (R : Fin 32768)
    (hR : R.val = t.val * 128 + i.val) : iblk m c 2 t (ix3 h i k) = kG m c h R k := by
  unfold kG
  blk_ext [iblk, idx t]
theorem r3 (c : Dev nD) (t : Fin cfg0.N) (h : Fin 4) (i : Fin 128) (k : Fin 256) (R : Fin 32768)
    (hR : R.val = (t.val / 128 * 128 + (t.val % 128 - 1)) * 128 + i.val) : iblk m c 3 t (ix3 h i k) = vG m c h R k := by
  unfold vG
  blk_ext [iblk, idx t]
theorem r4 (c : Dev nD) (t : Fin cfg0.N) (h : Fin 4) (i : Fin 128) (k : Fin 256) (R : Fin 32768)
    (hR : R.val = t.val * 128 + i.val) : iblk m c 4 t (ix3 h i k) = vG m c h R k := by
  unfold vG
  blk_ext [iblk, idx t]
theorem r5 (c : Dev nD) (t : Fin cfg0.N) (h : Fin 4) (i : Fin 16) (k : Fin 64) : iblk m c 5 t (ix3 h i k) = kmG m c h i k := by
  unfold kmG
  blk_ext [iblk, idx t]
theorem r6 (c : Dev nD) (t : Fin cfg0.N) (h : Fin 4) (i : Fin 16) (k : Fin 256) : iblk m c 6 t (ix3 h i k) = vmG m c h i k := by
  unfold vmG
  blk_ext [iblk, idx t]
theorem r7 (c : Dev nD) (t : Fin cfg0.N) (h : Fin 4) (sb : Fin 2) (r : Fin 512) (s : Fin 256) (a : Fin 2)
    (ha : a.val = min (t.val % 128) 1) : iblk m c 7 t (ix5 0 h sb r s) = tG m c a h sb r s := by
  unfold tG
  blk_ext [iblk, idx t]

/-- What the point `t` leaves at row `i`, lane `j` of its block. -/
def UOt (c : Dev nD) (t : Fin cfg0.N) (i : Fin 128) (j : Fin 2048) : EReal :=
  UO (iblk m c 0 t) (iblk m c 1 t) (iblk m c 2 t) (iblk m c 3 t) (iblk m c 4 t) (iblk m c 5 t) (iblk m c 6 t) (iblk m c 7 t)
    ⟨j.val / 512, by omega⟩ ⟨i.val / 64, by omega⟩ ⟨j.val % 512 / 64 * 64 + i.val % 64, by omega⟩ ⟨j.val % 64, by omega⟩

theorem UOt_congr (c : Dev nD) {t t' : Fin cfg0.N} {i i' : Fin 128} (j : Fin 2048) (ht : t.val = t'.val) (hi : i.val = i'.val) :
    UOt m c t i j = UOt m c t' i' j := by
  rw [Fin.ext ht, Fin.ext hi]

theorem final (c : Dev nD) (R : Fin 32768) (j : Fin 2048) : (dats m 0 c).arrAt 8 (cfgs 0).N (ix2 R j)
    = UOt m c ⟨R.val / 128, by have h := R.isLt; show R.val / 128 < 256; omega⟩ ⟨R.val % 128, by omega⟩ j := by
  refine congrFun (?_ : (dats m 0 c).arrAt 8 (cfgs 0).N = fun y : S32768x2048.Idx =>
    UOt m c ⟨(y 0).val / 128, by have h := ValueIdx.idx2_lt0 y; show (y 0).val / 128 < 256; omega⟩ ⟨(y 0).val % 128, by omega⟩ (y 1)) (ix2 R j)
  refine (dats m 0 c).arrAt_eq_of_covers 8 _ (by decide +kernel) fun t hf y => ?_
  blk_simp
  rw [after0_8]
  have ei : win0_8.index t 0 = t.val := by simp [idx t]
  have e1 : ((win0_8.blk t).view.emb y 1).val = (y 1).val := by
    blk_simp [idx t]
  have hy0 : (y 0).val < 128 := (y 0).isLt
  have e1' : (win0_8.blk t).view.emb y 1 = y 1 := Fin.ext e1
  rw [e1']
  refine Eq.trans ?_ (UOt_congr m c (t := t) (i := ⟨(y 0).val, hy0⟩) (y 1) ?_ ?_)
  · unfold UOt
    refine out_val _ _ _ _ _ _ _ _ y _ _ _ _ ?_ ?_ ?_ ?_ <;> rfl
  · show t.val = (win0_8.index t 0 * 128 + (y 0).val) / 128
    rw [ei]; omega
  · show (y 0).val = (win0_8.index t 0 * 128 + (y 0).val) % 128
    rw [ei]; omega

end Cert.KernelIdeal.Attn
-- ==== Proof.Attn.Split.lean ====
module

public import proofs.«01_k».proof.Proof.Gen.KernelIdeal.Frame
public import Idealize.ShloMosaic.Lib.Claim
public import Idealize.ShloMosaic.Lib.Pipeline.ValueKit
public import Idealize.ShloMosaic.Lib.Pointwise
public import Idealize.ShloMosaic.Lib.WordCmp
public import Idealize.ShloMosaic.Lib.StableHlo.ReadAt

@[expose] public section

set_option maxRecDepth 16384
noncomputable section
open Idealize.ShloMosaic Idealize.ShloMosaic.TcCoe Idealize.SL.Sem
namespace Cert.KernelIdeal.Attn
open Cert.KernelIdeal Cert.KernelIdeal.Gen
variable (m : (ℓ : Loc nD τ sig) → Buf (Elt Ideal) ℓ)

/-- The buffers after the host operations up to each of five points of the line. -/
def WA (c : Dev nD) : Valuation τ sig (Elt Ideal) := StableHlo.after (hostOps0 ++ hostOps0_1) (fun b => m (c, b))
def WB (c : Dev nD) : Valuation τ sig (Elt Ideal) := StableHlo.after (hostOps0_2 ++ hostOps0_3) (WA m c)
def WC (c : Dev nD) : Valuation τ sig (Elt Ideal) := StableHlo.after (hostOps0_4 ++ hostOps0_5) (WB m c)
def WD (c : Dev nD) : Valuation τ sig (Elt Ideal) := StableHlo.after (hostOps0_6 ++ hostOps0_7) (WC m c)
def WE (c : Dev nD) : Valuation τ sig (Elt Ideal) := StableHlo.after (hostOps0_8 ++ hostOps0_9) (WD m c)

theorem V_split (c : Dev nD) (b : Ref sig .tc) : V m c b = StableHlo.after hostOps0_10 (WE m c) (Proc.devRef .tc b) := by
  unfold WE WD WC WB WA V
  simp only [List.flatten_cons, List.flatten_nil, List.append_nil, StableHlo.after_append]

end Cert.KernelIdeal.Attn
-- ==== Proof.Attn.Tbl.lean ====
module

public import proofs.«01_k».proof.Proof.Gen.KernelIdeal.Frame
public import Idealize.ShloMosaic.Lib.Claim
public import Idealize.ShloMosaic.Lib.Pipeline.ValueKit
public import Idealize.ShloMosaic.Lib.Pointwise
public import Idealize.ShloMosaic.Lib.WordCmp
public import Idealize.ShloMosaic.Lib.StableHlo.ReadAt
public import proofs.«01_k».proof.Proof.Attn.Split

@[expose] public section

set_option maxRecDepth 16384
noncomputable section
open Idealize.ShloMosaic Idealize.ShloMosaic.TcCoe Idealize.SL.Sem
namespace Cert.KernelIdeal.Attn
open Cert.KernelIdeal Cert.KernelIdeal.Gen
variable (m : (ℓ : Loc nD τ sig) → Buf (Elt Ideal) ℓ)

/-- The bucket of a distance. -/
def BK (d : BitVec 32) : BitVec 32 :=
  Scalar.select (IntOp.cmpi .slt d 16#32) d
    (IntOp.minsi (IntOp.addi 16#32 (FloatOps.fptosi (F := Ideal) (φ := .f32) 32
      (Ideal.div (Ideal.log (Ideal.div (FloatOps.sitofp (F := Ideal) FTy.f32 (IntOp.maxsi d 16#32)) (Ideal.ofBits FTy.f32 1098907648#32)))
        (Ideal.ofBits FTy.f32 1074075026#32) * Ideal.ofBits FTy.f32 1098907648#32))) 31#32)

/-- The bias of the bucket `k` for the head `h`, picked by a sum over the buckets. -/
def pick (x5 : FVec Ideal S32x32 .f32) (h : Fin 32) (k : BitVec 32) : EReal :=
  ∑ x : Fin 32, x5 (ix2 x h) * FloatOps.uitofp (F := Ideal) FTy.f32 (IntOp.cmpi CmpIPredicate.eq k (BitVec.ofNat 32 x.val))

/-- The distance of the query `i` to the window's key `j`. -/
def dist (i : Fin 128) (j : Fin 256) : BitVec 32 := IntOp.subi (IntOp.addi 128#32 (BitVec.ofNat 32 i.val)) (BitVec.ofNat 32 j.val)
/-- That distance is in the window. -/
def inw (i : Fin 128) (j : Fin 256) : BitVec 1 := IntOp.andi (IntOp.cmpi CmpIPredicate.sge (dist i j) 0#32) (IntOp.cmpi CmpIPredicate.slt (dist i j) 128#32)

/-- A window score's bias in a block whose window starts `o` tokens after the previous block's own start. -/
def wb (o : BitVec 32) (x5 : FVec Ideal S32x32 .f32) (h : Fin 32) (i : Fin 128) (j : Fin 256) : EReal :=
  Scalar.select (IntOp.andi (inw i j) (IntOp.cmpi CmpIPredicate.sge (IntOp.addi o (BitVec.ofNat 32 j.val)) 128#32))
    (pick x5 h (BK (IntOp.maxsi (dist i j) 0#32))) ⊥
/-- A meta score's bias, the query's position being `o + i`. -/
def mb (o : BitVec 32) (x5 : FVec Ideal S32x32 .f32) (h : Fin 32) (i : Fin 128) (j : Fin 16) : EReal :=
  pick x5 h (BK (IntOp.subi (IntOp.addi o (BitVec.ofNat 32 i.val)) (BitVec.ofNat 32 j.val)))

abbrev A5 (c : Dev nD) : FVec Ideal S32x32 .f32 := m (c.tc.loc main_arg5)
abbrev A6 (c : Dev nD) : FVec Ideal S32 .f32 := m (c.tc.loc main_arg6)

theorem a_v35 (c : Dev nD) (i : Fin 128) (j : Fin 256) : (WA m c (Proc.devRef .tc main_v35) : IVec S128x256 32) (ix2 i j) = BK (IntOp.maxsi (dist i j) 0#32) := by
  unfold WA
  after_reads_at
  rfl
theorem a_v15 (c : Dev nD) (i : Fin 128) (j : Fin 256) : (WA m c (Proc.devRef .tc main_v15) : IVec S128x256 1) (ix2 i j) = inw i j := by
  unfold WA
  after_reads_at
  rfl
theorem a_v3 (c : Dev nD) (j : Fin 256) : (WA m c (Proc.devRef .tc main_v3) : IVec S1x256 32) (ix2 0 j) = BitVec.ofNat 32 j.val := by
  unfold WA
  after_reads_at
theorem a_v1 (c : Dev nD) (j : Fin 128) : (WA m c (Proc.devRef .tc main_v1) : IVec S128x1 32) (ix2 j 0) = BitVec.ofNat 32 j.val := by
  unfold WA
  after_reads_at
theorem a_v5 (c : Dev nD) (j : Fin 16) : (WA m c (Proc.devRef .tc main_v5) : IVec S1x16 32) (ix2 0 j) = BitVec.ofNat 32 j.val := by
  unfold WA
  after_reads_at
theorem a_arg5 (c : Dev nD) (x h : Fin 32) : (WA m c (Proc.devRef .tc main_arg5) : FVec Ideal S32x32 .f32) (ix2 x h) = A5 m c (ix2 x h) := by
  unfold WA
  after_reads_simp
theorem a_arg6 (c : Dev nD) (h : Fin 32) : (WA m c (Proc.devRef .tc main_arg6) : FVec Ideal S32 .f32) (ix1 h) = A6 m c (ix1 h) := by
  unfold WA
  after_reads_simp
theorem ninf_lit : Ideal.ofBits FTy.f32 4286578688#32 = ⊥ := by simp [Ideal.ofBits, Ideal.ieee]

theorem b_v43 (c : Dev nD) (h : Fin 32) (i : Fin 128) (j : Fin 256) : (WB m c (Proc.devRef .tc main_v43) : FVec Ideal S32x128x256 .f32) (ix3 h i j)
    = pick (A5 m c) h (BK (IntOp.maxsi (dist i j) 0#32)) := by
  unfold WB
  after_reads_at
  rw [a_v35]
  exact Finset.sum_congr rfl fun x _ => by rw [a_arg5]
theorem b_v54 (c : Dev nD) (h : Fin 32) (i : Fin 128) (j : Fin 256) : (WB m c (Proc.devRef .tc main_v54) : FVec Ideal S32x128x256 .f32) (ix3 h i j)
    = wb 0#32 (A5 m c) h i j := by
  unfold WB
  after_reads_at
  rw [a_v35, a_v15, a_v3]
  refine congrArg₂ (Scalar.select _) ?_ ninf_lit
  exact Finset.sum_congr rfl fun x _ => by rw [a_arg5]
theorem b_v45 (c : Dev nD) (h : Fin 32) (i : Fin 64) (z : Fin 1) : (WB m c (Proc.devRef .tc main_v45) : FVec Ideal S32x64x1 .f32) (ix3 h i z) = A6 m c (ix1 h) := by
  unfold WB
  after_reads_at
  rw [a_arg6]
theorem b_v46 (c : Dev nD) (h : Fin 32) (i : Fin 64) (j : Fin 47) : (WB m c (Proc.devRef .tc main_v46) : FVec Ideal S32x64x47 .f32) (ix3 h i j) = (⊥ : EReal) := by
  unfold WB
  after_reads_at
  exact ninf_lit
theorem b_v15 (c : Dev nD) (i : Fin 128) (j : Fin 256) : (WB m c (Proc.devRef .tc main_v15) : IVec S128x256 1) (ix2 i j) = inw i j := by
  unfold WB
  after_reads_simp
  exact a_v15 m c i j
theorem b_v3 (c : Dev nD) (j : Fin 256) : (WB m c (Proc.devRef .tc main_v3) : IVec S1x256 32) (ix2 0 j) = BitVec.ofNat 32 j.val := by
  unfold WB
  after_reads_simp
  exact a_v3 m c j
theorem b_v1 (c : Dev nD) (j : Fin 128) : (WB m c (Proc.devRef .tc main_v1) : IVec S128x1 32) (ix2 j 0) = BitVec.ofNat 32 j.val := by
  unfold WB
  after_reads_simp
  exact a_v1 m c j
theorem b_v5 (c : Dev nD) (j : Fin 16) : (WB m c (Proc.devRef .tc main_v5) : IVec S1x16 32) (ix2 0 j) = BitVec.ofNat 32 j.val := by
  unfold WB
  after_reads_simp
  exact a_v5 m c j
theorem b_arg5 (c : Dev nD) (x h : Fin 32) : (WB m c (Proc.devRef .tc main_arg5) : FVec Ideal S32x32 .f32) (ix2 x h) = A5 m c (ix2 x h) := by
  unfold WB
  after_reads_simp
  exact a_arg5 m c x h

theorem c_v77 (c : Dev nD) (i : Fin 128) (j : Fin 16) : (WC m c (Proc.devRef .tc main_v77) : IVec S128x16 32) (ix2 i j)
    = BK (IntOp.subi (IntOp.addi 16#32 (BitVec.ofNat 32 i.val)) (BitVec.ofNat 32 j.val)) := by
  unfold WC
  after_reads_at
  rw [b_v1, b_v5]
  rfl
theorem c_v54 (c : Dev nD) (h : Fin 32) (i : Fin 128) (j : Fin 256) : (WC m c (Proc.devRef .tc main_v54) : FVec Ideal S32x128x256 .f32) (ix3 h i j)
    = wb 0#32 (A5 m c) h i j := by
  unfold WC
  after_reads_simp
  exact b_v54 m c h i j
theorem c_v43 (c : Dev nD) (h : Fin 32) (i : Fin 128) (j : Fin 256) : (WC m c (Proc.devRef .tc main_v43) : FVec Ideal S32x128x256 .f32) (ix3 h i j)
    = pick (A5 m c) h (BK (IntOp.maxsi (dist i j) 0#32)) := by
  unfold WC
  after_reads_simp
  exact b_v43 m c h i j
theorem c_v45 (c : Dev nD) (h : Fin 32) (i : Fin 64) (z : Fin 1) : (WC m c (Proc.devRef .tc main_v45) : FVec Ideal S32x64x1 .f32) (ix3 h i z) = A6 m c (ix1 h) := by
  unfold WC
  after_reads_simp
  exact b_v45 m c h i z
theorem c_v46 (c : Dev nD) (h : Fin 32) (i : Fin 64) (j : Fin 47) : (WC m c (Proc.devRef .tc main_v46) : FVec Ideal S32x64x47 .f32) (ix3 h i j) = (⊥ : EReal) := by
  unfold WC
  after_reads_simp
  exact b_v46 m c h i j
theorem c_v15 (c : Dev nD) (i : Fin 128) (j : Fin 256) : (WC m c (Proc.devRef .tc main_v15) : IVec S128x256 1) (ix2 i j) = inw i j := by
  unfold WC
  after_reads_simp
  exact b_v15 m c i j
theorem c_v3 (c : Dev nD) (j : Fin 256) : (WC m c (Proc.devRef .tc main_v3) : IVec S1x256 32) (ix2 0 j) = BitVec.ofNat 32 j.val := by
  unfold WC
  after_reads_simp
  exact b_v3 m c j
theorem c_v1 (c : Dev nD) (j : Fin 128) : (WC m c (Proc.devRef .tc main_v1) : IVec S128x1 32) (ix2 j 0) = BitVec.ofNat 32 j.val := by
  unfold WC
  after_reads_simp
  exact b_v1 m c j
theorem c_v5 (c : Dev nD) (j : Fin 16) : (WC m c (Proc.devRef .tc main_v5) : IVec S1x16 32) (ix2 0 j) = BitVec.ofNat 32 j.val := by
  unfold WC
  after_reads_simp
  exact b_v5 m c j
theorem c_arg5 (c : Dev nD) (x h : Fin 32) : (WC m c (Proc.devRef .tc main_arg5) : FVec Ideal S32x32 .f32) (ix2 x h) = A5 m c (ix2 x h) := by
  unfold WC
  after_reads_simp
  exact b_arg5 m c x h
theorem d_v105 (c : Dev nD) (h : Fin 32) (i : Fin 128) (j : Fin 256) : (WD m c (Proc.devRef .tc main_v105) : FVec Ideal S32x128x256 .f32) (ix3 h i j)
    = wb 128#32 (A5 m c) h i j := by
  unfold WD
  after_reads_at
  rw [c_v43, c_v15, c_v3]
  exact congrArg (Scalar.select _ _) ninf_lit
theorem d_v85 (c : Dev nD) (h : Fin 32) (i : Fin 128) (j : Fin 16) : (WD m c (Proc.devRef .tc main_v85) : FVec Ideal S32x128x16 .f32) (ix3 h i j)
    = mb 16#32 (A5 m c) h i j := by
  unfold WD
  after_reads_at
  rw [c_v77]
  unfold mb pick
  exact Finset.sum_congr rfl fun x _ => by rw [c_arg5]
theorem d_v45 (c : Dev nD) (h : Fin 32) (i : Fin 64) (z : Fin 1) : (WD m c (Proc.devRef .tc main_v45) : FVec Ideal S32x64x1 .f32) (ix3 h i z) = A6 m c (ix1 h) := by
  unfold WD
  after_reads_simp
  exact c_v45 m c h i z
theorem d_v46 (c : Dev nD) (h : Fin 32) (i : Fin 64) (j : Fin 47) : (WD m c (Proc.devRef .tc main_v46) : FVec Ideal S32x64x47 .f32) (ix3 h i j) = (⊥ : EReal) := by
  unfold WD
  after_reads_simp
  exact c_v46 m c h i j
theorem d_v1 (c : Dev nD) (j : Fin 128) : (WD m c (Proc.devRef .tc main_v1) : IVec S128x1 32) (ix2 j 0) = BitVec.ofNat 32 j.val := by
  unfold WD
  after_reads_simp
  exact c_v1 m c j
theorem d_v5 (c : Dev nD) (j : Fin 16) : (WD m c (Proc.devRef .tc main_v5) : IVec S1x16 32) (ix2 0 j) = BitVec.ofNat 32 j.val := by
  unfold WD
  after_reads_simp
  exact c_v5 m c j
theorem d_arg5 (c : Dev nD) (x h : Fin 32) : (WD m c (Proc.devRef .tc main_arg5) : FVec Ideal S32x32 .f32) (ix2 x h) = A5 m c (ix2 x h) := by
  unfold WD
  after_reads_simp
  exact c_arg5 m c x h
theorem e_v128 (c : Dev nD) (i : Fin 128) (j : Fin 16) : (WE m c (Proc.devRef .tc main_v128) : IVec S128x16 32) (ix2 i j)
    = BK (IntOp.subi (IntOp.addi 144#32 (BitVec.ofNat 32 i.val)) (BitVec.ofNat 32 j.val)) := by
  unfold WE
  after_reads_at
  rw [d_v1, d_v5]
  rfl
theorem e_v105 (c : Dev nD) (h : Fin 32) (i : Fin 128) (j : Fin 256) : (WE m c (Proc.devRef .tc main_v105) : FVec Ideal S32x128x256 .f32) (ix3 h i j)
    = wb 128#32 (A5 m c) h i j := by
  unfold WE
  after_reads_simp
  exact d_v105 m c h i j
theorem e_v45 (c : Dev nD) (h : Fin 32) (i : Fin 64) (z : Fin 1) : (WE m c (Proc.devRef .tc main_v45) : FVec Ideal S32x64x1 .f32) (ix3 h i z) = A6 m c (ix1 h) := by
  unfold WE
  after_reads_simp
  exact d_v45 m c h i z
theorem e_v46 (c : Dev nD) (h : Fin 32) (i : Fin 64) (j : Fin 47) : (WE m c (Proc.devRef .tc main_v46) : FVec Ideal S32x64x47 .f32) (ix3 h i j) = (⊥ : EReal) := by
  unfold WE
  after_reads_simp
  exact d_v46 m c h i j
theorem e_arg5 (c : Dev nD) (x h : Fin 32) : (WE m c (Proc.devRef .tc main_arg5) : FVec Ideal S32x32 .f32) (ix2 x h) = A5 m c (ix2 x h) := by
  unfold WE
  after_reads_simp
  exact d_arg5 m c x h

end Cert.KernelIdeal.Attn
-- ==== Proof.Attn.Tbl2.lean ====
module

public import proofs.«01_k».proof.Proof.Gen.KernelIdeal.Frame
public import Idealize.ShloMosaic.Lib.Claim
public import Idealize.ShloMosaic.Lib.Pipeline.ValueKit
public import Idealize.ShloMosaic.Lib.Pointwise
public import Idealize.ShloMosaic.Lib.WordCmp
public import Idealize.ShloMosaic.Lib.StableHlo.ReadAt
public import proofs.«01_k».proof.Proof.Attn.Tbl

@[expose] public section

set_option maxRecDepth 16384
noncomputable section
open Idealize.ShloMosaic Idealize.ShloMosaic.TcCoe Idealize.SL.Sem
namespace Cert.KernelIdeal.Attn
open Cert.KernelIdeal Cert.KernelIdeal.Gen
variable (m : (ℓ : Loc nD τ sig) → Buf (Elt Ideal) ℓ)

/-- The table's slots, from the window's biases, the meta biases and the sinks. -/
def slot (T : Fin 32 → Fin 128 → Fin 256 → EReal) (M : Fin 32 → Fin 128 → Fin 16 → EReal) (S : Fin 32 → EReal)
    (hh : Fin 4) (sb : Fin 2) (r : Fin 512) (s : Fin 256) : EReal :=
  if h : sb.val < 1 then
    if h_1 : s.val < 192 then T ⟨hh.val * 8 + r.val / 64, by omega⟩ ⟨r.val % 64, by omega⟩ ⟨s.val, by omega⟩
    else if h_2 : s.val - 192 < 16 then M ⟨hh.val * 8 + r.val / 64, by omega⟩ ⟨r.val % 64, by omega⟩ ⟨s.val - 192, by omega⟩
    else if h_3 : s.val - 192 - 16 < 1 then S ⟨hh.val * 8 + r.val / 64, by omega⟩ else ⊥
  else
    if h_1 : s.val < 192 then T ⟨hh.val * 8 + r.val / 64, by omega⟩ ⟨64 + r.val % 64, by omega⟩ ⟨64 + s.val, by omega⟩
    else if h_2 : s.val - 192 < 16 then M ⟨hh.val * 8 + r.val / 64, by omega⟩ ⟨64 + r.val % 64, by omega⟩ ⟨s.val - 192, by omega⟩
    else if h_3 : s.val - 192 - 16 < 1 then S ⟨hh.val * 8 + r.val / 64, by omega⟩ else ⊥

set_option maxHeartbeats 1600000 in
theorem d_v97 (c : Dev nD) (hh : Fin 4) (sb : Fin 2) (r : Fin 512) (s : Fin 256) :
    (WD m c (Proc.devRef .tc main_v97) : FVec Ideal S4x2x512x256 .f32) (ix4 hh sb r s)
      = slot (wb 0#32 (A5 m c)) (mb 16#32 (A5 m c)) (fun h => A6 m c (ix1 h)) hh sb r s := by
  unfold WD
  after_reads_simp
  pointwise []
  split
  · rename_i h0
    after_reads_simp
    pointwise []
    split
    · rename_i h1
      after_reads_at
      generalize_proofs
      rw [c_v54]
      unfold slot
      rw [dif_pos h0, dif_pos h1]
    rename_i h1
    split
    · rename_i h2
      after_reads_at
      generalize_proofs
      unfold slot mb pick
      rw [dif_pos h0, dif_neg h1, dif_pos h2]
      refine Finset.sum_congr rfl fun x _ => ?_
      rw [c_v77, c_arg5]
    rename_i h2
    split
    · rename_i h3
      after_reads_at
      generalize_proofs
      rw [c_v45]
      unfold slot
      rw [dif_pos h0, dif_neg h1, dif_neg h2, dif_pos h3]
    rename_i h3
    after_reads_at
    generalize_proofs
    rw [c_v46]
    unfold slot
    rw [dif_pos h0, dif_neg h1, dif_neg h2, dif_neg h3]
  · rename_i h0
    after_reads_simp
    pointwise []
    split
    · rename_i h1
      after_reads_at
      generalize_proofs
      rw [c_v54]
      unfold slot
      rw [dif_neg h0, dif_pos h1]
    rename_i h1
    split
    · rename_i h2
      after_reads_at
      generalize_proofs
      unfold slot mb pick
      rw [dif_neg h0, dif_neg h1, dif_pos h2]
      refine Finset.sum_congr rfl fun x _ => ?_
      rw [c_v77, c_arg5]
    rename_i h2
    split
    · rename_i h3
      after_reads_at
      generalize_proofs
      rw [c_v45]
      unfold slot
      rw [dif_neg h0, dif_neg h1, dif_neg h2, dif_pos h3]
    rename_i h3
    after_reads_at
    generalize_proofs
    rw [c_v46]
    unfold slot
    rw [dif_neg h0, dif_neg h1, dif_neg h2, dif_neg h3]

end Cert.KernelIdeal.Attn
-- ==== Proof.Attn.Tbl3.lean ====
module

public import proofs.«01_k».proof.Proof.Gen.KernelIdeal.Frame
public import Idealize.ShloMosaic.Lib.Claim
public import Idealize.ShloMosaic.Lib.Pipeline.ValueKit
public import Idealize.ShloMosaic.Lib.Pointwise
public import Idealize.ShloMosaic.Lib.WordCmp
public import Idealize.ShloMosaic.Lib.StableHlo.ReadAt
public import proofs.«01_k».proof.Proof.Attn.Tbl2

@[expose] public section

set_option maxRecDepth 16384
noncomputable section
open Idealize.ShloMosaic Idealize.ShloMosaic.TcCoe Idealize.SL.Sem
namespace Cert.KernelIdeal.Attn
open Cert.KernelIdeal Cert.KernelIdeal.Gen
variable (m : (ℓ : Loc nD τ sig) → Buf (Elt Ideal) ℓ)

theorem v151_0 (c : Dev nD) (hh : Fin 4) (sb : Fin 2) (r : Fin 512) (s : Fin 256) :
    (V m c main_v151 : FVec Ideal S2x4x2x512x256 .f32) (ix5 0 hh sb r s)
      = slot (wb 0#32 (A5 m c)) (mb 16#32 (A5 m c)) (fun h => A6 m c (ix1 h)) hh sb r s := by
  rw [V_split]
  after_reads_simp
  pointwise []
  unfold WE
  after_reads_simp
  exact d_v97 m c hh sb r s

set_option maxHeartbeats 1600000 in
theorem v151_1 (c : Dev nD) (hh : Fin 4) (sb : Fin 2) (r : Fin 512) (s : Fin 256) :
    (V m c main_v151 : FVec Ideal S2x4x2x512x256 .f32) (ix5 1 hh sb r s)
      = slot (wb 128#32 (A5 m c)) (mb 144#32 (A5 m c)) (fun h => A6 m c (ix1 h)) hh sb r s := by
  rw [V_split]
  after_reads_simp
  pointwise []
  after_reads_simp
  pointwise []
  split
  · rename_i h0
    split
    · rename_i h1
      generalize_proofs
      after_reads_at
      generalize_proofs
      rw [e_v105]
      unfold slot
      rw [dif_pos h0, dif_pos h1]
    rename_i h1
    split
    · rename_i h2
      generalize_proofs
      after_reads_at
      generalize_proofs
      unfold slot mb pick
      rw [dif_pos h0, dif_neg h1, dif_pos h2]
      refine Finset.sum_congr rfl fun x _ => ?_
      rw [e_v128, e_arg5]
    rename_i h2
    split
    · rename_i h3
      generalize_proofs
      after_reads_at
      generalize_proofs
      rw [e_v45]
      unfold slot
      rw [dif_pos h0, dif_neg h1, dif_neg h2, dif_pos h3]
    rename_i h3
    generalize_proofs
    after_reads_at
    generalize_proofs
    rw [e_v46]
    unfold slot
    rw [dif_pos h0, dif_neg h1, dif_neg h2, dif_neg h3]
  · rename_i h0
    split
    · rename_i h1
      generalize_proofs
      after_reads_at
      generalize_proofs
      rw [e_v105]
      unfold slot
      rw [dif_neg h0, dif_pos h1]
    rename_i h1
    split
    · rename_i h2
      generalize_proofs
      after_reads_at
      generalize_proofs
      unfold slot mb pick
      rw [dif_neg h0, dif_neg h1, dif_pos h2]
      refine Finset.sum_congr rfl fun x _ => ?_
      rw [e_v128, e_arg5]
    rename_i h2
    split
    · rename_i h3
      generalize_proofs
      after_reads_at
      generalize_proofs
      rw [e_v45]
      unfold slot
      rw [dif_neg h0, dif_neg h1, dif_neg h2, dif_pos h3]
    rename_i h3
    generalize_proofs
    after_reads_at
    generalize_proofs
    rw [e_v46]
    unfold slot
    rw [dif_neg h0, dif_neg h1, dif_neg h2, dif_neg h3]

end Cert.KernelIdeal.Attn
-- ==== Proof.Attn.Tbl4.lean ====
module

public import proofs.«01_k».proof.Proof.Gen.KernelIdeal.Frame
public import Idealize.ShloMosaic.Lib.Claim
public import Idealize.ShloMosaic.Lib.Pipeline.ValueKit
public import Idealize.ShloMosaic.Lib.Pointwise
public import Idealize.ShloMosaic.Lib.WordCmp
public import Idealize.ShloMosaic.Lib.StableHlo.ReadAt
public import proofs.«01_k».proof.Proof.Attn.Tbl

@[expose] public section

set_option maxRecDepth 16384
noncomputable section
open Idealize.ShloMosaic Idealize.ShloMosaic.TcCoe Idealize.SL.Sem
namespace Cert.KernelIdeal.Attn
open Cert.KernelIdeal Cert.KernelIdeal.Gen
variable (m : (ℓ : Loc nD τ sig) → Buf (Elt Ideal) ℓ)

theorem e_arg0 (c : Dev nD) : (WE m c (Proc.devRef .tc main_arg0) : FVec Ideal S2x16384x2048 .f32) = m (c.tc.loc main_arg0) := by
  unfold WE WD WC WB WA
  after_reads_simp

theorem e_arg1 (c : Dev nD) : (WE m c (Proc.devRef .tc main_arg1) : FVec Ideal S2x16384x4x64 .f32) = m (c.tc.loc main_arg1) := by
  unfold WE WD WC WB WA
  after_reads_simp

theorem e_arg2 (c : Dev nD) : (WE m c (Proc.devRef .tc main_arg2) : FVec Ideal S2x16384x4x64 .f32) = m (c.tc.loc main_arg2) := by
  unfold WE WD WC WB WA
  after_reads_simp

theorem e_arg3 (c : Dev nD) : (WE m c (Proc.devRef .tc main_arg3) : FVec Ideal S16x4x64 .f32) = m (c.tc.loc main_arg3) := by
  unfold WE WD WC WB WA
  after_reads_simp

theorem e_arg4 (c : Dev nD) : (WE m c (Proc.devRef .tc main_arg4) : FVec Ideal S16x4x64 .f32) = m (c.tc.loc main_arg4) := by
  unfold WE WD WC WB WA
  after_reads_simp

theorem gq_at (c : Dev nD) (b : Fin 2) (t : Fin 16384) (k : Fin 2048) (R : Fin 32768) (hR : R.val = b.val * 16384 + t.val) :
    (V m c main_v153 : FVec Ideal S32768x2048 .bf16) (ix2 R k) = (m (c.tc.loc main_arg0) : FVec Ideal S2x16384x2048 .f32) (ix3 b t k) := by
  rw [V_split, ← e_arg0 m c]
  after_reads_at
  have hb : (⟨R.val / 16384, by omega⟩ : Fin 2) = b := Fin.ext (by show R.val / 16384 = b.val; omega)
  have ht : (⟨R.val % 16384, by omega⟩ : Fin 16384) = t := Fin.ext (by show R.val % 16384 = t.val; omega)
  exact congrArg₂ (fun b t => (WE m c (Proc.devRef .tc main_arg0) : FVec Ideal S2x16384x2048 .f32) (ix3 b t k)) hb ht
theorem gk_at (c : Dev nD) (b : Fin 2) (t : Fin 16384) (h : Fin 4) (k : Fin 64) (R : Fin 32768) (hR : R.val = b.val * 16384 + t.val) :
    (V m c main_v156 : FVec Ideal S4x32768x64 .bf16) (ix3 h R k) = (m (c.tc.loc main_arg1) : FVec Ideal S2x16384x4x64 .f32) (ix4 b t h k) := by
  rw [V_split, ← e_arg1 m c]
  after_reads_at
  have hb : (⟨R.val / 16384, by omega⟩ : Fin 2) = b := Fin.ext (by show R.val / 16384 = b.val; omega)
  have ht : (⟨R.val % 16384, by omega⟩ : Fin 16384) = t := Fin.ext (by show R.val % 16384 = t.val; omega)
  exact congrArg₂ (fun b t => (WE m c (Proc.devRef .tc main_arg1) : FVec Ideal S2x16384x4x64 .f32) (ix4 b t h k)) hb ht
theorem gkm_at (c : Dev nD) (h : Fin 4) (i : Fin 16) (k : Fin 64) :
    (V m c main_v163 : FVec Ideal S4x16x64 .bf16) (ix3 h i k) = (m (c.tc.loc main_arg3) : FVec Ideal S16x4x64 .f32) (ix3 i h k) := by
  rw [V_split, ← e_arg3 m c]
  after_reads_at
theorem gv_at (c : Dev nD) (b : Fin 2) (t : Fin 16384) (h : Fin 4) (d : Fin 64) (R : Fin 32768) (hR : R.val = b.val * 16384 + t.val) :
    (V m c main_v161 : FVec Ideal S4x32768x256 .bf16) (ix3 h R ⟨d.val, by omega⟩) = (m (c.tc.loc main_arg2) : FVec Ideal S2x16384x4x64 .f32) (ix4 b t h d) := by
  rw [V_split, ← e_arg2 m c]
  after_reads_at
  after_reads_at
  have hb : (⟨R.val / 16384, by omega⟩ : Fin 2) = b := Fin.ext (by show R.val / 16384 = b.val; omega)
  have ht : (⟨R.val % 16384, by omega⟩ : Fin 16384) = t := Fin.ext (by show R.val % 16384 = t.val; omega)
  exact congrArg₂ (fun b t => (WE m c (Proc.devRef .tc main_arg2) : FVec Ideal S2x16384x4x64 .f32) (ix4 b t h d)) hb ht
theorem gv1_at (c : Dev nD) (h : Fin 4) (d : Fin 64) (R : Fin 32768) :
    (V m c main_v161 : FVec Ideal S4x32768x256 .bf16) (ix3 h R ⟨128+d.val, by omega⟩) = (1 : EReal) := by
  rw [V_split]
  after_reads_at
  rw [dif_neg (by omega), dif_neg (by omega), dif_pos (by omega)]
  after_reads_at
theorem gvm_at (c : Dev nD) (h : Fin 4) (i : Fin 16) (d : Fin 64) :
    (V m c main_v167 : FVec Ideal S4x16x256 .bf16) (ix3 h i ⟨d.val, by omega⟩) = (m (c.tc.loc main_arg4) : FVec Ideal S16x4x64 .f32) (ix3 i h d) := by
  rw [V_split, ← e_arg4 m c]
  after_reads_at
  after_reads_at
theorem gvm1_at (c : Dev nD) (h : Fin 4) (i : Fin 16) (d : Fin 64) :
    (V m c main_v167 : FVec Ideal S4x16x256 .bf16) (ix3 h i ⟨128+d.val, by omega⟩) = (1 : EReal) := by
  rw [V_split]
  after_reads_at
  rw [dif_neg (by omega), dif_neg (by omega), dif_pos (by omega)]
  after_reads_at

end Cert.KernelIdeal.Attn
-- ==== Proof.Attn.Bkt.lean ====
module

public import proofs.«01_k».proof.Proof.Attn.Tbl
public import Mathlib.Analysis.SpecialFunctions.Log.Basic

@[expose] public section

set_option maxRecDepth 16384
noncomputable section
open Idealize.ShloMosaic Idealize.ShloMosaic.TcCoe Idealize.SL.Sem
namespace Cert.KernelIdeal.Attn

theorem lit16 : Ideal.ofBits FTy.f32 1098907648#32 = ((16 : ℝ) : EReal) := by
  simp [Ideal.ofBits, Ideal.ieee]
  rw [← EReal.coe_mul]
  norm_num
theorem litc : ∃ c : ℝ, Ideal.ofBits FTy.f32 1074075026#32 = (c : EReal) ∧ 2 ≤ c ∧ c ≤ 2.0795 := by
  refine ⟨_, by simp only [Ideal.ofBits, Ideal.ieee]; simp; rfl, ?_, ?_⟩ <;> norm_num

/-- The bucket's real number: the scaled logarithm's floor for a distance of at least 16. -/
theorem BK_big (d : BitVec 32) (hd : 16 ≤ d.toInt) (hd' : d.toInt ≤ 20000) :
    16 ≤ (BK d).toInt ∧ (BK d).toInt ≤ 31 ∧ (129 ≤ d.toInt → BK d = 31#32) := by
  obtain ⟨c, hc, c2, c3⟩ := litc
  have hmax : IntOp.maxsi d 16#32 = d := by
    unfold IntOp.maxsi
    split
    · rfl
    · rename_i h
      rw [BitVec.slt_eq_decide] at h
      have : (16#32 : BitVec 32).toInt = 16 := by decide
      simp only [decide_eq_true_eq] at h
      exact BitVec.eq_of_toInt_eq (by omega)
  have hlt : IntOp.cmpi CmpIPredicate.slt d 16#32 = 0#1 := by
    unfold IntOp.cmpi
    simp only [BitVec.slt_eq_decide]
    have : (16#32 : BitVec 32).toInt = 16 := by decide
    rw [this, decide_eq_false (by omega)]
    rfl
  obtain ⟨z, hz, z0, z1, z2⟩ : ∃ z : ℤ, FloatOps.fptosi (F := Ideal) (φ := .f32) 32
      (Ideal.div (Ideal.log (Ideal.div (FloatOps.sitofp (F := Ideal) FTy.f32 d) (Ideal.ofBits FTy.f32 1098907648#32)))
        (Ideal.ofBits FTy.f32 1074075026#32) * Ideal.ofBits FTy.f32 1098907648#32) = BitVec.ofInt 32 z ∧ 0 ≤ z ∧ z ≤ 20000 ∧ (129 ≤ d.toInt → 15 ≤ z) := by
    have e1 : FloatOps.sitofp (F := Ideal) FTy.f32 d = ((d.toInt : ℝ) : EReal) := rfl
    have hr : (16 : ℝ) ≤ d.toInt := by exact_mod_cast hd
    have hr' : (d.toInt : ℝ) ≤ 20000 := by exact_mod_cast hd'
    have e2 : (((d.toInt : ℝ) : EReal) * ((1 / 16 : ℝ) : EReal)) = (((d.toInt : ℝ) / 16 : ℝ) : EReal) := by
      rw [← EReal.coe_mul]; congr 1; ring
    rw [e1, lit16, hc, Ideal.div_coe (y := 16) (by norm_num), e2, Ideal.log_coe, if_neg (by intro h; linarith [show (1:ℝ) ≤ (d.toInt : ℝ) / 16 by linarith]),
      Ideal.div_coe (y := c) (ne_of_gt (by linarith)), ← EReal.coe_mul, ← EReal.coe_mul]
    set x : ℝ := Real.log ((d.toInt : ℝ) / 16) * (1 / c) * 16 with hx
    have hl0 : 0 ≤ Real.log ((d.toInt : ℝ) / 16) := Real.log_nonneg (by linarith)
    have hl1 : Real.log ((d.toInt : ℝ) / 16) ≤ 1250 := by
      have := Real.log_le_sub_one_of_pos (x := (d.toInt : ℝ) / 16) (by linarith)
      linarith
    have cp : 0 < c := by linarith
    have hxe : x = Real.log ((d.toInt : ℝ) / 16) * 16 / c := by rw [hx]; field_simp
    have x0 : 0 ≤ x := by rw [hxe]; positivity
    have x1 : x ≤ 10000 := by
      rw [hxe, div_le_iff₀ cp]; linarith
    refine ⟨⌊x⌋, ?_, Int.floor_nonneg.2 x0, ?_, ?_⟩
    · show Ideal.fptosi 32 (x : EReal) = _
      unfold Ideal.fptosi
      rw [Ideal.toIntClamped_coe, if_pos x0]
      have f0 : 0 ≤ ⌊x⌋ := Int.floor_nonneg.2 x0
      have f1 : ⌊x⌋ ≤ 10000 := by
        have := Int.floor_le x
        have h : ((⌊x⌋ : ℤ) : ℝ) ≤ 10000 := by linarith
        exact_mod_cast h
      congr 1
      norm_num
      omega
    · have := Int.floor_le x
      have h : ((⌊x⌋ : ℤ) : ℝ) ≤ 20000 := by linarith
      exact_mod_cast h
    · intro h
      rw [Int.le_floor]
      have hr2 : (129 : ℝ) ≤ d.toInt := by exact_mod_cast h
      have hlog : Real.log 8 ≤ Real.log ((d.toInt : ℝ) / 16) := Real.log_le_log (by norm_num) (by linarith)
      have h8 : (1.95 : ℝ) ≤ Real.log 8 := by
        rw [Real.le_log_iff_exp_le (by norm_num)]
        have ht := Real.add_one_le_exp (-(1.95 / 64) : ℝ)
        have hp : (-(1.95 / 64) + 1 : ℝ) ^ 64 ≤ Real.exp (-(1.95 / 64)) ^ 64 := pow_le_pow_left₀ (by norm_num) ht 64
        rw [← Real.exp_nat_mul, show ((64 : ℕ) : ℝ) * -(1.95 / 64) = -1.95 by norm_num, Real.exp_neg] at hp
        have hq : (1 / 8 : ℝ) ≤ (-(1.95 / 64) + 1 : ℝ) ^ 64 := by norm_num
        have hw : (8 : ℝ)⁻¹ ≤ (Real.exp 1.95)⁻¹ := by rw [← one_div]; exact hq.trans hp
        exact (inv_le_inv₀ (by norm_num) (Real.exp_pos _)).1 hw
      rw [hxe, le_div_iff₀ cp]
      push_cast
      linarith
  unfold BK
  rw [hmax, hlt, hz]
  have hs : Scalar.select (α := BitVec 32) 0#1 d (IntOp.minsi (IntOp.addi 16#32 (BitVec.ofInt 32 z)) 31#32) = IntOp.minsi (IntOp.addi 16#32 (BitVec.ofInt 32 z)) 31#32 := rfl
  rw [hs]
  have ha : (IntOp.addi 16#32 (BitVec.ofInt 32 z)).toInt = 16 + z := by
    unfold IntOp.addi
    rw [BitVec.toInt_add, BitVec.toInt_ofInt]
    have : (16#32 : BitVec 32).toInt = 16 := by decide
    rw [this]
    have hb : z.bmod (2 ^ 32) = z := Int.bmod_eq_of_le (by omega) (by omega)
    rw [hb, Int.bmod_eq_of_le (by omega) (by omega)]
  have h31 : (31#32 : BitVec 32).toInt = 31 := by decide
  unfold IntOp.minsi
  rw [BitVec.slt_eq_decide, ha, h31]
  by_cases hzz : 16 + z < 31
  · rw [decide_eq_true hzz, if_pos rfl, ha]
    exact ⟨by omega, by omega, fun h => absurd (z2 h) (by omega)⟩
  · rw [decide_eq_false hzz, if_neg (by decide), h31]
    exact ⟨by omega, by omega, fun _ => rfl⟩

theorem BK_small (d : BitVec 32) (hd : d.toInt < 16) : BK d = d := by
  have hlt : IntOp.cmpi CmpIPredicate.slt d 16#32 = 1#1 := by
    unfold IntOp.cmpi
    simp only [BitVec.slt_eq_decide]
    have : (16#32 : BitVec 32).toInt = 16 := by decide
    rw [this, decide_eq_true hd]
    rfl
  unfold BK
  rw [hlt]
  rfl

theorem BK_range (d : BitVec 32) (h0 : 0 ≤ d.toInt) (h1 : d.toInt ≤ 20000) : 0 ≤ (BK d).toInt ∧ (BK d).toInt ≤ 31 := by
  by_cases h : d.toInt < 16
  · rw [BK_small d h]; omega
  · have := BK_big d (by omega) h1
    omega

theorem pick_at (x5 : FVec Ideal S32x32 .f32) (h : Fin 32) (k K : BitVec 32) (h0 : 0 ≤ k.toInt) (h1 : k.toInt ≤ 31) (hK : K = k) :
    pick x5 h k = x5 (ix2 ⟨min K.toInt.toNat 31, by omega⟩ h) := by
  subst hK
  have hk : K = BitVec.ofNat 32 K.toInt.toNat := by
    apply BitVec.eq_of_toInt_eq
    rw [WordCmp.toInt_ofNat_of_lt (by norm_num; omega)]
    omega
  unfold pick
  rw [Finset.sum_eq_single (⟨min K.toInt.toNat 31, by omega⟩ : Fin 32)]
  · have e : BitVec.ofNat 32 (min K.toInt.toNat 31) = K := by rw [min_eq_left (by omega)]; exact hk.symm
    have hc : IntOp.cmpi CmpIPredicate.eq K K = 1#1 := by unfold IntOp.cmpi; simp
    have h1 : FloatOps.uitofp (F := Ideal) FTy.f32 (1#1 : BitVec 1) = (1 : EReal) := by
      show ((((1#1 : BitVec 1).toNat : ℝ)) : EReal) = 1
      simp
    show x5 _ * FloatOps.uitofp FTy.f32 (IntOp.cmpi CmpIPredicate.eq K (BitVec.ofNat 32 (min K.toInt.toNat 31))) = _
    rw [e, hc, h1, mul_one]
  · intro b _ hb
    have hne : K ≠ BitVec.ofNat 32 b.val := by
      intro e
      apply hb
      apply Fin.ext
      show b.val = min K.toInt.toNat 31
      rw [e, WordCmp.toInt_ofNat_of_lt (by norm_num; omega)]
      omega
    have hc : IntOp.cmpi CmpIPredicate.eq K (BitVec.ofNat 32 b.val) = 0#1 := by
      rw [WordCmp.cmpi_eq_eq, decide_eq_false hne]; rfl
    have h1 : FloatOps.uitofp (F := Ideal) FTy.f32 (0#1 : BitVec 1) = (0 : EReal) := by
      show ((((0#1 : BitVec 1).toNat : ℝ)) : EReal) = 0
      simp
    rw [hc, h1, mul_zero]
  · intro h; exact absurd (Finset.mem_univ _) h

theorem pick_eq (x5 : FVec Ideal S32x32 .f32) (h : Fin 32) (k : BitVec 32) (h0 : 0 ≤ k.toInt) (h1 : k.toInt ≤ 31) :
    pick x5 h k = x5 (ix2 ⟨min (Scalar.select (IntOp.cmpi .slt k 0#32) (IntOp.addi k 32#32) k).toInt.toNat 31, by omega⟩ h) := by
  have hc : IntOp.cmpi CmpIPredicate.slt k 0#32 = 0#1 := by
    unfold IntOp.cmpi
    simp only [BitVec.slt_eq_decide]
    have : (0#32 : BitVec 32).toInt = 0 := by decide
    rw [this, decide_eq_false (by omega)]
    rfl
  have hs : Scalar.select (IntOp.cmpi .slt k 0#32) (IntOp.addi k 32#32) k = k := by rw [hc]; rfl
  exact pick_at x5 h k _ h0 h1 hs

end Cert.KernelIdeal.Attn
-- ==== Proof.Attn.RefA.lean ====
module

public import proofs.«01_k».proof.Proof.Gen.ReferenceIdeal.Read
public import Idealize.ShloMosaic.Lib.Pointwise
public import Idealize.ShloMosaic.Lib.WordCmp
public import proofs.«01_k».proof.Proof.Attn.Tbl

@[expose] public section

set_option maxRecDepth 16384
noncomputable section
open Idealize.ShloMosaic Idealize.ShloMosaic.TcCoe Idealize.SL.Sem
namespace Cert.ReferenceIdeal.Attn
open Cert.ReferenceIdeal Cert.ReferenceIdeal.Gen Cert.ReferenceIdeal.Read
open Cert.KernelIdeal.Attn (BK dist inw)

variable (x0 : FVec Ideal S2x16384x2048 .f32) (x1 x2 : FVec Ideal S2x16384x4x64 .f32) (x3 x4 : FVec Ideal S16x4x64 .f32)
  (x5 : FVec Ideal S32x32 .f32) (x6 : FVec Ideal S32 .f32)

/-- The window's row `j` in block `n`: zeros before the first token. -/
def BAND (x : FVec Ideal S2x16384x4x64 .f32) (b : Fin 2) (n : Fin 128) (h : Fin 4) (j : Fin 256) (k : Fin 64) : EReal :=
  if hj : n.val * 128 + j.val < 128 then 0 else x (ix4 b ⟨n.val * 128 + j.val - 128, by omega⟩ h k)

theorem v2_at (b : Fin 2) (n : Fin 129) (i : Fin 128) (h : Fin 4) (k : Fin 64) :
    val_main_v2 (F := Ideal) x1 (ix5 b n i h k) = if hj : n.val * 128 + i.val < 128 then 0 else x1 (ix4 b ⟨n.val * 128 + i.val - 128, by omega⟩ h k) := by
  pointwise [val_main_v2, val_main_v1, val_main_call0_v0]
  have h0 : FloatOps.sitofp (F := Ideal) FTy.f32 (val_main_c (F := Ideal) (Shape.Idx.first h_S_)) = (0 : EReal) := by
    show ((((0#32 : BitVec 32).toInt : ℝ)) : EReal) = 0
    simp
  rw [h0]
  split
  · rw [dif_neg (by omega)]
  · rw [dif_pos (by omega)]

theorem v11_at (b : Fin 2) (n i : Fin 128) (h : Fin 4) (g : Fin 8) (k : Fin 64) :
    val_main_v11 (F := Ideal) x0 (ix6 b n i h g k) = x0 (ix3 b ⟨n.val * 128 + i.val, by omega⟩ ⟨h.val * 512 + (g.val * 64 + k.val), by omega⟩) := by
  pointwise [val_main_v11]
  exact congrArg (fun j => x0 (ix3 b _ j)) (Fin.ext (by dsimp only; omega))

theorem v29_at (i : Fin 128) (j : Fin 256) : val_main_v29 (F := Ideal) (ix2 i j) = inw i j := by
  pointwise [val_main_v29]
  rfl

theorem v49_at (i : Fin 128) (j : Fin 256) : val_main_v49 (F := Ideal) (ix2 i j) = BK (IntOp.maxsi (dist i j) 0#32) := by
  rfl

/-- The distance of the query `i` of block `n` to the leading token `p`. -/
def dm (n i : Fin 128) (p : Fin 16) : BitVec 32 :=
  IntOp.subi (IntOp.addi (IntOp.addi 16#32 (IntOp.muli (BitVec.ofNat 32 n.val) 128#32)) (BitVec.ofNat 32 i.val)) (BitVec.ofNat 32 p.val)

theorem v82_at (n i : Fin 128) (p : Fin 16) : val_main_v82 (F := Ideal) (ix3 n i p) = dm n i p := by
  rfl

theorem v102_at (n i : Fin 128) (p : Fin 16) : val_main_v102 (F := Ideal) (ix3 n i p) = BK (dm n i p) := by
  rfl

theorem v70_at (n i : Fin 128) (j : Fin 256) : val_main_v70 (F := Ideal) (ix3 n i j) =
   IntOp.andi (inw i j) (IntOp.cmpi .sge (IntOp.addi (IntOp.muli (BitVec.ofNat 32 n.val) 128#32) (BitVec.ofNat 32 j.val)) 128#32) := by
  rfl

theorem v4_at (b : Fin 2) (n : Fin 129) (i : Fin 128) (h : Fin 4) (k : Fin 64) :
    val_main_v4 (F := Ideal) x2 (ix5 b n i h k) = if hj : n.val * 128 + i.val < 128 then 0 else x2 (ix4 b ⟨n.val * 128 + i.val - 128, by omega⟩ h k) :=
  v2_at x2 b n i h k

theorem v7_at (b : Fin 2) (n : Fin 128) (j : Fin 256) (h : Fin 4) (k : Fin 64) :
    val_main_v7 (F := Ideal) x1 (ix5 b n j h k) = BAND x1 b n h j k := by
  unfold val_main_v7 val_main_v5 val_main_v6
  have e := v2_at x1
  revert e
  generalize val_main_v2 (F := Ideal) x1 = y
  intro e
  pointwise []
  unfold BAND
  split
  · generalize_proofs
    exact e _ _ _ _ _
  · generalize_proofs
    refine (e _ _ _ _ _).trans ?_
    dsimp only
    split
    · rw [dif_pos (by omega)]
    · rw [dif_neg (by omega)]
      exact congrArg (fun t => x1 (ix4 b t h k)) (Fin.ext (by dsimp only; omega))

theorem v10_at (b : Fin 2) (n : Fin 128) (j : Fin 256) (h : Fin 4) (k : Fin 64) :
    val_main_v10 (F := Ideal) x2 (ix5 b n j h k) = BAND x2 b n h j k := v7_at x2 b n j h k

/-- The looked-up row, the index read signed and clamped. -/
theorem g56 (idx : IVec S128x256x1 32) (i : Fin 128) (j : Fin 256) (h : Fin 32) :
    Host.gather gather_S32x32_S128x256x1_S128x256x32_2_0_n_n_0_2_132 x5 idx (ix3 i j h)
      = x5 (ix2 ⟨min (idx (ix3 i j 0)).toInt.toNat 31, by omega⟩ h) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S32x32_S128x256x1_S128x256x32_2_0_n_n_0_2_132] at h),
      GatherDims.offCoord_eq_zero _ _ _ (fun h => ((GatherDims.mem_sKept _ _).mp h).1 (List.mem_singleton.mpr rfl))]
    simp only [Nat.add_zero]
    unfold GatherDims.start
    have hm : (0 : Fin 2) ∈ (gather_S32x32_S128x256x1_S128x256x32_2_0_n_n_0_2_132).startIndexMap := List.mem_singleton.mpr rfl
    rw [dif_pos hm]
    have hsi : ∀ z, GatherDims.siIdx gather_S32x32_S128x256x1_S128x256x32_2_0_n_n_0_2_132 (ix3 i j h) z = ix3 i j 0 := by
      intro z
      funext b; refine Fin.ext ?_
      match b with
      | ⟨0, _⟩ => rfl
      | ⟨1, _⟩ => rfl
      | ⟨2, _⟩ => exact Nat.lt_one_iff.mp (Fin.isLt _)
    rw [hsi]
    rfl
  · rw [GatherDims.batchCoord_eq_zero _ _ _ (fun h => by simp [gather_S32x32_S128x256x1_S128x256x32_2_0_n_n_0_2_132] at h)]
    have hs : GatherDims.start gather_S32x32_S128x256x1_S128x256x32_2_0_n_n_0_2_132 (ix3 i j h) idx 1 = 0 := by
      unfold GatherDims.start
      rw [dif_neg (by decide)]
    rw [hs]
    have hk : (1 : Fin 2) ∈ (gather_S32x32_S128x256x1_S128x256x32_2_0_n_n_0_2_132).sKept := by decide
    have e1 : ∀ X : Fin 3, X = 2 → (ix3 i j h X).val = h.val := fun X h => by subst h; rfl
    unfold GatherDims.offCoord
    rw [dif_pos hk]
    exact (Nat.zero_add _).trans (e1 _ (List.mem_singleton.1 (List.getElem_mem (l := [(2 : Fin 3)]) _)))

theorem g109 (idx : IVec S128x128x16x1 32) (n i : Fin 128) (p : Fin 16) (h : Fin 32) :
    Host.gather gather_S32x32_S128x128x16x1_S128x128x16x32_3_0_n_n_0_3_132 x5 idx (ix4 n i p h)
      = x5 (ix2 ⟨min (idx (ix4 n i p 0)).toInt.toNat 31, by omega⟩ h) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S32x32_S128x128x16x1_S128x128x16x32_3_0_n_n_0_3_132] at h),
      GatherDims.offCoord_eq_zero _ _ _ (fun h => ((GatherDims.mem_sKept _ _).mp h).1 (List.mem_singleton.mpr rfl))]
    simp only [Nat.add_zero]
    unfold GatherDims.start
    have hm : (0 : Fin 2) ∈ (gather_S32x32_S128x128x16x1_S128x128x16x32_3_0_n_n_0_3_132).startIndexMap := List.mem_singleton.mpr rfl
    rw [dif_pos hm]
    have hsi : ∀ z, GatherDims.siIdx gather_S32x32_S128x128x16x1_S128x128x16x32_3_0_n_n_0_3_132 (ix4 n i p h) z = ix4 n i p 0 := by
      intro z
      funext b; refine Fin.ext ?_
      match b with
      | ⟨0, _⟩ => rfl
      | ⟨1, _⟩ => rfl
      | ⟨2, _⟩ => rfl
      | ⟨3, _⟩ => exact Nat.lt_one_iff.mp (Fin.isLt _)
    rw [hsi]
    rfl
  · rw [GatherDims.batchCoord_eq_zero _ _ _ (fun h => by simp [gather_S32x32_S128x128x16x1_S128x128x16x32_3_0_n_n_0_3_132] at h)]
    have hs : GatherDims.start gather_S32x32_S128x128x16x1_S128x128x16x32_3_0_n_n_0_3_132 (ix4 n i p h) idx 1 = 0 := by
      unfold GatherDims.start
      rw [dif_neg (by decide)]
    rw [hs]
    have hk : (1 : Fin 2) ∈ (gather_S32x32_S128x128x16x1_S128x128x16x32_3_0_n_n_0_3_132).sKept := by decide
    have e1 : ∀ X : Fin 4, X = 3 → (ix4 n i p h X).val = h.val := fun X h => by subst h; rfl
    unfold GatherDims.offCoord
    rw [dif_pos hk]
    exact (Nat.zero_add _).trans (e1 _ (List.mem_singleton.1 (List.getElem_mem (l := [(3 : Fin 4)]) _)))

theorem v54_at (i : Fin 128) (j : Fin 256) : val_main_v54 (F := Ideal) (ix2 i j) =
    Scalar.select (IntOp.cmpi .slt (BK (IntOp.maxsi (dist i j) 0#32)) 0#32) (IntOp.addi (BK (IntOp.maxsi (dist i j) 0#32)) 32#32) (BK (IntOp.maxsi (dist i j) 0#32)) := by
  rfl
theorem v107_at (n i : Fin 128) (p : Fin 16) : val_main_v107 (F := Ideal) (ix3 n i p) =
    Scalar.select (IntOp.cmpi .slt (BK (dm n i p)) 0#32) (IntOp.addi (BK (dm n i p)) 32#32) (BK (dm n i p)) := by
  rfl
theorem v55_at (i : Fin 128) (j : Fin 256) : val_main_v55 (F := Ideal) (ix3 i j 0) =
    Scalar.select (IntOp.cmpi .slt (BK (IntOp.maxsi (dist i j) 0#32)) 0#32) (IntOp.addi (BK (IntOp.maxsi (dist i j) 0#32)) 32#32) (BK (IntOp.maxsi (dist i j) 0#32)) := by
  rfl
theorem v108_at (n i : Fin 128) (p : Fin 16) : val_main_v108 (F := Ideal) (ix4 n i p 0) =
    Scalar.select (IntOp.cmpi .slt (BK (dm n i p)) 0#32) (IntOp.addi (BK (dm n i p)) 32#32) (BK (dm n i p)) := by
  rfl
theorem v56_at (i : Fin 128) (j : Fin 256) (w : BitVec 32) (hw : val_main_v55 (F := Ideal) (ix3 i j 0) = w) (h : Fin 32) :
    val_main_v56 (F := Ideal) x5 (ix3 i j h) = x5 (ix2 ⟨min w.toInt.toNat 31, by omega⟩ h) :=
  (g56 x5 _ i j h).trans (congrArg (fun w : BitVec 32 => x5 (ix2 ⟨min w.toInt.toNat 31, by omega⟩ h)) hw)
theorem v109_at (n i : Fin 128) (p : Fin 16) (w : BitVec 32) (hw : val_main_v108 (F := Ideal) (ix4 n i p 0) = w) (h : Fin 32) :
    val_main_v109 (F := Ideal) x5 (ix4 n i p h) = x5 (ix2 ⟨min w.toInt.toNat 31, by omega⟩ h) :=
  (g109 x5 _ n i p h).trans (congrArg (fun w : BitVec 32 => x5 (ix2 ⟨min w.toInt.toNat 31, by omega⟩ h)) hw)
theorem v58_at (i : Fin 128) (j : Fin 256) (w : BitVec 32) (hw : val_main_v55 (F := Ideal) (ix3 i j 0) = w) (h : Fin 4) (g : Fin 8) :
    val_main_v58 (F := Ideal) x5 (ix4 h g i j) = x5 (ix2 ⟨min w.toInt.toNat 31, by omega⟩ ⟨h.val * 8 + g.val, by omega⟩) := by
  have e := v56_at x5 i j w hw
  clear hw
  unfold val_main_v58 val_main_v57
  revert e
  generalize val_main_v56 (F := Ideal) x5 = y
  intro e
  pointwise []
  exact e _
theorem v113_at (b : Fin 2) (n i : Fin 128) (p : Fin 16) (w : BitVec 32) (hw : val_main_v108 (F := Ideal) (ix4 n i p 0) = w) (h : Fin 4) (g : Fin 8) :
    val_main_v113 (F := Ideal) x5 (ix6 b n h g i p) = x5 (ix2 ⟨min w.toInt.toNat 31, by omega⟩ ⟨h.val * 8 + g.val, by omega⟩) := by
  have e := v109_at x5 n i p w hw
  clear hw
  unfold val_main_v113 val_main_v112 val_main_v111 val_main_v110
  revert e
  generalize val_main_v109 (F := Ideal) x5 = y
  intro e
  pointwise []
  exact e _

end Cert.ReferenceIdeal.Attn
-- ==== Proof.Attn.Glob.lean ====
module

public import proofs.«01_k».proof.Proof.Attn.Fin
public import proofs.«01_k».proof.Proof.Attn.Tbl3
public import proofs.«01_k».proof.Proof.Attn.Tbl4
public import proofs.«01_k».proof.Proof.Attn.Bkt
public import proofs.«01_k».proof.Proof.Attn.RefA

@[expose] public section

set_option maxRecDepth 16384
noncomputable section
open Idealize.ShloMosaic Idealize.ShloMosaic.TcCoe Idealize.SL.Sem
namespace Cert.KernelIdeal.Attn
open Cert.KernelIdeal Cert.KernelIdeal.Gen
open Cert.ReferenceIdeal.Attn (BAND dm)
variable (m : (ℓ : Loc nD τ sig) → Buf (Elt Ideal) ℓ)

/-! ## One grid point's operands as the arguments of the call -/

theorem q_blk (c : Dev nD) (t : Fin cfg0.N) (b : Fin 2) (n i : Fin 128) (ht : t.val = b.val * 128 + n.val) (k : Fin 2048) :
    iblk m c 0 t (ix2 i k) = (m (c.tc.loc main_arg0) : FVec Ideal S2x16384x2048 .f32) (ix3 b ⟨n.val * 128 + i.val, by omega⟩ k) := by
  have ht2 : t.val < 256 := t.isLt
  rw [r0 m c t i k ⟨t.val * 128 + i.val, by omega⟩ rfl]
  exact gq_at m c b _ k _ (by dsimp only; omega)

theorem k_blk (c : Dev nD) (t : Fin cfg0.N) (b : Fin 2) (n : Fin 128) (ht : t.val = b.val * 128 + n.val) (h : Fin 4) (sb : Fin 2)
    (s : Fin 256) (hs : s.val < 192) (k : Fin 64) (cc : Fin 256) (hcc : cc.val = s.val + 64 * sb.val) (hv : 128 ≤ n.val * 128 + cc.val) :
    KF (iblk m c 1 t) (iblk m c 2 t) (iblk m c 5 t) h sb s k = BAND (m (c.tc.loc main_arg1)) b n h cc k := by
  have ht2 : t.val < 256 := t.isLt
  unfold KF BAND
  rw [dif_pos hs, dif_neg (show ¬ (n.val * 128 + cc.val < 128) by omega)]
  split
  · rename_i h1
    rw [r1 m c t h ⟨s.val + 64 * sb.val, by omega⟩ k ⟨(t.val / 128 * 128 + (t.val % 128 - 1)) * 128 + (s.val + 64 * sb.val), by omega⟩ rfl]
    exact gk_at m c b _ h k _ (by dsimp only; omega)
  · rename_i h1
    rw [r2 m c t h ⟨s.val + 64 * sb.val - 128, by omega⟩ k ⟨t.val * 128 + (s.val + 64 * sb.val - 128), by omega⟩ rfl]
    exact gk_at m c b _ h k _ (by dsimp only; omega)

theorem km_blk (c : Dev nD) (t : Fin cfg0.N) (h : Fin 4) (sb : Fin 2) (s : Fin 256) (p : Fin 16) (hs : s.val = 192 + p.val) (k : Fin 64) :
    KF (iblk m c 1 t) (iblk m c 2 t) (iblk m c 5 t) h sb s k = (m (c.tc.loc main_arg3) : FVec Ideal S16x4x64 .f32) (ix3 p h k) := by
  unfold KF
  rw [dif_neg (by omega), dif_pos (by omega), r5]
  have e : (⟨s.val - 192, by omega⟩ : Fin 16) = p := Fin.ext (by dsimp only; omega)
  rw [e]
  exact gkm_at m c h p k

theorem k0_blk (c : Dev nD) (t : Fin cfg0.N) (h : Fin 4) (sb : Fin 2) (s : Fin 256) (hs : 208 ≤ s.val) (k : Fin 64) :
    KF (iblk m c 1 t) (iblk m c 2 t) (iblk m c 5 t) h sb s k = 0 := by
  unfold KF
  rw [dif_neg (by omega), dif_neg (by omega)]

theorem v_blk (c : Dev nD) (t : Fin cfg0.N) (b : Fin 2) (n : Fin 128) (ht : t.val = b.val * 128 + n.val) (h : Fin 4) (sb : Fin 2)
    (s : Fin 256) (hs : s.val < 192) (d : Fin 64) (cc : Fin 256) (hcc : cc.val = s.val + 64 * sb.val) (hv : 128 ≤ n.val * 128 + cc.val) :
    VF (iblk m c 3 t) (iblk m c 4 t) (iblk m c 6 t) h sb s ⟨d.val, by omega⟩ = BAND (m (c.tc.loc main_arg2)) b n h cc d := by
  have ht2 : t.val < 256 := t.isLt
  unfold VF BAND
  rw [dif_pos hs, dif_neg (show ¬ (n.val * 128 + cc.val < 128) by omega)]
  split
  · rename_i h1
    rw [r3 m c t h ⟨s.val + 64 * sb.val, by omega⟩ _ ⟨(t.val / 128 * 128 + (t.val % 128 - 1)) * 128 + (s.val + 64 * sb.val), by omega⟩ rfl]
    exact gv_at m c b _ h d _ (by dsimp only; omega)
  · rename_i h1
    rw [r4 m c t h ⟨s.val + 64 * sb.val - 128, by omega⟩ _ ⟨t.val * 128 + (s.val + 64 * sb.val - 128), by omega⟩ rfl]
    exact gv_at m c b _ h d _ (by dsimp only; omega)

theorem vm_blk (c : Dev nD) (t : Fin cfg0.N) (h : Fin 4) (sb : Fin 2) (s : Fin 256) (p : Fin 16) (hs : s.val = 192 + p.val) (d : Fin 64) :
    VF (iblk m c 3 t) (iblk m c 4 t) (iblk m c 6 t) h sb s ⟨d.val, by omega⟩ = (m (c.tc.loc main_arg4) : FVec Ideal S16x4x64 .f32) (ix3 p h d) := by
  unfold VF
  rw [dif_neg (by omega), dif_pos (by omega), r6]
  have e : (⟨s.val - 192, by omega⟩ : Fin 16) = p := Fin.ext (by dsimp only; omega)
  rw [e]
  exact gvm_at m c h p d

theorem v0_blk (c : Dev nD) (t : Fin cfg0.N) (h : Fin 4) (sb : Fin 2) (s : Fin 256) (hs : 208 ≤ s.val) (d : Fin 64) :
    VF (iblk m c 3 t) (iblk m c 4 t) (iblk m c 6 t) h sb s ⟨d.val, by omega⟩ = 0 := by
  unfold VF
  rw [dif_neg (by omega), dif_neg (by omega), if_neg (by dsimp only; omega)]

theorem one_blk (c : Dev nD) (t : Fin cfg0.N) (h : Fin 4) (sb : Fin 2) (s : Fin 256) (d : Fin 64) :
    VF (iblk m c 3 t) (iblk m c 4 t) (iblk m c 6 t) h sb s ⟨128 + d.val, by omega⟩ = 1 := by
  have ht2 : t.val < 256 := t.isLt
  unfold VF
  split
  · split
    · rename_i h0 h1
      rw [r3 m c t h ⟨s.val + 64 * sb.val, by omega⟩ _ ⟨(t.val / 128 * 128 + (t.val % 128 - 1)) * 128 + (s.val + 64 * sb.val), by omega⟩ rfl]
      exact gv1_at m c h d _
    · rename_i h0 h1
      rw [r4 m c t h ⟨s.val + 64 * sb.val - 128, by omega⟩ _ ⟨t.val * 128 + (s.val + 64 * sb.val - 128), by omega⟩ rfl]
      exact gv1_at m c h d _
  · split
    · rw [r6]
      exact gvm1_at m c h _ d
    · rw [if_pos (by dsimp only; omega)]

/-- The offset of the block's own table: the first block of a sequence, or any other. -/
def ow (n : Fin 128) : BitVec 32 := if n.val = 0 then 0#32 else 128#32
def om (n : Fin 128) : BitVec 32 := if n.val = 0 then 16#32 else 144#32

theorem t_blk (c : Dev nD) (t : Fin cfg0.N) (b : Fin 2) (n : Fin 128) (ht : t.val = b.val * 128 + n.val) (h : Fin 4) (sb : Fin 2) (r : Fin 512) (s : Fin 256) :
    iblk m c 7 t (ix5 0 h sb r s) = slot (wb (ow n) (A5 m c)) (mb (om n) (A5 m c)) (fun h => A6 m c (ix1 h)) h sb r s := by
  have ht2 : t.val < 256 := t.isLt
  unfold ow om
  by_cases hn : n.val = 0
  · rw [r7 m c t h sb r s 0 (by show 0 = min (t.val % 128) 1; omega), if_pos hn, if_pos hn]
    exact v151_0 m c h sb r s
  · rw [r7 m c t h sb r s 1 (by show 1 = min (t.val % 128) 1; omega), if_neg hn, if_neg hn]
    exact v151_1 m c h sb r s

section
variable (T : Fin 32 → Fin 128 → Fin 256 → EReal) (M : Fin 32 → Fin 128 → Fin 16 → EReal) (S : Fin 32 → EReal)
  (h : Fin 4) (sb : Fin 2) (r : Fin 512) (s : Fin 256) (g : Fin 8) (i : Fin 128) (hsb : sb.val = i.val / 64) (hr : r.val = g.val * 64 + i.val % 64)
include hsb hr

theorem slot_w (hs : s.val < 192) (cc : Fin 256) (hcc : cc.val = s.val + 64 * sb.val) :
    slot T M S h sb r s = T ⟨h.val * 8 + g.val, by omega⟩ i cc := by
  have e1 : (⟨h.val * 8 + r.val / 64, by omega⟩ : Fin 32) = ⟨h.val * 8 + g.val, by omega⟩ := Fin.ext (by dsimp only; omega)
  unfold slot
  split
  · rw [e1]
    exact congrArg₂ (T _) (Fin.ext (by dsimp only; omega)) (Fin.ext (by dsimp only; omega))
  · rw [e1]
    exact congrArg₂ (T _) (Fin.ext (by dsimp only; omega)) (Fin.ext (by dsimp only; omega))
theorem slot_m (p : Fin 16) (hs : s.val = 192 + p.val) : slot T M S h sb r s = M ⟨h.val * 8 + g.val, by omega⟩ i p := by
  have e1 : (⟨h.val * 8 + r.val / 64, by omega⟩ : Fin 32) = ⟨h.val * 8 + g.val, by omega⟩ := Fin.ext (by dsimp only; omega)
  unfold slot
  split
  · rw [dif_neg (by omega), dif_pos (by omega), e1]
    exact congrArg₂ (M _) (Fin.ext (by dsimp only; omega)) (Fin.ext (by dsimp only; omega))
  · rw [dif_neg (by omega), dif_pos (by omega), e1]
    exact congrArg₂ (M _) (Fin.ext (by dsimp only; omega)) (Fin.ext (by dsimp only; omega))
theorem slot_s (hs : s.val = 208) : slot T M S h sb r s = S ⟨h.val * 8 + g.val, by omega⟩ := by
  have e1 : (⟨h.val * 8 + r.val / 64, by omega⟩ : Fin 32) = ⟨h.val * 8 + g.val, by omega⟩ := Fin.ext (by dsimp only; omega)
  unfold slot
  split
  · rw [dif_neg (by omega), dif_neg (by omega), dif_pos (by omega), e1]
  · rw [dif_neg (by omega), dif_neg (by omega), dif_pos (by omega), e1]
omit hsb hr in
theorem slot_n (hs : 209 ≤ s.val) : slot T M S h sb r s = ⊥ := by
  unfold slot
  split
  · rw [dif_neg (by omega), dif_neg (by omega), dif_neg (by omega)]
  · rw [dif_neg (by omega), dif_neg (by omega), dif_neg (by omega)]
end

/-! ## The distances -/

theorem dist_int (i : Fin 128) (j : Fin 256) : (dist i j).toInt = 128 + (i.val : ℤ) - j.val := by
  have h1 : (BitVec.ofNat 32 i.val).toInt = i.val := WordCmp.toInt_ofNat_of_lt (by norm_num; omega)
  have h2 : (BitVec.ofNat 32 j.val).toInt = j.val := WordCmp.toInt_ofNat_of_lt (by norm_num; omega)
  have h3 : (128#32 : BitVec 32).toInt = 128 := by decide
  unfold dist IntOp.subi IntOp.addi
  rw [BitVec.toInt_sub, BitVec.toInt_add, h1, h2, h3]
  rw [Int.bmod_eq_of_le (n := 128 + (i.val : ℤ)) (by omega) (by omega), Int.bmod_eq_of_le (by omega) (by omega)]

theorem dm_int (n i : Fin 128) (p : Fin 16) : (dm n i p).toInt = 16 + n.val * 128 + i.val - p.val := by
  have h0 : (BitVec.ofNat 32 n.val).toInt = n.val := WordCmp.toInt_ofNat_of_lt (by norm_num; omega)
  have h1 : (BitVec.ofNat 32 i.val).toInt = i.val := WordCmp.toInt_ofNat_of_lt (by norm_num; omega)
  have h2 : (BitVec.ofNat 32 p.val).toInt = p.val := WordCmp.toInt_ofNat_of_lt (by norm_num; omega)
  have h3 : (128#32 : BitVec 32).toInt = 128 := by decide
  have h4 : (16#32 : BitVec 32).toInt = 16 := by decide
  unfold dm IntOp.subi IntOp.addi IntOp.muli
  rw [BitVec.toInt_sub, BitVec.toInt_add, BitVec.toInt_add, BitVec.toInt_mul, h0, h1, h2, h3, h4]
  rw [Int.bmod_eq_of_le (n := (n.val : ℤ) * 128) (by omega) (by omega), Int.bmod_eq_of_le (n := 16 + (n.val : ℤ) * 128) (by omega) (by omega),
    Int.bmod_eq_of_le (n := 16 + (n.val : ℤ) * 128 + i.val) (by omega) (by omega), Int.bmod_eq_of_le (by omega) (by omega)]

theorem mo_int (n i : Fin 128) (p : Fin 16) (hn : n.val ≠ 0) : (IntOp.subi (IntOp.addi (om n) (BitVec.ofNat 32 i.val)) (BitVec.ofNat 32 p.val)).toInt = 144 + (i.val : ℤ) - p.val := by
  have h1 : (BitVec.ofNat 32 i.val).toInt = i.val := WordCmp.toInt_ofNat_of_lt (by norm_num; omega)
  have h2 : (BitVec.ofNat 32 p.val).toInt = p.val := WordCmp.toInt_ofNat_of_lt (by norm_num; omega)
  have h3 : (144#32 : BitVec 32).toInt = 144 := by decide
  unfold om
  rw [if_neg hn]
  unfold IntOp.subi IntOp.addi
  rw [BitVec.toInt_sub, BitVec.toInt_add, h1, h2, h3]
  rw [Int.bmod_eq_of_le (n := 144 + (i.val : ℤ)) (by omega) (by omega), Int.bmod_eq_of_le (by omega) (by omega)]

/-- The bucket of a leading token's distance, by the block's own table. -/
theorem mbk (n i : Fin 128) (p : Fin 16) :
    BK (IntOp.subi (IntOp.addi (om n) (BitVec.ofNat 32 i.val)) (BitVec.ofNat 32 p.val)) = BK (dm n i p) := by
  by_cases hn : n.val = 0
  · refine congrArg BK (BitVec.eq_of_toInt_eq ?_)
    have h1 : (BitVec.ofNat 32 i.val).toInt = i.val := WordCmp.toInt_ofNat_of_lt (by norm_num; omega)
    have h2 : (BitVec.ofNat 32 p.val).toInt = p.val := WordCmp.toInt_ofNat_of_lt (by norm_num; omega)
    have h3 : (16#32 : BitVec 32).toInt = 16 := by decide
    rw [dm_int]
    unfold om
    rw [if_pos hn]
    unfold IntOp.subi IntOp.addi
    rw [BitVec.toInt_sub, BitVec.toInt_add, h1, h2, h3]
    rw [Int.bmod_eq_of_le (n := 16 + (i.val : ℤ)) (by omega) (by omega), Int.bmod_eq_of_le (by omega) (by omega)]
    omega
  · have e1 := mo_int n i p hn
    have e2 := dm_int n i p
    rw [(BK_big _ (by rw [e1]; omega) (by rw [e1]; omega)).2.2 (by rw [e1]; omega),
      (BK_big (dm n i p) (by rw [e2]; omega) (by rw [e2]; omega)).2.2 (by rw [e2]; omega)]

theorem and_one {x y : BitVec 1} : IntOp.andi x y = 1#1 ↔ x = 1#1 ∧ y = 1#1 := by
  revert x y; decide

theorem inw_iff (i : Fin 128) (j : Fin 256) : inw i j = 1#1 ↔ j.val ≤ 128 + i.val ∧ i.val < j.val := by
  have h0 : (0#32 : BitVec 32).toInt = 0 := by decide
  have h3 : (128#32 : BitVec 32).toInt = 128 := by decide
  unfold inw
  rw [and_one, WordCmp.cmpi_sge_eq, WordCmp.cmpi_slt_eq, WordCmp.ofBool_decide_eq_one_iff, WordCmp.ofBool_decide_eq_one_iff, dist_int, h0, h3]
  omega

theorem msk (n : Fin 128) (j : Fin 256) :
    IntOp.cmpi CmpIPredicate.sge (IntOp.addi (ow n) (BitVec.ofNat 32 j.val)) 128#32 =
      IntOp.cmpi .sge (IntOp.addi (IntOp.muli (BitVec.ofNat 32 n.val) 128#32) (BitVec.ofNat 32 j.val)) 128#32 := by
  have h0 : (BitVec.ofNat 32 n.val).toInt = n.val := WordCmp.toInt_ofNat_of_lt (by norm_num; omega)
  have h2 : (BitVec.ofNat 32 j.val).toInt = j.val := WordCmp.toInt_ofNat_of_lt (by norm_num; omega)
  have h3 : (128#32 : BitVec 32).toInt = 128 := by decide
  have h4 : (0#32 : BitVec 32).toInt = 0 := by decide
  have hw : (ow n).toInt = if n.val = 0 then 0 else 128 := by unfold ow; split <;> assumption
  have e1 : (IntOp.addi (ow n) (BitVec.ofNat 32 j.val)).toInt = (if n.val = 0 then 0 else 128) + j.val := by
    unfold IntOp.addi
    rw [BitVec.toInt_add, hw, h2, Int.bmod_eq_of_le (by split <;> omega) (by split <;> omega)]
  have e2 : (IntOp.addi (IntOp.muli (BitVec.ofNat 32 n.val) 128#32) (BitVec.ofNat 32 j.val)).toInt = n.val * 128 + j.val := by
    unfold IntOp.addi IntOp.muli
    rw [BitVec.toInt_add, BitVec.toInt_mul, h0, h2, h3, Int.bmod_eq_of_le (n := (n.val : ℤ) * 128) (by omega) (by omega), Int.bmod_eq_of_le (by omega) (by omega)]
  rw [WordCmp.cmpi_sge_eq, WordCmp.cmpi_sge_eq, e1, e2, h3]
  refine congrArg BitVec.ofBool (decide_eq_decide.2 ?_)
  split <;> omega

theorem msk_iff (n : Fin 128) (j : Fin 256) :
    IntOp.cmpi .sge (IntOp.addi (IntOp.muli (BitVec.ofNat 32 n.val) 128#32) (BitVec.ofNat 32 j.val)) 128#32 = 1#1 ↔ 128 ≤ n.val * 128 + j.val := by
  have h0 : (BitVec.ofNat 32 n.val).toInt = n.val := WordCmp.toInt_ofNat_of_lt (by norm_num; omega)
  have h2 : (BitVec.ofNat 32 j.val).toInt = j.val := WordCmp.toInt_ofNat_of_lt (by norm_num; omega)
  have h3 : (128#32 : BitVec 32).toInt = 128 := by decide
  have e2 : (IntOp.addi (IntOp.muli (BitVec.ofNat 32 n.val) 128#32) (BitVec.ofNat 32 j.val)).toInt = n.val * 128 + j.val := by
    unfold IntOp.addi IntOp.muli
    rw [BitVec.toInt_add, BitVec.toInt_mul, h0, h2, h3, Int.bmod_eq_of_le (n := (n.val : ℤ) * 128) (by omega) (by omega), Int.bmod_eq_of_le (by omega) (by omega)]
  rw [WordCmp.cmpi_sge_eq, WordCmp.ofBool_decide_eq_one_iff, e2, h3]
  omega

theorem maxd (i : Fin 128) (j : Fin 256) : 0 ≤ (BK (IntOp.maxsi (dist i j) 0#32)).toInt ∧ (BK (IntOp.maxsi (dist i j) 0#32)).toInt ≤ 31 := by
  have h := dist_int i j
  have h0 : (0#32 : BitVec 32).toInt = 0 := by decide
  have e : 0 ≤ (IntOp.maxsi (dist i j) 0#32).toInt ∧ (IntOp.maxsi (dist i j) 0#32).toInt ≤ 20000 := by
    unfold IntOp.maxsi
    rw [BitVec.slt_eq_decide, h0, h]
    split
    · rename_i hh
      have := of_decide_eq_true hh
      omega
    · omega
  exact BK_range _ e.1 e.2

end Cert.KernelIdeal.Attn
-- ==== Proof.Attn.Soft.lean ====
module

public import Idealize.ShloMosaic.Lib.Pipeline.ValueKit

@[expose] public section

noncomputable section
open Idealize.ShloMosaic
namespace Cert.Attn

/-! ## A softmax over the slots of one half equals the softmax over the whole band -/

theorem coe_sum {ι : Type} (s : Finset ι) (t : ι → ℝ) : (∑ i ∈ s, ((t i : ℝ) : EReal)) = ((∑ i ∈ s, t i : ℝ) : EReal) := by
  classical
  induction s using Finset.induction_on with
  | empty => simp
  | insert a s ha ih => rw [Finset.sum_insert ha, Finset.sum_insert ha, ih, EReal.coe_add]

theorem sum_mul {ι : Type} (s : Finset ι) (f : ι → EReal) (κ : ℝ) (hκ : 0 ≤ κ) :
    (∑ i ∈ s, f i) * (κ : EReal) = ∑ i ∈ s, f i * (κ : EReal) := by
  classical
  induction s using Finset.induction_on with
  | empty => simp
  | insert a s ha ih =>
    rw [Finset.sum_insert ha, Finset.sum_insert ha, ← ih,
      EReal.right_distrib_of_nonneg_of_ne_top (EReal.coe_nonneg.2 hκ) (EReal.coe_ne_top κ)]

theorem split_slots (f : Fin 256 → EReal) :
    ∑ s, f s = (∑ s : Fin 192, f ⟨s.val, by omega⟩) + ((∑ i : Fin 16, f ⟨192 + i.val, by omega⟩)
      + (f ⟨208, by decide⟩ + ∑ p : Fin 47, f ⟨209 + p.val, by omega⟩)) := by
  have h1 := Fin.sum_univ_add (a := 192) (b := 64) (fun s : Fin (192 + 64) => f s)
  have h2 := Fin.sum_univ_add (a := 16) (b := 48) (fun s : Fin (16 + 48) => f (Fin.natAdd 192 s))
  have h3 := Fin.sum_univ_add (a := 1) (b := 47) (fun s : Fin (1 + 47) => f (Fin.natAdd 192 (Fin.natAdd 16 s)))
  refine h1.trans (congrArg₂ (· + ·) rfl (h2.trans (congrArg₂ (· + ·) rfl (h3.trans (congrArg₂ (· + ·) ?_ ?_)))))
  · rw [Fin.sum_univ_one]; rfl
  · refine Finset.sum_congr rfl fun p _ => congrArg f (Fin.ext ?_)
    simp only [Fin.val_natAdd]; omega

theorem split_keys (f : Fin 273 → EReal) :
    ∑ s, f s = (∑ i : Fin 16, f ⟨i.val, by omega⟩) + ((∑ c : Fin 256, f ⟨16 + c.val, by omega⟩) + f ⟨272, by decide⟩) := by
  have h1 := Fin.sum_univ_add (a := 16) (b := 257) (fun s : Fin (16 + 257) => f s)
  have h2 := Fin.sum_univ_add (a := 256) (b := 1) (fun s : Fin (256 + 1) => f (Fin.natAdd 16 s))
  refine h1.trans (congrArg₂ (· + ·) rfl (h2.trans (congrArg₂ (· + ·) rfl ?_)))
  rw [Fin.sum_univ_one]; rfl

theorem fold_sup {n : ℕ} (f : Fin n → EReal) : Finset.univ.fold max ⊥ f = Finset.univ.sup f := rfl

/-- Any slot of the 256 is one of the four kinds. -/
theorem slot_cases (s : Fin 256) : (∃ a : Fin 192, s = ⟨a.val, by omega⟩) ∨ (∃ i : Fin 16, s = ⟨192 + i.val, by omega⟩)
    ∨ s = ⟨208, by decide⟩ ∨ ∃ p : Fin 47, s = ⟨209 + p.val, by omega⟩ := by
  by_cases h1 : s.val < 192
  · exact Or.inl ⟨⟨s.val, h1⟩, rfl⟩
  by_cases h2 : s.val < 208
  · exact Or.inr (Or.inl ⟨⟨s.val - 192, by omega⟩, Fin.ext (by dsimp only; omega)⟩)
  by_cases h3 : s.val = 208
  · exact Or.inr (Or.inr (Or.inl (Fin.ext h3)))
  · exact Or.inr (Or.inr (Or.inr ⟨⟨s.val - 209, by omega⟩, Fin.ext (by dsimp only; omega)⟩))

theorem key_cases (s : Fin 273) : (∃ i : Fin 16, s = ⟨i.val, by omega⟩) ∨ (∃ c : Fin 256, s = ⟨16 + c.val, by omega⟩)
    ∨ s = ⟨272, by decide⟩ := by
  by_cases h1 : s.val < 16
  · exact Or.inl ⟨⟨s.val, h1⟩, rfl⟩
  by_cases h2 : s.val < 272
  · exact Or.inr (Or.inl ⟨⟨s.val - 16, by omega⟩, Fin.ext (by dsimp only; omega)⟩)
  · exact Or.inr (Or.inr (Fin.ext (by dsimp only; omega)))

/-- The weighted mean over the slots of half `sb` (192 of the band, the leading tokens, the sink, the padding) is the
    weighted mean over the whole band, the leading tokens and the sink, the weights divided first. -/
theorem soft (sb : Fin 2) (A : Fin 256 → EReal) (B : Fin 16 → EReal) (C : EReal) (vb : Fin 256 → EReal) (vm : Fin 16 → EReal)
    (hA : ∀ c, A c = ⊥ ∨ ∃ r : ℝ, A c = r) (hB : ∀ i, ∃ r : ℝ, B i = r) (hC : ∃ r : ℝ, C = r)
    (hout : ∀ c : Fin 256, ¬ (64 * sb.val ≤ c.val ∧ c.val < 64 * sb.val + 192) → A c = ⊥)
    (σ ν ο : Fin 256 → EReal) (ρ : Fin 273 → EReal)
    (σ1 : ∀ s : Fin 192, σ ⟨s.val, by omega⟩ = A ⟨s.val + 64 * sb.val, by omega⟩)
    (σ2 : ∀ i : Fin 16, σ ⟨192 + i.val, by omega⟩ = B i) (σ3 : σ ⟨208, by decide⟩ = C)
    (σ4 : ∀ p : Fin 47, σ ⟨209 + p.val, by omega⟩ = ⊥)
    (ν1 : ∀ s : Fin 192, A ⟨s.val + 64 * sb.val, by omega⟩ ≠ ⊥ → ν ⟨s.val, by omega⟩ = vb ⟨s.val + 64 * sb.val, by omega⟩)
    (ν2 : ∀ i : Fin 16, ν ⟨192 + i.val, by omega⟩ = vm i) (ν3 : ν ⟨208, by decide⟩ = 0)
    (ο1 : ∀ s, ο s = 1)
    (ρ1 : ∀ i : Fin 16, ρ ⟨i.val, by omega⟩ = B i) (ρ2 : ∀ c : Fin 256, ρ ⟨16 + c.val, by omega⟩ = A c)
    (ρ3 : ρ ⟨272, by decide⟩ = C) (N Z : EReal) (hN : N = Finset.univ.fold max ⊥ ρ) (hZ : Z = ∑ k, Ideal.exp (ρ k - N)) :
    Ideal.div (∑ s, Ideal.exp (σ s - Finset.univ.fold max ⊥ σ) * ν s) (∑ s, Ideal.exp (σ s - Finset.univ.fold max ⊥ σ) * ο s)
      = (∑ i : Fin 16, vm i * Ideal.div (Ideal.exp (ρ ⟨i.val, by omega⟩ - N)) Z)
        + ∑ c : Fin 256, vb c * Ideal.div (Ideal.exp (ρ ⟨16 + c.val, by omega⟩ - N)) Z := by
  have hM : Finset.univ.fold max ⊥ σ = N := by
    rw [hN, fold_sup, fold_sup]
    refine le_antisymm (Finset.sup_le fun s _ => ?_) (Finset.sup_le fun k _ => ?_)
    · rcases slot_cases s with ⟨a, rfl⟩ | ⟨i, rfl⟩ | rfl | ⟨p, rfl⟩
      · rw [σ1, ← ρ2]; exact Finset.le_sup (f := ρ) (Finset.mem_univ _)
      · rw [σ2, ← ρ1]; exact Finset.le_sup (f := ρ) (Finset.mem_univ _)
      · rw [σ3, ← ρ3]; exact Finset.le_sup (f := ρ) (Finset.mem_univ _)
      · rw [σ4]; exact bot_le
    · rcases key_cases k with ⟨i, rfl⟩ | ⟨c, rfl⟩ | rfl
      · rw [ρ1, ← σ2]; exact Finset.le_sup (f := σ) (Finset.mem_univ _)
      · rw [ρ2]
        by_cases hc : 64 * sb.val ≤ c.val ∧ c.val < 64 * sb.val + 192
        · have e : c = ⟨(⟨c.val - 64 * sb.val, by omega⟩ : Fin 192).val + 64 * sb.val, by omega⟩ := Fin.ext (by dsimp only; omega)
          have h := σ1 ⟨c.val - 64 * sb.val, by omega⟩
          rw [← e] at h
          rw [← h]; exact Finset.le_sup (f := σ) (Finset.mem_univ _)
        · rw [hout c hc]; exact bot_le
      · rw [ρ3, ← σ3]; exact Finset.le_sup (f := σ) (Finset.mem_univ _)
  have hlt : ∀ k, ρ k < ⊤ := fun k => by
    rcases key_cases k with ⟨i, rfl⟩ | ⟨c, rfl⟩ | rfl
    · obtain ⟨r, h⟩ := hB i; rw [ρ1, h]; exact EReal.coe_lt_top r
    · rcases hA c with h | ⟨r, h⟩
      · rw [ρ2, h]; exact bot_lt_top
      · rw [ρ2, h]; exact EReal.coe_lt_top r
    · obtain ⟨r, h⟩ := hC; rw [ρ3, h]; exact EReal.coe_lt_top r
  have hNt : N ≠ ⊤ := by
    rw [hN, fold_sup]
    exact ((Finset.sup_lt_iff bot_lt_top).2 fun k _ => hlt k).ne
  have hNb : N ≠ ⊥ := by
    rw [hN, fold_sup]
    have h : C ≤ Finset.univ.sup ρ := by rw [← ρ3]; exact Finset.le_sup (f := ρ) (Finset.mem_univ _)
    obtain ⟨r, hr⟩ := hC
    rw [hr] at h
    exact (lt_of_lt_of_le (EReal.bot_lt_coe r) h).ne'
  obtain ⟨μ, rfl⟩ : ∃ μ : ℝ, N = μ := ⟨N.toReal, (EReal.coe_toReal hNt hNb).symm⟩
  rw [hM]
  have E0 : Ideal.exp ((⊥ : EReal) - (μ : EReal)) = 0 := by rw [EReal.bot_sub]; exact Ideal.exp_bot
  have Er : ∀ x : EReal, (x = ⊥ ∨ ∃ r : ℝ, x = r) → ∃ t : ℝ, 0 ≤ t ∧ Ideal.exp (x - (μ : EReal)) = t := by
    rintro x (rfl | ⟨r, rfl⟩)
    · exact ⟨0, le_rfl, by rw [E0]; rfl⟩
    · exact ⟨Real.exp (r - μ), (Real.exp_pos _).le, by rw [← EReal.coe_sub, Ideal.exp_coe]⟩
  have hσ : ∀ s, σ s = ⊥ ∨ ∃ r : ℝ, σ s = r := fun s => by
    rcases slot_cases s with ⟨a, rfl⟩ | ⟨i, rfl⟩ | rfl | ⟨p, rfl⟩
    · rw [σ1]; exact hA _
    · rw [σ2]; exact Or.inr (hB i)
    · rw [σ3]; exact Or.inr hC
    · exact Or.inl (σ4 p)
  -- the two denominators
  have hband : ∀ g : Fin 256 → EReal, (∀ c, A c = ⊥ → g c = 0) →
      (∑ s : Fin 192, g ⟨s.val + 64 * sb.val, by omega⟩) = ∑ c, g c := fun g hg => by
    refine Fintype.sum_of_injective (fun s : Fin 192 => (⟨s.val + 64 * sb.val, by omega⟩ : Fin 256)) (fun a b h => Fin.ext ?_) _ _
      (fun c hc => hg c (hout c fun h => hc ⟨⟨c.val - 64 * sb.val, by omega⟩, Fin.ext ?_⟩)) (fun s => rfl)
    · have := congrArg Fin.val h; dsimp only at this; omega
    · dsimp only; omega
  have hD : (∑ s, Ideal.exp (σ s - (μ : EReal)) * ο s) = Z := by
    simp only [ο1, mul_one]
    rw [hZ, split_slots, split_keys]
    simp only [σ1, σ2, σ3, σ4, ρ1, ρ2, ρ3, E0, Finset.sum_const_zero, add_zero]
    rw [hband (fun c => Ideal.exp (A c - (μ : EReal))) (fun c hc => by rw [hc, E0]), ← add_assoc, ← add_assoc,
      add_comm (∑ c : Fin 256, _) (∑ i : Fin 16, _)]
  rw [hD]
  obtain ⟨t, ht⟩ := Classical.axiomOfChoice fun s => Er (σ s) (hσ s)
  have hZr : Z = ((∑ s, t s : ℝ) : EReal) := by
    rw [← hD, ← coe_sum]
    exact Finset.sum_congr rfl fun s _ => by rw [ο1, mul_one, (ht s).2]
  have hpos : 0 < ∑ s, t s := by
    refine Finset.sum_pos' (fun s _ => (ht s).1) ⟨⟨208, by decide⟩, Finset.mem_univ _, ?_⟩
    obtain ⟨r, hr⟩ := hC
    have h := (ht ⟨208, by decide⟩).2
    rw [σ3, hr, ← EReal.coe_sub, Ideal.exp_coe] at h
    rw [← EReal.coe_eq_coe_iff.1 h]
    exact Real.exp_pos _
  rw [hZr]
  simp only [Ideal.div_coe hpos.ne']
  rw [sum_mul _ _ _ (by positivity), split_slots]
  simp only [σ2, σ3, σ4, ν2, ν3, ρ1, ρ2, E0, mul_zero, zero_mul, Finset.sum_const_zero, add_zero]
  rw [add_comm]
  refine congrArg₂ (· + ·) (Finset.sum_congr rfl fun i _ => ?_) ?_
  · rw [mul_comm (Ideal.exp _) (vm i), mul_assoc]
  · rw [← hband (fun c => vb c * (Ideal.exp (A c - (μ : EReal)) * ((1 / ∑ s, t s : ℝ) : EReal)))
      (fun c hc => by rw [hc, E0, zero_mul, mul_zero])]
    refine Finset.sum_congr rfl fun s _ => ?_
    rw [σ1]
    by_cases h : A ⟨s.val + 64 * sb.val, by omega⟩ = ⊥
    · rw [h, E0]; simp only [zero_mul, mul_zero]
    · rw [ν1 s h, mul_comm (Ideal.exp _) (vb _), mul_assoc]

end Cert.Attn
-- ==== Proof.Attn.RefB.lean ====
module

public import proofs.«01_k».proof.Proof.Attn.RefA
public import Idealize.ShloMosaic.Lib.Pointwise
public import Idealize.ShloMosaic.Lib.WordCmp

@[expose] public section

set_option maxRecDepth 16384
noncomputable section
open Idealize.ShloMosaic Idealize.ShloMosaic.TcCoe Idealize.SL.Sem
namespace Cert.ReferenceIdeal.Attn
open Cert.ReferenceIdeal Cert.ReferenceIdeal.Gen Cert.ReferenceIdeal.Read
open Cert.KernelIdeal.Attn (BK dist inw)

variable (x0 : FVec Ideal S2x16384x2048 .f32) (x1 x2 : FVec Ideal S2x16384x4x64 .f32) (x3 x4 : FVec Ideal S16x4x64 .f32)
  (x5 : FVec Ideal S32x32 .f32) (x6 : FVec Ideal S32 .f32)

theorem ninf : Ideal.ofBits FTy.f32 4286578688#32 = ⊥ := by simp [Ideal.ofBits, Ideal.ieee]
theorem zero32 : Ideal.ofBits FTy.f32 0#32 = 0 := by simp [Ideal.ofBits, Ideal.ieee]

theorem v114_at (b : Fin 2) (n : Fin 128) (h : Fin 4) (g : Fin 8) (i : Fin 128) (p : Fin 16) :
    val_main_v114 (F := Ideal) x0 x3 x5 (ix6 b n h g i p) =
      (∑ k : Fin 64, x3 (ix3 p h k) * val_main_v11 (F := Ideal) x0 (ix6 b n i h g k)) + val_main_v113 (F := Ideal) x5 (ix6 b n h g i p) := by
  unfold val_main_v114 val_main_v84 val_main_v83
  generalize val_main_v11 (F := Ideal) x0 = y
  generalize val_main_v113 (F := Ideal) x5 = z
  pointwise []

theorem v119_at (b : Fin 2) (n : Fin 128) (h : Fin 4) (g : Fin 8) (i : Fin 128) (j : Fin 256) :
    val_main_v119 (F := Ideal) x0 x1 x5 (ix6 b n h g i j) =
      (∑ k : Fin 64, val_main_v7 (F := Ideal) x1 (ix5 b n j h k) * val_main_v11 (F := Ideal) x0 (ix6 b n i h g k)) + val_main_v58 (F := Ideal) x5 (ix4 h g i j) := by
  unfold val_main_v119 val_main_v116 val_main_v115 val_main_v118 val_main_v117
  generalize val_main_v11 (F := Ideal) x0 = y
  generalize val_main_v7 (F := Ideal) x1 = y1
  generalize val_main_v58 (F := Ideal) x5 = z
  pointwise []

theorem v121_at (b : Fin 2) (n : Fin 128) (h : Fin 4) (g : Fin 8) (i : Fin 128) (j : Fin 256) :
    val_main_v121 (F := Ideal) x0 x1 x5 (ix6 b n h g i j) =
      Scalar.select (val_main_v70 (F := Ideal) (ix3 n i j)) (val_main_v119 (F := Ideal) x0 x1 x5 (ix6 b n h g i j)) ⊥ := by
  unfold val_main_v121 val_main_call4_v1 val_main_v120
  generalize val_main_v119 (F := Ideal) x0 x1 x5 = y
  generalize val_main_v70 (F := Ideal) = z
  pointwise [val_main_call4_v2, val_main_call4_v0, val_main_cst_26]
  exact congrArg (Scalar.select _ _) ninf

theorem v125_m (b : Fin 2) (n : Fin 128) (h : Fin 4) (g : Fin 8) (i : Fin 128) (p : Fin 16) :
    val_main_v125 (F := Ideal) x0 x1 x3 x5 x6 (ix6 b n h g i ⟨p.val, by omega⟩) = val_main_v114 (F := Ideal) x0 x3 x5 (ix6 b n h g i p) := by
  unfold val_main_v125 val_main_v122
  generalize val_main_v114 (F := Ideal) x0 x3 x5 = y
  generalize val_main_v121 (F := Ideal) x0 x1 x5 = y1
  pointwise []
  rw [dif_pos (by omega)]

theorem v125_b (b : Fin 2) (n : Fin 128) (h : Fin 4) (g : Fin 8) (i : Fin 128) (j : Fin 256) :
    val_main_v125 (F := Ideal) x0 x1 x3 x5 x6 (ix6 b n h g i ⟨16 + j.val, by omega⟩) = val_main_v121 (F := Ideal) x0 x1 x5 (ix6 b n h g i j) := by
  unfold val_main_v125 val_main_v122
  generalize val_main_v114 (F := Ideal) x0 x3 x5 = y
  generalize val_main_v121 (F := Ideal) x0 x1 x5 = y1
  pointwise []
  rw [dif_pos (by omega)]

theorem v125_s (b : Fin 2) (n : Fin 128) (h : Fin 4) (g : Fin 8) (i : Fin 128) :
    val_main_v125 (F := Ideal) x0 x1 x3 x5 x6 (ix6 b n h g i ⟨272, by omega⟩) = x6 (ix1 ⟨h.val * 8 + g.val, by omega⟩) := by
  unfold val_main_v125
  generalize val_main_v122 (F := Ideal) x0 x1 x3 x5 = y
  pointwise [val_main_v124, val_main_v123, val_main_v0]

theorem v126_at (b : Fin 2) (n : Fin 128) (h : Fin 4) (g : Fin 8) (i : Fin 128) :
    val_main_v126 (F := Ideal) x0 x1 x3 x5 x6 (ix5 b n h g i) =
      Finset.univ.fold max ⊥ fun k : Fin 273 => val_main_v125 (F := Ideal) x0 x1 x3 x5 x6 (ix6 b n h g i k) := by
  unfold val_main_v126
  generalize val_main_v125 (F := Ideal) x0 x1 x3 x5 x6 = y
  rw [Host.reduce_eq_fold_single _ _ _ reducesTo_S2x128x4x8x128x273_S2x128x4x8x128_d5 (by decide)]
  have e : val_main_cst_27 (F := Ideal) (Shape.Idx.first h_S_) = (⊥ : EReal) := ninf
  rw [e]
  refine congrArg (fun f => Finset.univ.fold max ⊥ f) (funext fun k : Fin 273 => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

theorem v128_at (b : Fin 2) (n : Fin 128) (h : Fin 4) (g : Fin 8) (i : Fin 128) :
    val_main_v128 (F := Ideal) x0 x1 x3 x5 x6 (ix5 b n h g i) = val_main_v126 (F := Ideal) x0 x1 x3 x5 x6 (ix5 b n h g i) := by
  have e : ∀ z, val_main_v127 (F := Ideal) z = (⊥ : EReal) := fun z => by rw [val_main_v127_apply]; exact ninf
  rw [val_main_v128_apply, e]
  exact bot_sup_eq _

theorem v132_at (b : Fin 2) (n : Fin 128) (h : Fin 4) (g : Fin 8) (i : Fin 128) (k : Fin 273) :
    val_main_v132 (F := Ideal) x0 x1 x3 x5 x6 (ix6 b n h g i k) =
      Ideal.exp (val_main_v125 (F := Ideal) x0 x1 x3 x5 x6 (ix6 b n h g i k) - val_main_v126 (F := Ideal) x0 x1 x3 x5 x6 (ix5 b n h g i)) := by
  rw [← v128_at, val_main_v132_apply, val_main_v131_apply, val_main_v130_apply, val_main_v129_apply]
  generalize val_main_v125 (F := Ideal) x0 x1 x3 x5 x6 = y
  generalize val_main_v128 (F := Ideal) x0 x1 x3 x5 x6 = z
  have e : idx_main_v129 (idx_main_v130 (ix6 b n h g i k)) = ix5 b n h g i :=
    funext fun a => Fin.ext (by match a with | ⟨0, _⟩ => rfl | ⟨1, _⟩ => rfl | ⟨2, _⟩ => rfl | ⟨3, _⟩ => rfl | ⟨4, _⟩ => rfl)
  rw [e]
  rfl

theorem v136_at (b : Fin 2) (n : Fin 128) (h : Fin 4) (g : Fin 8) (i : Fin 128) (k : Fin 273) :
    val_main_v136 (F := Ideal) x0 x1 x3 x5 x6 (ix6 b n h g i k) =
      Ideal.div (val_main_v132 (F := Ideal) x0 x1 x3 x5 x6 (ix6 b n h g i k)) (∑ k : Fin 273, val_main_v132 (F := Ideal) x0 x1 x3 x5 x6 (ix6 b n h g i k)) := by
  rw [val_main_v136_apply, val_main_v135_apply, val_main_v134_apply, val_main_v133_apply]
  generalize val_main_v132 (F := Ideal) x0 x1 x3 x5 x6 = y
  have e0 : val_main_cst_29 (F := Ideal) (Shape.Idx.first h_S_) = (0 : EReal) := zero32
  rw [e0, zero_add]
  refine congrArg (Ideal.div _) (Finset.sum_congr rfl fun k' _ => congrArg y ?_)
  exact funext fun a => Fin.ext (by match a with | ⟨0, _⟩ => rfl | ⟨1, _⟩ => rfl | ⟨2, _⟩ => rfl | ⟨3, _⟩ => rfl | ⟨4, _⟩ => rfl | ⟨5, _⟩ => rfl)

set_option maxHeartbeats 1000000 in
theorem v144_at (b : Fin 2) (n i : Fin 128) (h : Fin 4) (g : Fin 8) (d : Fin 64) :
    val_main_v144 (F := Ideal) x0 x1 x2 x3 x4 x5 x6 (ix6 b n i h g d) =
      (∑ p : Fin 16, x4 (ix3 p h d) * val_main_v136 (F := Ideal) x0 x1 x3 x5 x6 (ix6 b n h g i ⟨p.val, by omega⟩))
      + ∑ j : Fin 256, val_main_v10 (F := Ideal) x2 (ix5 b n j h d) * val_main_v136 (F := Ideal) x0 x1 x3 x5 x6 (ix6 b n h g i ⟨16 + j.val, by omega⟩) := by
  unfold val_main_v144 val_main_v140 val_main_v139 val_main_v138 val_main_v143 val_main_v142 val_main_v141 val_main_v137
  generalize val_main_v136 (F := Ideal) x0 x1 x3 x5 x6 = y
  generalize val_main_v10 (F := Ideal) x2 = z
  pointwise []

theorem v146_at (R : Fin 32768) (j : Fin 2048) (b : Fin 2) (n i : Fin 128) (h : Fin 4) (g : Fin 8) (d : Fin 64)
    (hR : R.val = b.val * 16384 + (n.val * 128 + i.val)) (hj : j.val = h.val * 512 + (g.val * 64 + d.val)) :
    val_main_v146 (F := Ideal) x0 x1 x2 x3 x4 x5 x6 (ix2 R j) = val_main_v144 (F := Ideal) x0 x1 x2 x3 x4 x5 x6 (ix6 b n i h g d) := by
  unfold val_main_v146 val_main_v145
  generalize val_main_v144 (F := Ideal) x0 x1 x2 x3 x4 x5 x6 = y
  pointwise []
  have h1 : (⟨R.val / 16384, by omega⟩ : Fin 2) = b := Fin.ext (by dsimp only; omega)
  have h2 : (⟨R.val / 128 % 128, by omega⟩ : Fin 128) = n := Fin.ext (by dsimp only; omega)
  have h3 : (⟨R.val % 128, by omega⟩ : Fin 128) = i := Fin.ext (by dsimp only; omega)
  have h4 : (⟨j.val / 512, by omega⟩ : Fin 4) = h := Fin.ext (by dsimp only; omega)
  have h5 : (⟨j.val / 64 % 8, by omega⟩ : Fin 8) = g := Fin.ext (by dsimp only; omega)
  have h6 : (⟨j.val % 64, by omega⟩ : Fin 64) = d := Fin.ext (by dsimp only; omega)
  rw [h1, h2, h3, h4, h5, h6]

end Cert.ReferenceIdeal.Attn
-- ==== Proof.Attn.Real.lean ====
module

public import proofs.«01_k».proof.Defs
public import Idealize.ShloMosaic.Lib.ReduceAll
public import Idealize.ShloMosaic.Lib.Pointwise.ShapeOpsCore
public import proofs.«01_k».proof.Proof.Attn.RefB

@[expose] public section

set_option maxRecDepth 16384
noncomputable section
open Idealize.ShloMosaic Idealize.ShloMosaic.TcCoe Idealize.SL.Sem

/-! ## What the precondition says: the queries, the keys, the bias table and the sinks are real numbers -/

namespace Cert.Pre_finite.Attn
open Cert.Pre_finite

instance facts : Cert.Pre_finite.Facts where
  bcast_S_S2x16384x2048 := by decide
  reducesTo_S2x16384x2048_S_d0_1_2 := by decide
  h_S_ := by decide
  bcast_S_S2x16384x4x64 := by decide
  reducesTo_S2x16384x4x64_S_d0_1_2_3 := by decide
  bcast_S_S16x4x64 := by decide
  reducesTo_S16x4x64_S_d0_1_2 := by decide
  bcast_S_S32x32 := by decide
  reducesTo_S32x32_S_d0_1 := by decide
  bcast_S_S32 := by decide
  reducesTo_S32_S_d0 := by decide

instance : Subsingleton S_.Idx := ⟨fun a b => funext fun i => i.elim0⟩

theorem inf_lit : Ideal.ofBits FTy.f32 (2139095040#32) = (⊤ : EReal) := by
  simp [Ideal.ofBits, Ideal.ieee]

theorem real_of_lt (x : EReal) (h : Ideal.cmp .olt (max x (-x)) (Ideal.ofBits FTy.f32 (2139095040#32)) = 1#1) : ∃ r : ℝ, x = r := by
  rw [inf_lit] at h
  induction x with
  | bot => exfalso; revert h; simp [Ideal.cmp]
  | top => exfalso; revert h; simp [Ideal.cmp]
  | coe r => exact ⟨r, rfl⟩

theorem real_args (x0 : FVec Ideal S2x16384x2048 .f32) (x1 x2 : FVec Ideal S2x16384x4x64 .f32) (x3 x4 : FVec Ideal S16x4x64 .f32)
    (x5 : FVec Ideal S32x32 .f32) (x6 : FVec Ideal S32 .f32)
    (h : Cert.Pre_finite.fn (F := Ideal) x0 x1 x2 x3 x4 x5 x6 = fun _ => 1#1) :
    (∀ y, ∃ r : ℝ, (x0 y : EReal) = r) ∧ (∀ y, ∃ r : ℝ, (x1 y : EReal) = r) ∧ (∀ y, ∃ r : ℝ, (x3 y : EReal) = r)
      ∧ (∀ y, ∃ r : ℝ, (x5 y : EReal) = r) ∧ ∀ y, ∃ r : ℝ, (x6 y : EReal) = r := by
  have pre := congrFun h ix0
  simp only [Cert.Pre_finite.fn, Cert.Pre_finite.fn_part1] at pre
  obtain ⟨pre, p6⟩ := IntOp.andi_eq_one.1 pre
  obtain ⟨pre, p5⟩ := IntOp.andi_eq_one.1 pre
  obtain ⟨pre, p3⟩ := IntOp.andi_eq_one.1 pre
  obtain ⟨p0, p1⟩ := IntOp.andi_eq_one.1 pre
  refine ⟨fun y => real_of_lt _ (Host.reduce_andi_all _ _ _ _ _ p0 y), fun y => real_of_lt _ (Host.reduce_andi_all _ _ _ _ _ p1 y),
    fun y => real_of_lt _ (Host.reduce_andi_all _ _ _ _ _ p3 y), fun y => real_of_lt _ (Host.reduce_andi_all _ _ _ _ _ p5 y),
    fun y => real_of_lt _ (Host.reduce_andi_all _ _ _ _ _ p6 y)⟩

end Cert.Pre_finite.Attn

namespace Cert.ReferenceIdeal.Attn
open Cert.ReferenceIdeal Cert.ReferenceIdeal.Gen Cert.ReferenceIdeal.Read

theorem real_sum {n : Nat} (f : Fin n → EReal) (h : ∀ k, ∃ r : ℝ, f k = r) : ∃ r : ℝ, ∑ k, f k = r := by
  refine Finset.sum_induction f (fun x : EReal => ∃ r : ℝ, x = r) ?_ ⟨0, rfl⟩ fun k _ => h k
  rintro _ _ ⟨a, rfl⟩ ⟨b, rfl⟩
  exact ⟨a + b, (EReal.coe_add a b).symm⟩

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

variable (x0 : FVec Ideal S2x16384x2048 .f32) (x1 x2 : FVec Ideal S2x16384x4x64 .f32) (x3 x4 : FVec Ideal S16x4x64 .f32)
    (x5 : FVec Ideal S32x32 .f32) (x6 : FVec Ideal S32 .f32)

theorem band_real (h1 : ∀ y, ∃ r : ℝ, (x1 y : EReal) = r) (b : Fin 2) (n : Fin 128) (h : Fin 4) (j : Fin 256) (k : Fin 64) :
    ∃ r : ℝ, BAND x1 b n h j k = r := by
  unfold BAND
  split
  · exact ⟨0, rfl⟩
  · exact h1 _

variable (h0 : ∀ y, ∃ r : ℝ, (x0 y : EReal) = r) (h1 : ∀ y, ∃ r : ℝ, (x1 y : EReal) = r) (h3 : ∀ y, ∃ r : ℝ, (x3 y : EReal) = r)
  (h5 : ∀ y, ∃ r : ℝ, (x5 y : EReal) = r)

include h0 h3 h5 in
theorem v114_real (b : Fin 2) (n : Fin 128) (h : Fin 4) (g : Fin 8) (i : Fin 128) (p : Fin 16) :
    ∃ r : ℝ, (val_main_v114 (F := Ideal) x0 x3 x5 (ix6 b n h g i p) : EReal) = r := by
  rw [v114_at, v113_at x5 b n i p _ rfl h g]
  refine real_add (real_sum _ fun k => real_mul (h3 _) ?_) (h5 _)
  rw [v11_at]
  exact h0 _

include h0 h1 h5 in
theorem v119_real (b : Fin 2) (n : Fin 128) (h : Fin 4) (g : Fin 8) (i : Fin 128) (j : Fin 256) :
    ∃ r : ℝ, (val_main_v119 (F := Ideal) x0 x1 x5 (ix6 b n h g i j) : EReal) = r := by
  rw [v119_at, v58_at x5 i j _ rfl h g]
  refine real_add (real_sum _ fun k => real_mul ?_ ?_) (h5 _)
  · rw [v7_at]
    exact band_real x1 h1 _ _ _ _ _
  · rw [v11_at]
    exact h0 _

end Cert.ReferenceIdeal.Attn
-- ==== Proof.Attn.Alg.lean ====
module

public import proofs.«01_k».proof.Proof.Attn.Glob
public import proofs.«01_k».proof.Proof.Attn.Soft
public import proofs.«01_k».proof.Proof.Attn.Real
public import proofs.«01_k».proof.Proof.Gen.KernelIdeal.Frame
public import proofs.«01_k».proof.Proof.Gen.ReferenceIdeal.Run
public import proofs.«01_k».proof.Defs
public import Idealize.ShloMosaic.Lib.Claim

@[expose] public section

set_option maxRecDepth 16384
noncomputable section
open Idealize.ShloMosaic Idealize.ShloMosaic.TcCoe Idealize.SL.Sem
namespace Cert.KernelIdeal.Attn
open Cert.KernelIdeal Cert.KernelIdeal.Gen Cert.ReferenceIdeal.Read Cert.ReferenceIdeal.Attn
variable (m : (ℓ : Loc nD τ sig) → Buf (Elt Ideal) ℓ)

/-! ## The arguments -/

abbrev A0 (c : Dev nD) : FVec Ideal S2x16384x2048 .f32 := m (c.tc.loc main_arg0)
abbrev A1 (c : Dev nD) : FVec Ideal S2x16384x4x64 .f32 := m (c.tc.loc main_arg1)
abbrev A2 (c : Dev nD) : FVec Ideal S2x16384x4x64 .f32 := m (c.tc.loc main_arg2)
abbrev A3 (c : Dev nD) : FVec Ideal S16x4x64 .f32 := m (c.tc.loc main_arg3)
abbrev A4 (c : Dev nD) : FVec Ideal S16x4x64 .f32 := m (c.tc.loc main_arg4)

/-- The reference's bias of a window key is the kernel's. -/
theorem wbias (c : Dev nD) (h : Fin 4) (g : Fin 8) (i : Fin 128) (j : Fin 256) :
    val_main_v58 (F := Ideal) (A5 m c) (ix4 h g i j) = pick (A5 m c) ⟨h.val * 8 + g.val, by omega⟩ (BK (IntOp.maxsi (dist i j) 0#32)) := by
  have hm := maxd i j
  exact (v58_at (A5 m c) i j _ (v55_at i j) h g).trans (pick_eq (A5 m c) _ _ hm.1 hm.2).symm

/-- The reference's bias of a leading token is the kernel's. -/
theorem mbias (c : Dev nD) (b : Fin 2) (n i : Fin 128) (h : Fin 4) (g : Fin 8) (p : Fin 16) :
    val_main_v113 (F := Ideal) (A5 m c) (ix6 b n h g i p) = mb (om n) (A5 m c) ⟨h.val * 8 + g.val, by omega⟩ i p := by
  have hd := dm_int n i p
  have hm := BK_range (dm n i p) (by rw [hd]; omega) (by rw [hd]; omega)
  unfold mb
  rw [mbk]
  exact (v113_at (A5 m c) b n i p _ (v108_at n i p) h g).trans (pick_eq (A5 m c) _ _ hm.1 hm.2).symm

section
variable (c : Dev nD) (t : Fin cfg0.N) (b : Fin 2) (n i : Fin 128) (h : Fin 4) (g : Fin 8) (ht : t.val = b.val * 128 + n.val)
  (sb : Fin 2) (r : Fin 512) (hsb : sb.val = i.val / 64) (hr : r.val = g.val * 64 + i.val % 64)

abbrev Sc (s : Fin 256) : EReal := SC (iblk m c 0 t) (iblk m c 1 t) (iblk m c 2 t) (iblk m c 5 t) (iblk m c 7 t) h sb r s

include ht hsb hr in
/-- A slot's score over the arguments: the products of the query's lanes, and the slot's table entry. -/
theorem sc_at (s : Fin 256) : Sc m c t h sb r s =
    (∑ k : Fin 64, A0 m c (ix3 b ⟨n.val * 128 + i.val, by omega⟩ ⟨h.val * 512 + (g.val * 64 + k.val), by omega⟩)
      * KF (iblk m c 1 t) (iblk m c 2 t) (iblk m c 5 t) h sb s k)
    + slot (wb (ow n) (A5 m c)) (mb (om n) (A5 m c)) (fun h => A6 m c (ix1 h)) h sb r s := by
  unfold Sc SC
  rw [t_blk m c t b n ht h sb r s]
  refine congrArg (· + _) (Finset.sum_congr rfl fun k _ => congrArg (· * _) ?_)
  have e1 : (⟨64 * sb.val + r.val % 64, by omega⟩ : Fin 128) = i := Fin.ext (by dsimp only; omega)
  have e2 : (⟨h.val * 512 + (r.val / 64 * 64 + k.val), by omega⟩ : Fin 2048) = ⟨h.val * 512 + (g.val * 64 + k.val), by omega⟩ :=
    Fin.ext (by dsimp only; omega)
  rw [e1, e2]
  exact q_blk m c t b n i ht _

include ht hsb hr in
/-- A window slot's score is the reference's. -/
theorem sc_w (s : Fin 256) (hs : s.val < 192) (cc : Fin 256) (hcc : cc.val = s.val + 64 * sb.val) :
    Sc m c t h sb r s = val_main_v121 (F := Ideal) (A0 m c) (A1 m c) (A5 m c) (ix6 b n h g i cc) := by
  rw [sc_at m c t b n i h g ht sb r hsb hr, v121_at, v70_at, slot_w _ _ _ h sb r s g i hsb hr hs cc hcc]
  unfold wb
  rw [msk]
  by_cases hm : IntOp.andi (inw i cc) (IntOp.cmpi .sge (IntOp.addi (IntOp.muli (BitVec.ofNat 32 n.val) 128#32) (BitVec.ofNat 32 cc.val)) 128#32) = 1#1
  · have hv : 128 ≤ n.val * 128 + cc.val := (msk_iff n cc).1 (and_one.1 hm).2
    rw [hm]
    show _ + pick _ _ _ = val_main_v119 (F := Ideal) _ _ _ _
    rw [v119_at, wbias]
    refine congrArg (· + _) (Finset.sum_congr rfl fun k _ => ?_)
    rw [v7_at, v11_at, k_blk m c t b n ht h sb s hs k cc hcc hv]
    exact mul_comm _ _
  · have hz : IntOp.andi (inw i cc) (IntOp.cmpi .sge (IntOp.addi (IntOp.muli (BitVec.ofNat 32 n.val) 128#32) (BitVec.ofNat 32 cc.val)) 128#32) = 0#1 :=
      (BitVec.eq_zero_or_eq_one _).resolve_right hm
    rw [hz]
    exact EReal.add_bot _

include ht hsb hr in
/-- A leading token's slot. -/
theorem sc_m (s : Fin 256) (p : Fin 16) (hs : s.val = 192 + p.val) :
    Sc m c t h sb r s = val_main_v114 (F := Ideal) (A0 m c) (A3 m c) (A5 m c) (ix6 b n h g i p) := by
  rw [sc_at m c t b n i h g ht sb r hsb hr, v114_at, slot_m _ _ _ h sb r s g i hsb hr p hs, mbias]
  refine congrArg (· + _) (Finset.sum_congr rfl fun k _ => ?_)
  rw [v11_at, km_blk m c t h sb s p hs k]
  exact mul_comm _ _

include ht hsb hr in
theorem sc_0 (s : Fin 256) (hs : 208 ≤ s.val) :
    Sc m c t h sb r s = slot (wb (ow n) (A5 m c)) (mb (om n) (A5 m c)) (fun h => A6 m c (ix1 h)) h sb r s := by
  rw [sc_at m c t b n i h g ht sb r hsb hr, Finset.sum_eq_zero fun k _ => by rw [k0_blk m c t h sb s hs k, mul_zero], zero_add]

/-- A key outside the half's slots is masked. -/
theorem out_w (hsb : sb.val = i.val / 64) (cc : Fin 256) (hc : ¬ (64 * sb.val ≤ cc.val ∧ cc.val < 64 * sb.val + 192)) :
    val_main_v121 (F := Ideal) (A0 m c) (A1 m c) (A5 m c) (ix6 b n h g i cc) = (⊥ : EReal) := by
  have hn : ¬ inw i cc = 1#1 := by rw [inw_iff]; omega
  have hm : IntOp.andi (inw i cc) (IntOp.cmpi .sge (IntOp.addi (IntOp.muli (BitVec.ofNat 32 n.val) 128#32) (BitVec.ofNat 32 cc.val)) 128#32) = 0#1 :=
    (BitVec.eq_zero_or_eq_one _).resolve_right fun e => hn (and_one.1 e).1
  rw [v121_at, v70_at, hm]
  rfl

theorem valid_w (cc : Fin 256) (hc : (val_main_v121 (F := Ideal) (A0 m c) (A1 m c) (A5 m c) (ix6 b n h g i cc) : EReal) ≠ ⊥) :
    128 ≤ n.val * 128 + cc.val := by
  by_contra hv
  refine hc ?_
  have hm : IntOp.andi (inw i cc) (IntOp.cmpi .sge (IntOp.addi (IntOp.muli (BitVec.ofNat 32 n.val) 128#32) (BitVec.ofNat 32 cc.val)) 128#32) = 0#1 :=
    (BitVec.eq_zero_or_eq_one _).resolve_right fun e => hv ((msk_iff n cc).1 (and_one.1 e).2)
  rw [v121_at, v70_at, hm]
  rfl

variable (h0 : ∀ y, ∃ r : ℝ, (A0 m c y : EReal) = r) (h1 : ∀ y, ∃ r : ℝ, (A1 m c y : EReal) = r) (h3 : ∀ y, ∃ r : ℝ, (A3 m c y : EReal) = r)
  (h5 : ∀ y, ∃ r : ℝ, (A5 m c y : EReal) = r) (h6 : ∀ y, ∃ r : ℝ, (A6 m c y : EReal) = r)

include h0 h1 h5 in
theorem real_w (cc : Fin 256) : (val_main_v121 (F := Ideal) (A0 m c) (A1 m c) (A5 m c) (ix6 b n h g i cc) : EReal) = ⊥
    ∨ ∃ r : ℝ, (val_main_v121 (F := Ideal) (A0 m c) (A1 m c) (A5 m c) (ix6 b n h g i cc) : EReal) = r := by
  rw [v121_at]
  rcases BitVec.eq_zero_or_eq_one (Cert.ReferenceIdeal.Read.val_main_v70 (F := Ideal) (ix3 n i cc)) with e | e
  · rw [e]; exact Or.inl rfl
  · rw [e]; exact Or.inr (v119_real _ _ _ h0 h1 h5 b n h g i cc)

include ht hsb hr h0 h1 h3 h5 h6 in
/-- The block's output is the reference's. -/
theorem uo_eq (d : Fin 64) :
    UO (iblk m c 0 t) (iblk m c 1 t) (iblk m c 2 t) (iblk m c 3 t) (iblk m c 4 t) (iblk m c 5 t) (iblk m c 6 t) (iblk m c 7 t) h sb r d =
      val_main_v144 (F := Ideal) (A0 m c) (A1 m c) (A2 m c) (A3 m c) (A4 m c) (A5 m c) (A6 m c) (ix6 b n i h g d) := by
  have hS := Cert.Attn.soft sb (fun cc => val_main_v121 (F := Ideal) (A0 m c) (A1 m c) (A5 m c) (ix6 b n h g i cc))
    (fun p => val_main_v114 (F := Ideal) (A0 m c) (A3 m c) (A5 m c) (ix6 b n h g i p)) (A6 m c (ix1 ⟨h.val * 8 + g.val, by omega⟩))
    (fun cc => BAND (A2 m c) b n h cc d) (fun p => A4 m c (ix3 p h d))
    (fun cc => real_w m c b n i h g h0 h1 h5 cc) (fun p => v114_real _ _ _ h0 h3 h5 b n h g i p) (h6 _)
    (fun cc hc => out_w m c b n i h g sb hsb cc hc)
    (fun s => Sc m c t h sb r s) (fun s => VF (iblk m c 3 t) (iblk m c 4 t) (iblk m c 6 t) h sb s ⟨d.val, by omega⟩)
    (fun s => VF (iblk m c 3 t) (iblk m c 4 t) (iblk m c 6 t) h sb s ⟨128 + d.val, by omega⟩)
    (fun k => val_main_v125 (F := Ideal) (A0 m c) (A1 m c) (A3 m c) (A5 m c) (A6 m c) (ix6 b n h g i k))
    (fun s => sc_w m c t b n i h g ht sb r hsb hr _ s.isLt _ rfl)
    (fun p => sc_m m c t b n i h g ht sb r hsb hr _ p rfl)
    ((sc_0 m c t b n i h g ht sb r hsb hr _ (Nat.le_refl _)).trans (slot_s _ _ _ h sb r _ g i hsb hr rfl))
    (fun p => (sc_0 m c t b n i h g ht sb r hsb hr _ (by dsimp only; omega)).trans (slot_n _ _ _ h sb r _ (by dsimp only; omega)))
    (fun s hc => v_blk m c t b n ht h sb _ s.isLt d _ rfl (valid_w m c b n i h g _ hc))
    (fun p => vm_blk m c t h sb _ p rfl d)
    (v0_blk m c t h sb _ (Nat.le_refl _) d)
    (fun s => one_blk m c t h sb s d)
    (fun p => v125_m _ _ _ _ _ b n h g i p) (fun cc => v125_b _ _ _ _ _ b n h g i cc) (v125_s _ _ _ _ _ b n h g i)
    (val_main_v126 (F := Ideal) (A0 m c) (A1 m c) (A3 m c) (A5 m c) (A6 m c) (ix5 b n h g i))
    (∑ k : Fin 273, val_main_v132 (F := Ideal) (A0 m c) (A1 m c) (A3 m c) (A5 m c) (A6 m c) (ix6 b n h g i k))
    (v126_at _ _ _ _ _ b n h g i)
    (Finset.sum_congr rfl fun k _ => v132_at _ _ _ _ _ b n h g i k)
  refine Eq.trans ?_ (hS.trans ?_)
  · rfl
  · rw [v144_at]
    refine congrArg₂ (· + ·) (Finset.sum_congr rfl fun p _ => ?_) (Finset.sum_congr rfl fun cc _ => ?_)
    · rw [v136_at, v132_at]
    · rw [v136_at, v132_at, v10_at]

end

section
variable (c : Dev nD) (h0 : ∀ y, ∃ r : ℝ, (A0 m c y : EReal) = r) (h1 : ∀ y, ∃ r : ℝ, (A1 m c y : EReal) = r) (h3 : ∀ y, ∃ r : ℝ, (A3 m c y : EReal) = r)
  (h5 : ∀ y, ∃ r : ℝ, (A5 m c y : EReal) = r) (h6 : ∀ y, ∃ r : ℝ, (A6 m c y : EReal) = r)

include h0 h1 h3 h5 h6 in
/-- The kernel's value is the reference's. -/
theorem res_eq (R : Fin 32768) (j : Fin 2048) :
    val_main_v146 (F := Ideal) (A0 m c) (A1 m c) (A2 m c) (A3 m c) (A4 m c) (A5 m c) (A6 m c) (ix2 R j) =
      UOt m c ⟨R.val / 128, by have h := R.isLt; show R.val / 128 < 256; omega⟩ ⟨R.val % 128, by omega⟩ j := by
  have e := v146_at (A0 m c) (A1 m c) (A2 m c) (A3 m c) (A4 m c) (A5 m c) (A6 m c) R j ⟨R.val / 16384, by omega⟩ ⟨R.val % 16384 / 128, by omega⟩ ⟨R.val % 128, by omega⟩
    ⟨j.val / 512, by omega⟩ ⟨j.val % 512 / 64, by omega⟩ ⟨j.val % 64, by omega⟩ (by dsimp only; omega) (by dsimp only; omega)
  rw [e]
  exact (uo_eq m c ⟨R.val / 128, by have h := R.isLt; show R.val / 128 < 256; omega⟩ ⟨R.val / 16384, by omega⟩ ⟨R.val % 16384 / 128, by omega⟩ ⟨R.val % 128, by omega⟩
    ⟨j.val / 512, by omega⟩ ⟨j.val % 512 / 64, by omega⟩ (by dsimp only; omega) ⟨R.val % 128 / 64, by omega⟩
    ⟨j.val % 512 / 64 * 64 + R.val % 128 % 64, by omega⟩ rfl rfl h0 h1 h3 h5 h6 ⟨j.val % 64, by omega⟩).symm

theorem ext2 {f f' : S32768x2048.Idx → EReal} (e : ∀ R j, f (ix2 R j) = f' (ix2 R j)) : f = f' := by
  funext y
  have hy : y = ix2 (y 0) (y 1) := funext fun a => by fin_cases a <;> rfl
  rw [hy]
  exact e _ _

include h0 h1 h3 h5 h6 in
theorem res_fun : val_main_v146 (F := Ideal) (A0 m c) (A1 m c) (A2 m c) (A3 m c) (A4 m c) (A5 m c) (A6 m c) = (dats m 0 c).arrAt 8 (cfgs 0).N :=
  ext2 fun R j => (res_eq m c h0 h1 h3 h5 h6 R j).trans (final m c R j).symm
end

theorem value : Cert.algebraic_KernelIdeal_ReferenceIdeal_pre_finite := by
  pair_intro
  · run_from Cert.KernelIdeal.Gen.run_main m g
    · exact V_main_arg0 m c
    · exact V_main_arg1 m c
    · exact V_main_arg2 m c
    · exact V_main_arg3 m c
    · exact V_main_arg4 m c
    · exact V_main_arg5 m c
    · exact V_main_arg6 m c
  · refine (θ_run Cert.ReferenceIdeal.defs _ _).mono (fun r hr c => ⟨?_, (hr c).2⟩) (Cert.ReferenceIdeal.Value.run m' g')
    obtain ⟨h0, h1, h3, h5, h6⟩ := Cert.Pre_finite.Attn.real_args _ _ _ _ _ _ _ (hpre c)
    obtain ⟨a0, a1, a2, a3, a4, a5, a6⟩ := hagree c
    refine (hr c).1.trans ((Cert.ReferenceIdeal.Read.val_main_v146_eq (StableHlo.launchContents m' c)).trans ?_)
    show val_main_v146 (F := Ideal) (m' (c.tc.loc Cert.ReferenceIdeal.main_arg0)) (m' (c.tc.loc Cert.ReferenceIdeal.main_arg1))
      (m' (c.tc.loc Cert.ReferenceIdeal.main_arg2)) (m' (c.tc.loc Cert.ReferenceIdeal.main_arg3)) (m' (c.tc.loc Cert.ReferenceIdeal.main_arg4))
      (m' (c.tc.loc Cert.ReferenceIdeal.main_arg5)) (m' (c.tc.loc Cert.ReferenceIdeal.main_arg6)) = _
    rw [a0, a1, a2, a3, a4, a5, a6]
    exact res_fun m c h0 h1 h3 h5 h6

end Cert.KernelIdeal.Attn
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.KernelIdeal.Value
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Ffn.Alg
public import proofs.«01_k».proof.Proof.Oproj.Alg
public import proofs.«01_k».proof.Proof.ConvIn.Alg
public import proofs.«01_k».proof.Proof.Qkv.Alg
public import proofs.«01_k».proof.Proof.Attn.Alg
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference of the attention runs and leaves its arguments. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

/-- The reference of the feed-forward part runs and leaves its arguments. -/
theorem frame_reference2 : Cert.quiescent_Reference2Ideal := fun m ρ _ =>
  (θ_run Cert.Reference2Ideal.defs _ _).mono
    (fun r h => ⟨fun c => (h c).2, Idealize.ShloMosaic.sem_eq_zero_of_no_sems (by decide) r.2⟩) (Cert.Reference2Ideal.Value.run m ρ)

/-- The reference of the attention's output projection runs and leaves its arguments. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩) (Cert.Reference3Ideal.Value.run m ρ)

/-- The reference of the convolution module's first projection runs and leaves its arguments. -/
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩) (Cert.Reference4Ideal.Value.run m ρ)

/-- The reference of the query, key and value projections runs and leaves its arguments. -/
theorem frame_reference5 : Cert.quiescent_Reference5Ideal := fun m ρ _ =>
  (θ_run Cert.Reference5Ideal.defs _ _).mono
    (fun r h => ⟨fun c => (h c).2.2.2, Idealize.ShloMosaic.sem_eq_zero_of_no_sems (by decide) r.2⟩) (Cert.Reference5Ideal.Value.run m ρ)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Attn.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    trivial, Cert.KernelIdeal.Attn.value, trivial, Cert.Kernel2Ideal.Ffn.value, trivial, Cert.Kernel3Ideal.Oproj.value,
    trivial, Cert.Kernel4Ideal.ConvIn.value, trivial, Cert.Kernel5Ideal.Qkv.value⟩

end Cert.Proof

end
